-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_windows [hPre_windows : Cert.Pre_windows.Facts] (m : (ℓ : Loc Cert.KernelIdeal.nD Cert.KernelIdeal.τ Cert.KernelIdeal.sig) → Buf (Elt Ideal) ℓ) : Prop :=
  ∀ c : Dev Cert.KernelIdeal.nD,
    (Cert.Pre_windows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_windows [hPre_windows : Cert.Pre_windows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_windows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_windows [hKernelIdeal : Cert.KernelIdeal.Facts] [hPre_windows : Cert.Pre_windows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_windows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_windows [hReferenceIdeal : Cert.ReferenceIdeal.Facts] [hPre_windows : Cert.Pre_windows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_windows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_windows [hKernelIdeal : Cert.KernelIdeal.Facts] [hReferenceIdeal : Cert.ReferenceIdeal.Facts] [hPre_windows : Cert.Pre_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_windows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_windows : Cert.Pre_windows.Facts),
    quiescent_Kernel (hKernel := hKernel)
    ∧ quiescent_KernelIdeal (hKernelIdeal := hKernelIdeal)
    ∧ quiescent_KernelIdeal_pre_windows (hKernelIdeal := hKernelIdeal) (hPre_windows := hPre_windows)
    ∧ quiescent_ReferenceIdeal (hReferenceIdeal := hReferenceIdeal)
    ∧ quiescent_ReferenceIdeal_pre_windows (hReferenceIdeal := hReferenceIdeal) (hPre_windows := hPre_windows)
    ∧ preserves_Kernel_KernelIdeal
    ∧ algebraic_KernelIdeal_ReferenceIdeal_pre_windows (hKernelIdeal := hKernelIdeal) (hReferenceIdeal := hReferenceIdeal) (hPre_windows := hPre_windows)
-- ==== Pre_windows.lean ====
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S96x128 : Shape := ⟨2, ![96, 128]⟩
abbrev S4x32 : Shape := ⟨2, ![4, 32]⟩
abbrev S800000 : Shape := ⟨1, ![800000]⟩
abbrev S50000 : Shape := ⟨1, ![50000]⟩
abbrev S_ : Shape := ⟨0, ![]⟩
abbrev S799999 : Shape := ⟨1, ![799999]⟩
abbrev S799744 : Shape := ⟨1, ![799744]⟩
abbrev S787497 : Shape := ⟨1, ![787497]⟩

class Facts : Prop where
  bcast_S_S800000x32 : S_.BroadcastsInDim S800000x32 (![] : Fin 0 → Fin S800000x32.rank)
  reducesTo_S800000x32_S_d0_1 : S800000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S96x128 : S_.BroadcastsInDim S96x128 (![] : Fin 0 → Fin S96x128.rank)
  reducesTo_S96x128_S_d0_1 : S96x128.ReducesTo [0, 1] S_
  bcast_S_S4x32 : S_.BroadcastsInDim S4x32 (![] : Fin 0 → Fin S4x32.rank)
  reducesTo_S4x32_S_d0_1 : S4x32.ReducesTo [0, 1] S_
  bcast_S_S800000 : S_.BroadcastsInDim S800000 (![] : Fin 0 → Fin S800000.rank)
  reducesTo_S800000_S_d0 : S800000.ReducesTo [0] S_
  slices_S800000_S799999_1 : S800000.Slices ![1] S799999
  slices_S800000_S799999_0 : S800000.Slices ![0] S799999
  reducesTo_S799999_S_d0 : S799999.ReducesTo [0] S_
  slices_S800000_S799744_256 : S800000.Slices ![256] S799744
  slices_S800000_S799744_0 : S800000.Slices ![0] S799744
  reducesTo_S799744_S_d0 : S799744.ReducesTo [0] S_
  slices_S800000_S787497_12503 : S800000.Slices ![12503] S787497
  slices_S800000_S787497_0 : S800000.Slices ![0] S787497
  bcast_S_S787497 : S_.BroadcastsInDim S787497 (![] : Fin 0 → Fin S787497.rank)
  reducesTo_S787497_S_d0 : S787497.ReducesTo [0] S_

variable [Facts]

def fn_part4 {F : FTy → Type} [FloatOps F] (main_arg11 : IVec S800000 32) (main_v53 : IVec S_ 1) (main_v60 : IVec S_ 1) (main_v64 : IVec S_ 1) (main_v67 : IVec S799744 1) (main_c_25 : IVec S_ 1) : IVec S_ 1 :=
  let main_v68 : IVec S_ 1 := (fun x v => Host.reduce IntOp.andi x v reducesTo_S799744_S_d0 h_S_) main_v67 main_c_25
  let main_v69 : IVec S787497 32 := (extractStridedSlice S787497 ![12503] · slices_S800000_S787497_12503) main_arg11
  let main_v70 : IVec S787497 32 := (extractStridedSlice S787497 ![0] · slices_S800000_S787497_0) main_arg11
  let main_v71 : IVec S787497 32 := subi main_v69 main_v70
  let main_c_26 : IVec S_ 32 := constantI S_ 32 2048#32
  let main_v72 : IVec S787497 32 := broadcastInDim S787497 ![] bcast_S_S787497 main_c_26
  let main_v73 : IVec S787497 1 := cmpi .slt main_v71 main_v72
  let main_c_27 : IVec S_ 1 := constantI S_ 1 1#1
  let main_v74 : IVec S_ 1 := (fun x v => Host.reduce IntOp.andi x v reducesTo_S787497_S_d0 h_S_) main_v73 main_c_27
  let main_v75 : IVec S_ 1 := andi main_v53 main_v60
  let main_v76 : IVec S_ 1 := andi main_v75 main_v64
  let main_v77 : IVec S_ 1 := andi main_v76 main_v68
  let main_v78 : IVec S_ 1 := andi main_v77 main_v74
  main_v78

def fn_part3 {F : FTy → Type} [FloatOps F] (main_arg11 : IVec S800000 32) (main_v48 : IVec S_ 1) (main_v49 : FVec F S4x32 .f32) (main_v50 : FVec F S4x32 .f32) : IVec S_ 1 :=
  let main_v51 : IVec S4x32 1 := cmpf .olt main_v49 main_v50
  let main_c_19 : IVec S_ 1 := constantI S_ 1 1#1
  let main_v52 : IVec S_ 1 := (fun x v => Host.reduce IntOp.andi x v reducesTo_S4x32_S_d0_1 h_S_) main_v51 main_c_19
  let main_v53 : IVec S_ 1 := andi main_v48 main_v52
  let main_c_20 : IVec S_ 32 := constantI S_ 32 0#32
  let main_v54 : IVec S800000 32 := broadcastInDim S800000 ![] bcast_S_S800000 main_c_20
  let main_v55 : IVec S800000 1 := cmpi .sge main_arg11 main_v54
  let main_c_21 : IVec S_ 1 := constantI S_ 1 1#1
  let main_v56 : IVec S_ 1 := (fun x v => Host.reduce IntOp.andi x v reducesTo_S800000_S_d0 h_S_) main_v55 main_c_21
  let main_c_22 : IVec S_ 32 := constantI S_ 32 50000#32
  let main_v57 : IVec S800000 32 := broadcastInDim S800000 ![] bcast_S_S800000 main_c_22
  let main_v58 : IVec S800000 1 := cmpi .slt main_arg11 main_v57
  let main_c_23 : IVec S_ 1 := constantI S_ 1 1#1
  let main_v59 : IVec S_ 1 := (fun x v => Host.reduce IntOp.andi x v reducesTo_S800000_S_d0 h_S_) main_v58 main_c_23
  let main_v60 : IVec S_ 1 := andi main_v56 main_v59
  let main_v61 : IVec S799999 32 := (extractStridedSlice S799999 ![1] · slices_S800000_S799999_1) main_arg11
  let main_v62 : IVec S799999 32 := (extractStridedSlice S799999 ![0] · slices_S800000_S799999_0) main_arg11
  let main_v63 : IVec S799999 1 := cmpi .sge main_v61 main_v62
  let main_c_24 : IVec S_ 1 := constantI S_ 1 1#1
  let main_v64 : IVec S_ 1 := (fun x v => Host.reduce IntOp.andi x v reducesTo_S799999_S_d0 h_S_) main_v63 main_c_24
  let main_v65 : IVec S799744 32 := (extractStridedSlice S799744 ![256] · slices_S800000_S799744_256) main_arg11
  let main_v66 : IVec S799744 32 := (extractStridedSlice S799744 ![0] · slices_S800000_S799744_0) main_arg11
  let main_v67 : IVec S799744 1 := cmpi .sgt main_v65 main_v66
  let main_c_25 : IVec S_ 1 := constantI S_ 1 1#1
  fn_part4 (F := F) main_arg11 main_v53 main_v60 main_v64 main_v67 main_c_25

def fn_part2 {F : FTy → Type} [FloatOps F] (main_arg7 : FVec F S64x64 .f32) (main_arg8 : FVec F S64 .f32) (main_arg9 : FVec F S96x128 .f32) (main_arg10 : FVec F S4x32 .f32) (main_arg11 : IVec S800000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S96x128 .f32 := Host.absf main_arg9
  let main_cst_16 : FVec F S_ .f32 := constant S_ .f32 0x7F800000#32
  let main_v45 : FVec F S96x128 .f32 := broadcastInDim S96x128 ![] bcast_S_S96x128 main_cst_16
  let main_v46 : IVec S96x128 1 := cmpf .olt main_v44 main_v45
  let main_c_17 : IVec S_ 1 := constantI S_ 1 1#1
  let main_v47 : IVec S_ 1 := (fun x v => Host.reduce IntOp.andi x v reducesTo_S96x128_S_d0_1 h_S_) main_v46 main_c_17
  let main_v48 : IVec S_ 1 := andi main_v43 main_v47
  let main_v49 : FVec F S4x32 .f32 := Host.absf main_arg10
  let main_cst_18 : FVec F S_ .f32 := constant S_ .f32 0x7F800000#32
  let main_v50 : FVec F S4x32 .f32 := broadcastInDim S4x32 ![] bcast_S_S4x32 main_cst_18
  fn_part3 (F := F) main_arg11 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S96x128 .f32) (main_arg10 : FVec F S4x32 .f32) (main_arg11 : IVec S800000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S800000x32 .f32) (main_arg1 : FVec F S32x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S96x128 .f32) (main_arg10 : FVec F S4x32 .f32) (main_arg11 : IVec S800000 32) (main_arg12 : IVec S50000 32) : IVec S_ 1 :=
  let main_v0 : FVec F S800000x32 .f32 := Host.absf main_arg0
  let main_cst : FVec F S_ .f32 := constant S_ .f32 0x7F800000#32
  let main_v1 : FVec F S800000x32 .f32 := broadcastInDim S800000x32 ![] bcast_S_S800000x32 main_cst
  let main_v2 : IVec S800000x32 1 := cmpf .olt main_v0 main_v1
  let main_c : IVec S_ 1 := constantI S_ 1 1#1
  let main_v3 : IVec S_ 1 := (fun x v => Host.reduce IntOp.andi x v reducesTo_S800000x32_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_v13 main_v16
-- ==== Kernel.lean ====
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S96x128 : Shape := ⟨2, ![96, 128]⟩
abbrev S4x32 : Shape := ⟨2, ![4, 32]⟩
abbrev S800000 : Shape := ⟨1, ![800000]⟩
abbrev S50000 : Shape := ⟨1, ![50000]⟩
abbrev S32x128 : Shape := ⟨2, ![32, 128]⟩
abbrev S32x4x32 : Shape := ⟨3, ![32, 4, 32]⟩
abbrev S_ : Shape := ⟨0, ![]⟩
abbrev S32x800000 : Shape := ⟨2, ![32, 800000]⟩
abbrev S32x65536 : Shape := ⟨2, ![32, 65536]⟩
abbrev S65536 : Shape := ⟨1, ![65536]⟩
abbrev S4x65536 : Shape := ⟨2, ![4, 65536]⟩
abbrev S1x65536 : Shape := ⟨2, ![1, 65536]⟩
abbrev S13040 : Shape := ⟨1, ![13040]⟩
abbrev S13024 : Shape := ⟨1, ![13024]⟩
abbrev S2048 : Shape := ⟨1, ![2048]⟩
abbrev S16 : Shape := ⟨1, ![16]⟩
abbrev S1 : Shape := ⟨1, ![1]⟩
abbrev S12504 : Shape := ⟨1, ![12504]⟩
abbrev S12496 : Shape := ⟨1, ![12496]⟩
abbrev S800000x1 : Shape := ⟨2, ![800000, 1]⟩

abbrev nBuf : Table → Nat
  | .hbm => 33
  | .local .tc .vmem => 11
  | .local .scVector .vmem => 9
  | _ => 0

abbrev bufTy : (tb : Table) → Fin (nBuf tb) → BufTy
  | .hbm, ⟨0, _⟩ => ⟨S800000x32, .f32⟩
  | .hbm, ⟨1, _⟩ => ⟨S32x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S96x128, .f32⟩
  | .hbm, ⟨10, _⟩ => ⟨S4x32, .f32⟩
  | .hbm, ⟨11, _⟩ => ⟨S800000, .i32⟩
  | .hbm, ⟨12, _⟩ => ⟨S50000, .i32⟩
  | .hbm, ⟨13, _⟩ => ⟨S32x128, .f32⟩
  | .hbm, ⟨14, _⟩ => ⟨S32x4x32, .f32⟩
  | .hbm, ⟨15, _⟩ => ⟨S4x32, .f32⟩
  | .hbm, ⟨16, _⟩ => ⟨S_, .f32⟩
  | .hbm, ⟨17, _⟩ => ⟨S_, .f32⟩
  | .hbm, ⟨18, _⟩ => ⟨S4x32, .f32⟩
  | .hbm, ⟨19, _⟩ => ⟨S4x32, .f32⟩
  | .hbm, ⟨20, _⟩ => ⟨S32x800000, .f32⟩
  | .hbm, ⟨21, _⟩ => ⟨S800000, .f32⟩
  | .hbm, ⟨22, _⟩ => ⟨S800000, .f32⟩
  | .hbm, ⟨23, _⟩ => ⟨S800000, .f32⟩
  | .hbm, ⟨24, _⟩ => ⟨S800000, .f32⟩
  | .hbm, ⟨25, _⟩ => ⟨S800000, .f32⟩
  | .hbm, ⟨26, _⟩ => ⟨S800000, .f32⟩
  | .hbm, ⟨27, _⟩ => ⟨S800000, .f32⟩
  | .hbm, ⟨28, _⟩ => ⟨S800000, .f32⟩
  | .hbm, ⟨29, _⟩ => ⟨S800000x1, .f32⟩
  | .hbm, ⟨30, _⟩ => ⟨S800000x1, .f32⟩
  | .hbm, ⟨31, _⟩ => ⟨S800000x1, .f32⟩
  | .hbm, ⟨32, _⟩ => ⟨S800000x1, .f32⟩
  | .local .tc .vmem, ⟨0, _⟩ => ⟨S32x65536, .f32⟩
  | .local .tc .vmem, ⟨1, _⟩ => ⟨S32x65536, .f32⟩
  | .local .tc .vmem, ⟨2, _⟩ => ⟨S4x32, .f32⟩
  | .local .tc .vmem, ⟨3, _⟩ => ⟨S65536, .f32⟩
  | .local .tc .vmem, ⟨4, _⟩ => ⟨S65536, .f32⟩
  | .local .tc .vmem, ⟨5, _⟩ => ⟨S65536, .f32⟩
  | .local .tc .vmem, ⟨6, _⟩ => ⟨S65536, .f32⟩
  | .local .tc .vmem, ⟨7, _⟩ => ⟨S65536, .f32⟩
  | .local .tc .vmem, ⟨8, _⟩ => ⟨S65536, .f32⟩
  | .local .tc .vmem, ⟨9, _⟩ => ⟨S65536, .f32⟩
  | .local .tc .vmem, ⟨10, _⟩ => ⟨S65536, .f32⟩
  | .local .scVector .vmem, ⟨0, _⟩ => ⟨S13040, .i32⟩
  | .local .scVector .vmem, ⟨1, _⟩ => ⟨S13024, .f32⟩
  | .local .scVector .vmem, ⟨2, _⟩ => ⟨S13024, .f32⟩
  | .local .scVector .vmem, ⟨3, _⟩ => ⟨S13024, .f32⟩
  | .local .scVector .vmem, ⟨4, _⟩ => ⟨S13024, .f32⟩
  | .local .scVector .vmem, ⟨5, _⟩ => ⟨S2048, .f32⟩
  | .local .scVector .vmem, ⟨6, _⟩ => ⟨S2048, .f32⟩
  | .local .scVector .vmem, ⟨7, _⟩ => ⟨S2048, .f32⟩
  | .local .scVector .vmem, ⟨8, _⟩ => ⟨S2048, .f32⟩
  | _, _ => ⟨S800000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v7_0_scv : Ref sig .scVector := ⟨.hbm, 21, rfl⟩
abbrev main_v7_1_scv : Ref sig .scVector := ⟨.hbm, 22, rfl⟩
abbrev main_v7_2_scv : Ref sig .scVector := ⟨.hbm, 23, rfl⟩
abbrev main_v7_3_scv : Ref sig .scVector := ⟨.hbm, 24, rfl⟩
abbrev main_arg11_scv : Ref sig .scVector := ⟨.hbm, 11, rfl⟩
abbrev main_v8_0_scv : Ref sig .scVector := ⟨.hbm, 25, rfl⟩
abbrev main_v8_1_scv : Ref sig .scVector := ⟨.hbm, 26, rfl⟩
abbrev main_v8_2_scv : Ref sig .scVector := ⟨.hbm, 27, rfl⟩
abbrev main_v8_3_scv : Ref sig .scVector := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 16], ![false, false]⟩

def k1_mult1 (i : grid1.Coords) : BitVec 32 :=
  let c786976_i32 : BitVec 32 := 786976#32
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let c0_i32 : BitVec 32 := 0#32
  let v8 : BitVec 32 := Scalar.addi v7 c0_i32
  let c256_i32 : BitVec 32 := 256#32
  let v9 : BitVec 32 := Scalar.subi v8 c256_i32
  let v10 : BitVec 32 := Scalar.maxsi c0_i32_1 v9
  let v11 : BitVec 32 := Scalar.minsi c786976_i32 v10
  v11
def k1_off1 (i : grid1.Coords) (c0_i32 : BitVec 32) : Fin 1 → Nat :=
  let c786976_i32 : BitVec 32 := 786976#32
  let c0_i32_1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let v8 : BitVec 32 := Scalar.addi v7 c0_i32
  let c256_i32 : BitVec 32 := 256#32
  let v9 : BitVec 32 := Scalar.subi v8 c256_i32
  let v10 : BitVec 32 := Scalar.maxsi c0_i32_1 v9
  let v11 : BitVec 32 := Scalar.minsi c786976_i32 v10
  let v12 : BitVec 32 := v11
  ![v12.toNat]
def k1_off2 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let v8 : BitVec 32 := Scalar.addi v7 c0_i32
  let c786976_i32 : BitVec 32 := 786976#32
  let c0_i32_1 : BitVec 32 := 0#32
  let c256_i32 : BitVec 32 := 256#32
  let v9 : BitVec 32 := Scalar.subi v8 c256_i32
  let v10 : BitVec 32 := Scalar.maxsi c0_i32_1 v9
  let v11 : BitVec 32 := Scalar.minsi c786976_i32 v10
  let v12 : BitVec 32 := v11
  let v13 : BitVec 32 := Scalar.subi v8 v12
  let v14 : Index := Scalar.indexCast v13
  ![v14.toNat]
def k1_off3 (i : grid1.Coords) (c0_i32 : BitVec 32) (c12504_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let v8 : BitVec 32 := Scalar.addi v7 c0_i32
  let c786976_i32 : BitVec 32 := 786976#32
  let c0_i32_1 : BitVec 32 := 0#32
  let c256_i32 : BitVec 32 := 256#32
  let v9 : BitVec 32 := Scalar.subi v8 c256_i32
  let v10 : BitVec 32 := Scalar.maxsi c0_i32_1 v9
  let v11 : BitVec 32 := Scalar.minsi c786976_i32 v10
  let v12 : BitVec 32 := v11
  let v13 : BitVec 32 := Scalar.subi v8 v12
  let v18 : BitVec 32 := Scalar.addi v13 c12504_i32
  let c16_i32 : BitVec 32 := 16#32
  let v19 : BitVec 32 := Scalar.subi v18 c16_i32
  let v20 : Index := Scalar.indexCast v19
  ![v20.toNat]
def k1_off3_at (r : Fin 2) : BitVec 32 × BitVec 32 :=
  if r.val < 1 then
    (0#32, 12504#32)
  else
    (12504#32, 12496#32)
@[reducible] def k1_t1_loop : Scf.Loop 32 :=
  let c0_i32_2 : BitVec 32 := 0#32
  let c128_i32 : BitVec 32 := 128#32
  let v24 : BitVec 32 := Scalar.addi c0_i32_2 c128_i32
  let c1_i32 : BitVec 32 := 1#32
  ⟨c0_i32_2, v24, c1_i32⟩
def k1_off4 (k1_t1 : Fin k1_t1_loop.trips) : Fin 1 → Nat :=
  let c0_i32_39 : BitVec 32 := 0#32
  let c0_i32_2 : BitVec 32 := 0#32
  let c1_i32 : BitVec 32 := 1#32
  let arg20 : BitVec 32 := Scf.iv c0_i32_2 c1_i32 k1_t1
  let c16_i32_38 : BitVec 32 := 16#32
  let v49 : BitVec 32 := Scalar.muli arg20 c16_i32_38
  let v50 : BitVec 32 := Scalar.addi c0_i32_39 v49
  let v51 : Index := Scalar.indexCast v50
  ![v51.toNat]
@[reducible] def k1_t2_loop : Scf.Loop 32 :=
  let c0_i32_4 : BitVec 32 := 0#32
  let c814_i32_5 : BitVec 32 := 814#32
  let v25 : BitVec 32 := Scalar.addi c0_i32_4 c814_i32_5
  let c1_i32_6 : BitVec 32 := 1#32
  ⟨c0_i32_4, v25, c1_i32_6⟩

def k1_chk1 (v52 : IVec S16 32) : Prop :=
  (∀ a x, ((![v52] : Fin 1 → IVec S16 32) a x).toNat < S13040.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a)
theorem k1_idx1_inb : ∀ (v52 : IVec S16 32) (k1_hw1 : k1_chk1 v52), ∀ a x, ((![v52] : Fin 1 → IVec S16 32) a x).toNat < S13040.size a := fun v52 k1_hw1 => k1_hw1.1
theorem k1_idx2_inb : ∀ (v52 : IVec S16 32) (k1_hw1 : k1_chk1 v52), ∀ a x, ((![v52] : Fin 1 → IVec S16 32) a x).toNat < S13024.size a := fun v52 k1_hw1 => k1_hw1.2.1
theorem k1_idx4_inb : ∀ (v52 : IVec S16 32) (k1_hw1 : k1_chk1 v52), ∀ a x, ((![v52] : Fin 1 → IVec S16 32) a x).toNat < S13024.size a := fun v52 k1_hw1 => k1_hw1.2.2.1
theorem k1_idx6_inb : ∀ (v52 : IVec S16 32) (k1_hw1 : k1_chk1 v52), ∀ a x, ((![v52] : Fin 1 → IVec S16 32) a x).toNat < S13024.size a := fun v52 k1_hw1 => k1_hw1.2.2.2.1
theorem k1_idx8_inb : ∀ (v52 : IVec S16 32) (k1_hw1 : k1_chk1 v52), ∀ a x, ((![v52] : Fin 1 → IVec S16 32) a x).toNat < S13024.size a := fun v52 k1_hw1 => k1_hw1.2.2.2.2

def k1_chk2 (v59 : IVec S16 32) : Prop :=
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a)
theorem k1_idx3_inb : ∀ (v59 : IVec S16 32) (k1_hw2 : k1_chk2 v59), ∀ a x, ((![v59] : Fin 1 → IVec S16 32) a x).toNat < S2048.size a := fun v59 k1_hw2 => k1_hw2.1
theorem k1_idx5_inb : ∀ (v59 : IVec S16 32) (k1_hw2 : k1_chk2 v59), ∀ a x, ((![v59] : Fin 1 → IVec S16 32) a x).toNat < S2048.size a := fun v59 k1_hw2 => k1_hw2.2.1
theorem k1_idx7_inb : ∀ (v59 : IVec S16 32) (k1_hw2 : k1_chk2 v59), ∀ a x, ((![v59] : Fin 1 → IVec S16 32) a x).toNat < S2048.size a := fun v59 k1_hw2 => k1_hw2.2.2.1
theorem k1_idx9_inb : ∀ (v59 : IVec S16 32) (k1_hw2 : k1_chk2 v59), ∀ a x, ((![v59] : Fin 1 → IVec S16 32) a x).toNat < S2048.size a := fun v59 k1_hw2 => k1_hw2.2.2.2
@[reducible] def k1_t3_loop : Scf.Loop 32 :=
  let c0_i32_8 : BitVec 32 := 0#32
  let c128_i32_9 : BitVec 32 := 128#32
  let v26 : BitVec 32 := Scalar.addi c0_i32_8 c128_i32_9
  let c1_i32_10 : BitVec 32 := 1#32
  ⟨c0_i32_8, v26, c1_i32_10⟩
def k1_off5 (k1_t3 : Fin k1_t3_loop.trips) : Fin 1 → Nat :=
  let c0_i32_39 : BitVec 32 := 0#32
  let c0_i32_8 : BitVec 32 := 0#32
  let c1_i32_10 : BitVec 32 := 1#32
  let arg20 : BitVec 32 := Scf.iv c0_i32_8 c1_i32_10 k1_t3
  let c16_i32_38 : BitVec 32 := 16#32
  let v49 : BitVec 32 := Scalar.muli arg20 c16_i32_38
  let v50 : BitVec 32 := Scalar.addi c0_i32_39 v49
  let v51 : Index := Scalar.indexCast v50
  ![v51.toNat]
@[reducible] def k1_t4_loop : Scf.Loop 32 :=
  let c0_i32_12 : BitVec 32 := 0#32
  let c814_i32_13 : BitVec 32 := 814#32
  let v27 : BitVec 32 := Scalar.addi c0_i32_12 c814_i32_13
  let c1_i32_14 : BitVec 32 := 1#32
  ⟨c0_i32_12, v27, c1_i32_14⟩

def k1_chk4 (v59 : IVec S16 32) : Prop :=
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a)
theorem k1_idx11_inb : ∀ (v59 : IVec S16 32) (k1_hw4 : k1_chk4 v59), ∀ a x, ((![v59] : Fin 1 → IVec S16 32) a x).toNat < S2048.size a := fun v59 k1_hw4 => k1_hw4.1
theorem k1_idx14_inb : ∀ (v59 : IVec S16 32) (k1_hw4 : k1_chk4 v59), ∀ a x, ((![v59] : Fin 1 → IVec S16 32) a x).toNat < S2048.size a := fun v59 k1_hw4 => k1_hw4.2.1
theorem k1_idx17_inb : ∀ (v59 : IVec S16 32) (k1_hw4 : k1_chk4 v59), ∀ a x, ((![v59] : Fin 1 → IVec S16 32) a x).toNat < S2048.size a := fun v59 k1_hw4 => k1_hw4.2.2.1
theorem k1_idx20_inb : ∀ (v59 : IVec S16 32) (k1_hw4 : k1_chk4 v59), ∀ a x, ((![v59] : Fin 1 → IVec S16 32) a x).toNat < S2048.size a := fun v59 k1_hw4 => k1_hw4.2.2.2

def k1_chk3 (v52 : IVec S16 32) : Prop :=
  (∀ a x, ((![v52] : Fin 1 → IVec S16 32) a x).toNat < S13040.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a)
theorem k1_idx10_inb : ∀ (v52 : IVec S16 32) (k1_hw3 : k1_chk3 v52), ∀ a x, ((![v52] : Fin 1 → IVec S16 32) a x).toNat < S13040.size a := fun v52 k1_hw3 => k1_hw3.1
theorem k1_idx12_inb : ∀ (v52 : IVec S16 32) (k1_hw3 : k1_chk3 v52), ∀ a x, ((![v52] : Fin 1 → IVec S16 32) a x).toNat < S13024.size a := fun v52 k1_hw3 => k1_hw3.2.1
theorem k1_idx13_inb : ∀ (v52 : IVec S16 32) (k1_hw3 : k1_chk3 v52), ∀ a x, ((![v52] : Fin 1 → IVec S16 32) a x).toNat < S13024.size a := fun v52 k1_hw3 => k1_hw3.2.2.1
theorem k1_idx15_inb : ∀ (v52 : IVec S16 32) (k1_hw3 : k1_chk3 v52), ∀ a x, ((![v52] : Fin 1 → IVec S16 32) a x).toNat < S13024.size a := fun v52 k1_hw3 => k1_hw3.2.2.2.1
theorem k1_idx16_inb : ∀ (v52 : IVec S16 32) (k1_hw3 : k1_chk3 v52), ∀ a x, ((![v52] : Fin 1 → IVec S16 32) a x).toNat < S13024.size a := fun v52 k1_hw3 => k1_hw3.2.2.2.2.1
theorem k1_idx18_inb : ∀ (v52 : IVec S16 32) (k1_hw3 : k1_chk3 v52), ∀ a x, ((![v52] : Fin 1 → IVec S16 32) a x).toNat < S13024.size a := fun v52 k1_hw3 => k1_hw3.2.2.2.2.2.1
theorem k1_idx19_inb : ∀ (v52 : IVec S16 32) (k1_hw3 : k1_chk3 v52), ∀ a x, ((![v52] : Fin 1 → IVec S16 32) a x).toNat < S13024.size a := fun v52 k1_hw3 => k1_hw3.2.2.2.2.2.2.1
theorem k1_idx21_inb : ∀ (v52 : IVec S16 32) (k1_hw3 : k1_chk3 v52), ∀ a x, ((![v52] : Fin 1 → IVec S16 32) a x).toNat < S13024.size a := fun v52 k1_hw3 => k1_hw3.2.2.2.2.2.2.2.1
theorem k1_idx22_inb : ∀ (v52 : IVec S16 32) (k1_hw3 : k1_chk3 v52), ∀ a x, ((![v52] : Fin 1 → IVec S16 32) a x).toNat < S13024.size a := fun v52 k1_hw3 => k1_hw3.2.2.2.2.2.2.2.2
def k1_off6 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let c0_i32 : BitVec 32 := 0#32
  let v8 : BitVec 32 := Scalar.addi v7 c0_i32
  let c786976_i32 : BitVec 32 := 786976#32
  let c0_i32_1 : BitVec 32 := 0#32
  let c256_i32 : BitVec 32 := 256#32
  let v9 : BitVec 32 := Scalar.subi v8 c256_i32
  let v10 : BitVec 32 := Scalar.maxsi c0_i32_1 v9
  let v11 : BitVec 32 := Scalar.minsi c786976_i32 v10
  let v12 : BitVec 32 := v11
  let v13 : BitVec 32 := Scalar.subi v8 v12
  ![v13.toNat]
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32 : BitVec 32 := 25000#32
  let v7 : BitVec 32 := Scalar.muli v1 c25000_i32
  let c0_i32 : BitVec 32 := 0#32
  let v8 : BitVec 32 := Scalar.addi v7 c0_i32
  ![v8.toNat]
def k1_mult2 (i : grid1.Coords) : BitVec 32 :=
  let c786976_i32_20 : BitVec 32 := 786976#32
  let c0_i32_19 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32_16 : BitVec 32 := 25000#32
  let v28 : BitVec 32 := Scalar.muli v1 c25000_i32_16
  let c12504_i32_17 : BitVec 32 := 12504#32
  let v29 : BitVec 32 := Scalar.addi v28 c12504_i32_17
  let c256_i32_18 : BitVec 32 := 256#32
  let v30 : BitVec 32 := Scalar.subi v29 c256_i32_18
  let v31 : BitVec 32 := Scalar.maxsi c0_i32_19 v30
  let v32 : BitVec 32 := Scalar.minsi c786976_i32_20 v31
  v32
@[reducible] def k1_t5_loop : Scf.Loop 32 :=
  let c0_i32_22 : BitVec 32 := 0#32
  let c128_i32_23 : BitVec 32 := 128#32
  let v45 : BitVec 32 := Scalar.addi c0_i32_22 c128_i32_23
  let c1_i32_24 : BitVec 32 := 1#32
  ⟨c0_i32_22, v45, c1_i32_24⟩
def k1_off8 (k1_t5 : Fin k1_t5_loop.trips) : Fin 1 → Nat :=
  let c0_i32_39 : BitVec 32 := 0#32
  let c0_i32_22 : BitVec 32 := 0#32
  let c1_i32_24 : BitVec 32 := 1#32
  let arg20 : BitVec 32 := Scf.iv c0_i32_22 c1_i32_24 k1_t5
  let c16_i32_38 : BitVec 32 := 16#32
  let v49 : BitVec 32 := Scalar.muli arg20 c16_i32_38
  let v50 : BitVec 32 := Scalar.addi c0_i32_39 v49
  let v51 : Index := Scalar.indexCast v50
  ![v51.toNat]
@[reducible] def k1_t6_loop : Scf.Loop 32 :=
  let c0_i32_26 : BitVec 32 := 0#32
  let c814_i32_27 : BitVec 32 := 814#32
  let v46 : BitVec 32 := Scalar.addi c0_i32_26 c814_i32_27
  let c1_i32_28 : BitVec 32 := 1#32
  ⟨c0_i32_26, v46, c1_i32_28⟩

def k1_chk5 (v52 : IVec S16 32) : Prop :=
  (∀ a x, ((![v52] : Fin 1 → IVec S16 32) a x).toNat < S13040.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a)
theorem k1_idx23_inb : ∀ (v52 : IVec S16 32) (k1_hw5 : k1_chk5 v52), ∀ a x, ((![v52] : Fin 1 → IVec S16 32) a x).toNat < S13040.size a := fun v52 k1_hw5 => k1_hw5.1
theorem k1_idx24_inb : ∀ (v52 : IVec S16 32) (k1_hw5 : k1_chk5 v52), ∀ a x, ((![v52] : Fin 1 → IVec S16 32) a x).toNat < S13024.size a := fun v52 k1_hw5 => k1_hw5.2.1
theorem k1_idx26_inb : ∀ (v52 : IVec S16 32) (k1_hw5 : k1_chk5 v52), ∀ a x, ((![v52] : Fin 1 → IVec S16 32) a x).toNat < S13024.size a := fun v52 k1_hw5 => k1_hw5.2.2.1
theorem k1_idx28_inb : ∀ (v52 : IVec S16 32) (k1_hw5 : k1_chk5 v52), ∀ a x, ((![v52] : Fin 1 → IVec S16 32) a x).toNat < S13024.size a := fun v52 k1_hw5 => k1_hw5.2.2.2.1
theorem k1_idx30_inb : ∀ (v52 : IVec S16 32) (k1_hw5 : k1_chk5 v52), ∀ a x, ((![v52] : Fin 1 → IVec S16 32) a x).toNat < S13024.size a := fun v52 k1_hw5 => k1_hw5.2.2.2.2

def k1_chk6 (v59 : IVec S16 32) : Prop :=
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a)
theorem k1_idx25_inb : ∀ (v59 : IVec S16 32) (k1_hw6 : k1_chk6 v59), ∀ a x, ((![v59] : Fin 1 → IVec S16 32) a x).toNat < S2048.size a := fun v59 k1_hw6 => k1_hw6.1
theorem k1_idx27_inb : ∀ (v59 : IVec S16 32) (k1_hw6 : k1_chk6 v59), ∀ a x, ((![v59] : Fin 1 → IVec S16 32) a x).toNat < S2048.size a := fun v59 k1_hw6 => k1_hw6.2.1
theorem k1_idx29_inb : ∀ (v59 : IVec S16 32) (k1_hw6 : k1_chk6 v59), ∀ a x, ((![v59] : Fin 1 → IVec S16 32) a x).toNat < S2048.size a := fun v59 k1_hw6 => k1_hw6.2.2.1
theorem k1_idx31_inb : ∀ (v59 : IVec S16 32) (k1_hw6 : k1_chk6 v59), ∀ a x, ((![v59] : Fin 1 → IVec S16 32) a x).toNat < S2048.size a := fun v59 k1_hw6 => k1_hw6.2.2.2
@[reducible] def k1_t7_loop : Scf.Loop 32 :=
  let c0_i32_30 : BitVec 32 := 0#32
  let c128_i32_31 : BitVec 32 := 128#32
  let v47 : BitVec 32 := Scalar.addi c0_i32_30 c128_i32_31
  let c1_i32_32 : BitVec 32 := 1#32
  ⟨c0_i32_30, v47, c1_i32_32⟩
def k1_off9 (k1_t7 : Fin k1_t7_loop.trips) : Fin 1 → Nat :=
  let c0_i32_39 : BitVec 32 := 0#32
  let c0_i32_30 : BitVec 32 := 0#32
  let c1_i32_32 : BitVec 32 := 1#32
  let arg20 : BitVec 32 := Scf.iv c0_i32_30 c1_i32_32 k1_t7
  let c16_i32_38 : BitVec 32 := 16#32
  let v49 : BitVec 32 := Scalar.muli arg20 c16_i32_38
  let v50 : BitVec 32 := Scalar.addi c0_i32_39 v49
  let v51 : Index := Scalar.indexCast v50
  ![v51.toNat]
@[reducible] def k1_t8_loop : Scf.Loop 32 :=
  let c0_i32_34 : BitVec 32 := 0#32
  let c814_i32_35 : BitVec 32 := 814#32
  let v48 : BitVec 32 := Scalar.addi c0_i32_34 c814_i32_35
  let c1_i32_36 : BitVec 32 := 1#32
  ⟨c0_i32_34, v48, c1_i32_36⟩

def k1_chk8 (v59 : IVec S16 32) : Prop :=
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a) ∧
  (∀ a x, ((![v59] : Fin 1 → IVec S16 32) a x).toNat < S2048.size a)
theorem k1_idx33_inb : ∀ (v59 : IVec S16 32) (k1_hw8 : k1_chk8 v59), ∀ a x, ((![v59] : Fin 1 → IVec S16 32) a x).toNat < S2048.size a := fun v59 k1_hw8 => k1_hw8.1
theorem k1_idx36_inb : ∀ (v59 : IVec S16 32) (k1_hw8 : k1_chk8 v59), ∀ a x, ((![v59] : Fin 1 → IVec S16 32) a x).toNat < S2048.size a := fun v59 k1_hw8 => k1_hw8.2.1
theorem k1_idx39_inb : ∀ (v59 : IVec S16 32) (k1_hw8 : k1_chk8 v59), ∀ a x, ((![v59] : Fin 1 → IVec S16 32) a x).toNat < S2048.size a := fun v59 k1_hw8 => k1_hw8.2.2.1
theorem k1_idx42_inb : ∀ (v59 : IVec S16 32) (k1_hw8 : k1_chk8 v59), ∀ a x, ((![v59] : Fin 1 → IVec S16 32) a x).toNat < S2048.size a := fun v59 k1_hw8 => k1_hw8.2.2.2

def k1_chk7 (v52 : IVec S16 32) : Prop :=
  (∀ a x, ((![v52] : Fin 1 → IVec S16 32) a x).toNat < S13040.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a) ∧
  (∀ a x, ((![v52] : Fin 1 → IVec S16 32) a x).toNat < S13024.size a)
theorem k1_idx32_inb : ∀ (v52 : IVec S16 32) (k1_hw7 : k1_chk7 v52), ∀ a x, ((![v52] : Fin 1 → IVec S16 32) a x).toNat < S13040.size a := fun v52 k1_hw7 => k1_hw7.1
theorem k1_idx34_inb : ∀ (v52 : IVec S16 32) (k1_hw7 : k1_chk7 v52), ∀ a x, ((![v52] : Fin 1 → IVec S16 32) a x).toNat < S13024.size a := fun v52 k1_hw7 => k1_hw7.2.1
theorem k1_idx35_inb : ∀ (v52 : IVec S16 32) (k1_hw7 : k1_chk7 v52), ∀ a x, ((![v52] : Fin 1 → IVec S16 32) a x).toNat < S13024.size a := fun v52 k1_hw7 => k1_hw7.2.2.1
theorem k1_idx37_inb : ∀ (v52 : IVec S16 32) (k1_hw7 : k1_chk7 v52), ∀ a x, ((![v52] : Fin 1 → IVec S16 32) a x).toNat < S13024.size a := fun v52 k1_hw7 => k1_hw7.2.2.2.1
theorem k1_idx38_inb : ∀ (v52 : IVec S16 32) (k1_hw7 : k1_chk7 v52), ∀ a x, ((![v52] : Fin 1 → IVec S16 32) a x).toNat < S13024.size a := fun v52 k1_hw7 => k1_hw7.2.2.2.2.1
theorem k1_idx40_inb : ∀ (v52 : IVec S16 32) (k1_hw7 : k1_chk7 v52), ∀ a x, ((![v52] : Fin 1 → IVec S16 32) a x).toNat < S13024.size a := fun v52 k1_hw7 => k1_hw7.2.2.2.2.2.1
theorem k1_idx41_inb : ∀ (v52 : IVec S16 32) (k1_hw7 : k1_chk7 v52), ∀ a x, ((![v52] : Fin 1 → IVec S16 32) a x).toNat < S13024.size a := fun v52 k1_hw7 => k1_hw7.2.2.2.2.2.2.1
theorem k1_idx43_inb : ∀ (v52 : IVec S16 32) (k1_hw7 : k1_chk7 v52), ∀ a x, ((![v52] : Fin 1 → IVec S16 32) a x).toNat < S13024.size a := fun v52 k1_hw7 => k1_hw7.2.2.2.2.2.2.2.1
theorem k1_idx44_inb : ∀ (v52 : IVec S16 32) (k1_hw7 : k1_chk7 v52), ∀ a x, ((![v52] : Fin 1 → IVec S16 32) a x).toNat < S13024.size a := fun v52 k1_hw7 => k1_hw7.2.2.2.2.2.2.2.2
def k1_off10 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32_16 : BitVec 32 := 25000#32
  let v28 : BitVec 32 := Scalar.muli v1 c25000_i32_16
  let c12504_i32_17 : BitVec 32 := 12504#32
  let v29 : BitVec 32 := Scalar.addi v28 c12504_i32_17
  let c786976_i32_20 : BitVec 32 := 786976#32
  let c0_i32_19 : BitVec 32 := 0#32
  let c256_i32_18 : BitVec 32 := 256#32
  let v30 : BitVec 32 := Scalar.subi v29 c256_i32_18
  let v31 : BitVec 32 := Scalar.maxsi c0_i32_19 v30
  let v32 : BitVec 32 := Scalar.minsi c786976_i32_20 v31
  let v33 : BitVec 32 := v32
  let v34 : BitVec 32 := Scalar.subi v29 v33
  ![v34.toNat]
def k1_off11 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25000_i32_16 : BitVec 32 := 25000#32
  let v28 : BitVec 32 := Scalar.muli v1 c25000_i32_16
  let c12504_i32_17 : BitVec 32 := 12504#32
  let v29 : BitVec 32 := Scalar.addi v28 c12504_i32_17
  ![v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S96x128 : Shape := ⟨2, ![96, 128]⟩
abbrev S4x32 : Shape := ⟨2, ![4, 32]⟩
abbrev S800000 : Shape := ⟨1, ![800000]⟩
abbrev S50000 : Shape := ⟨1, ![50000]⟩
abbrev S800000x64 : Shape := ⟨2, ![800000, 64]⟩
abbrev S1x64 : Shape := ⟨2, ![1, 64]⟩
abbrev S_ : Shape := ⟨0, ![]⟩
abbrev S50000x64 : Shape := ⟨2, ![50000, 64]⟩
abbrev S800000x1 : Shape := ⟨2, ![800000, 1]⟩
abbrev S50000x1 : Shape := ⟨2, ![50000, 1]⟩
abbrev S800000x96 : Shape := ⟨2, ![800000, 96]⟩
abbrev S800000x128 : Shape := ⟨2, ![800000, 128]⟩
abbrev S800000x4x1x32 : Shape := ⟨4, ![800000, 4, 1, 32]⟩
abbrev S1x4x32x1 : Shape := ⟨4, ![1, 4, 32, 1]⟩
abbrev S4x32x1 : Shape := ⟨3, ![4, 32, 1]⟩
abbrev S4x800000x1x1 : Shape := ⟨4, ![4, 800000, 1, 1]⟩
abbrev S800000x4x1x1 : Shape := ⟨4, ![800000, 4, 1, 1]⟩
abbrev S800000x4x1 : Shape := ⟨3, ![800000, 4, 1]⟩
abbrev S1x800000 : Shape := ⟨2, ![1, 800000]⟩
abbrev S50000x800000 : Shape := ⟨2, ![50000, 800000]⟩
abbrev S800000x1x1 : Shape := ⟨3, ![800000, 1, 1]⟩

abbrev nBuf : Space → Nat
  | .hbm => 221
  | .vmem => 0
  | .smem => 0
  | _ => 0

abbrev hbmTy0_0 (i : Nat) : BufTy := match i % 128 with
  | 0 => ⟨S800000x32, .f32⟩
  | 1 => ⟨S32x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S96x128, .f32⟩
  | 10 => ⟨S4x32, .f32⟩
  | 11 => ⟨S800000, .i32⟩
  | 12 => ⟨S50000, .i32⟩
  | 13 => ⟨S800000x64, .f32⟩
  | 14 => ⟨S1x64, .f32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S800000x64, .f32⟩
  | 21 => ⟨S1x64, .f32⟩
  | 22 => ⟨S800000x64, .f32⟩
  | 23 => ⟨S800000x64, .f32⟩
  | 24 => ⟨S_, .f32⟩
  | 25 => ⟨S800000x64, .f32⟩
  | 26 => ⟨S800000x64, .f32⟩
  | 27 => ⟨S800000x64, .f32⟩
  | 28 => ⟨S1x64, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S_, .f32⟩
  | 36 => ⟨S800000x1, .f32⟩
  | 37 => ⟨S_, .f32⟩
  | 38 => ⟨S50000x1, .f32⟩
  | 39 => ⟨S800000x1, .i32⟩
  | 40 => ⟨S50000x1, .f32⟩
  | 41 => ⟨S_, .f32⟩
  | 42 => ⟨S50000x1, .f32⟩
  | 43 => ⟨S50000x1, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S800000x96, .f32⟩
  | 60 => ⟨S800000x128, .f32⟩
  | 61 => ⟨S800000x4x1x32, .f32⟩
  | 62 => ⟨S1x4x32x1, .f32⟩
  | 63 => ⟨S4x32x1, .f32⟩
  | 64 => ⟨S4x800000x1x1, .f32⟩
  | 65 => ⟨S800000x4x1x1, .f32⟩
  | 66 => ⟨S_, .f32⟩
  | 67 => ⟨S_, .f32⟩
  | 68 => ⟨S800000x4x1x1, .f32⟩
  | 69 => ⟨S800000x4x1x1, .f32⟩
  | 70 => ⟨S800000x4x1, .f32⟩
  | 71 => ⟨S1x800000, .i32⟩
  | 72 => ⟨S50000, .i32⟩
  | 73 => ⟨S50000x1, .i32⟩
  | 74 => ⟨S50000x800000, .i32⟩
  | 75 => ⟨S50000x800000, .i32⟩
  | 76 => ⟨S50000x800000, .i1⟩
  | 77 => ⟨S800000x1x1, .f32⟩
  | 78 => ⟨S800000x1, .f32⟩
  | 79 => ⟨S1x800000, .f32⟩
  | 80 => ⟨S_, .f32⟩
  | 81 => ⟨S_, .f32⟩
  | 82 => ⟨S50000x800000, .f32⟩
  | 83 => ⟨S50000x800000, .f32⟩
  | 84 => ⟨S50000x800000, .f32⟩
  | 85 => ⟨S_, .f32⟩
  | 86 => ⟨S50000, .f32⟩
  | 87 => ⟨S50000x1, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x1, .f32⟩
  | 97 => ⟨S800000x1, .f32⟩
  | 98 => ⟨S800000x1, .f32⟩
  | 99 => ⟨S_, .f32⟩
  | 100 => ⟨S50000x1, .f32⟩
  | 101 => ⟨S800000x1, .i32⟩
  | 102 => ⟨S50000x1, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x1, .f32⟩
  | 112 => ⟨S800000x1, .f32⟩
  | 113 => ⟨S800000x1x1, .f32⟩
  | 114 => ⟨S800000x1, .f32⟩
  | 115 => ⟨S1x800000, .f32⟩
  | 116 => ⟨S_, .f32⟩
  | 117 => ⟨S_, .f32⟩
  | 118 => ⟨S50000x800000, .f32⟩
  | 119 => ⟨S50000x800000, .f32⟩
  | 120 => ⟨S50000x800000, .f32⟩
  | 121 => ⟨S_, .f32⟩
  | 122 => ⟨S50000, .f32⟩
  | 123 => ⟨S50000x1, .f32⟩
  | 124 => ⟨S_, .i32⟩
  | 125 => ⟨S800000, .i32⟩
  | 126 => ⟨S800000, .i1⟩
  | 127 => ⟨S_, .i32⟩
  | _ => ⟨S800000x32, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x1, .f32⟩
  | 5 => ⟨S800000x1, .f32⟩
  | 6 => ⟨S800000x1, .f32⟩
  | 7 => ⟨S_, .f32⟩
  | 8 => ⟨S50000x1, .f32⟩
  | 9 => ⟨S800000x1, .i32⟩
  | 10 => ⟨S50000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x1, .f32⟩
  | 20 => ⟨S800000x1, .f32⟩
  | 21 => ⟨S800000x1x1, .f32⟩
  | 22 => ⟨S800000x1, .f32⟩
  | 23 => ⟨S1x800000, .f32⟩
  | 24 => ⟨S_, .f32⟩
  | 25 => ⟨S_, .f32⟩
  | 26 => ⟨S50000x800000, .f32⟩
  | 27 => ⟨S50000x800000, .f32⟩
  | 28 => ⟨S50000x800000, .f32⟩
  | 29 => ⟨S_, .f32⟩
  | 30 => ⟨S50000, .f32⟩
  | 31 => ⟨S50000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x1, .f32⟩
  | 41 => ⟨S800000x1, .f32⟩
  | 42 => ⟨S800000x1, .f32⟩
  | 43 => ⟨S_, .f32⟩
  | 44 => ⟨S50000x1, .f32⟩
  | 45 => ⟨S800000x1, .i32⟩
  | 46 => ⟨S50000x1, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x1, .f32⟩
  | 56 => ⟨S800000x1, .f32⟩
  | 57 => ⟨S800000x1x1, .f32⟩
  | 58 => ⟨S800000x1, .f32⟩
  | 59 => ⟨S1x800000, .f32⟩
  | 60 => ⟨S_, .f32⟩
  | 61 => ⟨S_, .f32⟩
  | 62 => ⟨S50000x800000, .f32⟩
  | 63 => ⟨S50000x800000, .f32⟩
  | 64 => ⟨S50000x800000, .f32⟩
  | 65 => ⟨S_, .f32⟩
  | 66 => ⟨S50000, .f32⟩
  | 67 => ⟨S50000x1, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x1, .f32⟩
  | 77 => ⟨S800000x1, .f32⟩
  | 78 => ⟨S800000x1, .f32⟩
  | 79 => ⟨S_, .f32⟩
  | 80 => ⟨S50000x1, .f32⟩
  | 81 => ⟨S800000x1, .i32⟩
  | 82 => ⟨S50000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x1, .f32⟩
  | 92 => ⟨S800000x1, .f32⟩
  | _ => ⟨S800000x32, .f32⟩

abbrev hbmTy (i : Nat) : BufTy := match i / 128 with
  | 0 => hbmTy0_0 i
  | 1 => hbmTy0_1 i
  | _ => ⟨S800000x32, .f32⟩

abbrev bufTy : (tb : Table) → Fin (tcTables nBuf tb) → BufTy
  | .hbm, ⟨i, _⟩ => hbmTy i
  | _, _ => ⟨S800000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_c_9 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_12 : Ref sig .tc := ⟨.hbm, 103, rfl⟩
abbrev main_v73 : Ref sig .tc := ⟨.hbm, 104, rfl⟩
abbrev main_v74 : Ref sig .tc := ⟨.hbm, 105, rfl⟩
abbrev main_c_13 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_14 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_19 : Ref sig .tc := ⟨.hbm, 139, rfl⟩
abbrev main_v99 : Ref sig .tc := ⟨.hbm, 140, rfl⟩
abbrev main_v100 : Ref sig .tc := ⟨.hbm, 141, rfl⟩
abbrev main_c_20 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_21 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_v110 : Ref sig .tc := ⟨.hbm, 156, rfl⟩
abbrev main_cst_22 : Ref sig .tc := ⟨.hbm, 157, rfl⟩
abbrev main_v111 : Ref sig .tc := ⟨.hbm, 158, rfl⟩
abbrev main_v112 : Ref sig .tc := ⟨.hbm, 159, rfl⟩
abbrev main_c_23 : Ref sig .tc := ⟨.hbm, 160, rfl⟩
abbrev main_v113 : Ref sig .tc := ⟨.hbm, 161, rfl⟩
abbrev main_v114 : Ref sig .tc := ⟨.hbm, 162, rfl⟩
abbrev main_c_24 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_25 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_c_26 : Ref sig .tc := ⟨.hbm, 175, rfl⟩
abbrev main_v125 : Ref sig .tc := ⟨.hbm, 176, rfl⟩
abbrev main_v126 : Ref sig .tc := ⟨.hbm, 177, rfl⟩
abbrev main_c_27 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_28 : Ref sig .tc := ⟨.hbm, 188, rfl⟩
abbrev main_call3_v0 : Ref sig .tc := ⟨.hbm, 189, rfl⟩
abbrev main_call3_v1 : Ref sig .tc := ⟨.hbm, 190, rfl⟩
abbrev main_call3_v2 : Ref sig .tc := ⟨.hbm, 191, rfl⟩
abbrev main_v136 : Ref sig .tc := ⟨.hbm, 192, rfl⟩
abbrev main_cst_29 : Ref sig .tc := ⟨.hbm, 193, rfl⟩
abbrev main_v137 : Ref sig .tc := ⟨.hbm, 194, rfl⟩
abbrev main_v138 : Ref sig .tc := ⟨.hbm, 195, rfl⟩
abbrev main_c_30 : Ref sig .tc := ⟨.hbm, 196, rfl⟩
abbrev main_v139 : Ref sig .tc := ⟨.hbm, 197, rfl⟩
abbrev main_v140 : Ref sig .tc := ⟨.hbm, 198, rfl⟩
abbrev main_c_31 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_32 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_c_33 : Ref sig .tc := ⟨.hbm, 211, rfl⟩
abbrev main_v151 : Ref sig .tc := ⟨.hbm, 212, rfl⟩
abbrev main_v152 : Ref sig .tc := ⟨.hbm, 213, rfl⟩
abbrev main_c_34 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩

abbrev nD : Nat := 1
abbrev τ : Topo := Topo.v7x

variable {F : FTy → Type} [FloatOps F]
-- ==== Proof.Model.lean ====
/-
  What one chunk of a tile computes, written as functions of natural numbers: the window of ids and the window of one
  score row are functions of the position, and the sums of a chunk are an array of 2048 cells, filled trip by trip.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-! ## Positions of a one-dimensional array -/

/-- Position `k` of an array of 800000 elements. -/
def ixN (k : ℕ) : S800000.Idx := fun a => ⟨k % 800000, by match a with | 0 => exact Nat.mod_lt _ (by decide)⟩

/-- Read an array of 800000 elements at a natural number. -/
def rd {α : Type} (f : S800000.Idx → α) (n : ℕ) : α := f (ixN n)

theorem ixN_val (j : S800000.Idx) : ixN (j 0).val = j := by
  funext a
  match a with
  | 0 => exact Fin.ext (Nat.mod_eq_of_lt (j 0).isLt)

theorem rd_val {α : Type} (f : S800000.Idx → α) (j : S800000.Idx) : rd f (j 0).val = f j := by rw [rd, ixN_val]

/-! ## One chunk -/

/-- The cell of an id: its distance from the first id, clipped to the 2048 cells. -/
def cell (lo w : BitVec 32) : BitVec 32 := IntOp.minsi 2047#32 (IntOp.maxsi 0#32 (w - lo))

/-- Is an id one of the chunk's? -/
def isIn (lo hi w : BitVec 32) : BitVec 1 := IntOp.andi (IntOp.cmpi .sge w lo) (IntOp.cmpi .sle w hi)

theorem cell_lt (lo w : BitVec 32) : (cell lo w).toNat < 2048 := by
  unfold cell IntOp.minsi IntOp.maxsi
  split_ifs <;> (simp only [BitVec.slt, BitVec.sle] at *; first | decide | skip)
  all_goals
    simp only [decide_eq_true_eq, not_lt, not_le] at *
    have h1 := BitVec.toInt_eq_toNat_cond (x := w - lo)
    have h2 : (2047#32 : BitVec 32).toInt = 2047 := by decide
    have h3 : (0#32 : BitVec 32).toInt = 0 := by decide
    have h4 := (w - lo).isLt
    split_ifs at h1 <;> omega

/-- The cell as an index of the array of sums. -/
def cellIx (lo w : BitVec 32) : S2048.Idx := fun a => ⟨(cell lo w).toNat, by match a with | 0 => exact cell_lt lo w⟩

/-- Lane `k` of a vector of 16. -/
def lane (k : ℕ) (h : k < 16) : S16.Idx := fun a => ⟨k, by match a with | 0 => exact h⟩

/-- Lane `x` of trip `t` looks at position `814 x + t`. -/
def lanePos (t : ℕ) (x : S16.Idx) : ℕ := 814 * (x 0).val + t

def tripId (wid : ℕ → BitVec 32) (t : ℕ) : IVec S16 32 := fun x => wid (lanePos t x)
def tripX (X : ℕ → F .f32) (t : ℕ) : FVec F S16 .f32 := fun x => X (lanePos t x)

def tripCell (lo : BitVec 32) (wid : ℕ → BitVec 32) (t : ℕ) : IVec S16 32 := fun x => cell lo (tripId wid t x)
def tripMask (lo hi : BitVec 32) (wid : ℕ → BitVec 32) (t : ℕ) : IVec S16 1 := fun x => isIn lo hi (tripId wid t x)

theorem tripCell_inb (lo : BitVec 32) (wid : ℕ → BitVec 32) (t : ℕ) :
    ∀ a x, ((![tripCell lo wid t] : Fin 1 → IVec S16 32) a x).toNat < S2048.size a := by
  intro a x; match a with | 0 => exact cell_lt _ _

/-- One trip of the summing loop. -/
def zStep (lo hi : BitVec 32) (wid : ℕ → BitVec 32) (X : ℕ → F .f32) (t : ℕ) (z : S2048.Idx → F .f32) : S2048.Idx → F .f32 :=
  storeIdx (F := F) (e := .f32) z ![tripCell lo wid t] (exp (tripX X t)) (tripMask lo hi wid t) true (tripCell_inb lo wid t)

/-- The sums after `k` trips. -/
def zIter (lo hi : BitVec 32) (wid : ℕ → BitVec 32) (X : ℕ → F .f32) : ℕ → (S2048.Idx → F .f32)
  | 0 => fun _ => Scalar.ofBits .f32 0x00000000#32
  | k + 1 => zStep lo hi wid X k (zIter lo hi wid X k)

/-- The reciprocals of the sums. -/
def zInv (lo hi : BitVec 32) (wid : ℕ → BitVec 32) (X : ℕ → F .f32) : S2048.Idx → F .f32 :=
  fun j => FloatOps.divf (Scalar.ofBits .f32 0x3F800000#32) (zIter lo hi wid X 814 j)

/-- The chunk's result at position `j` of the window. -/
def fin (lo hi : BitVec 32) (wid : ℕ → BitVec 32) (X : ℕ → F .f32) (j : ℕ) : F .f32 :=
  FloatOps.mulf (FloatOps.exp (X j)) (zInv lo hi wid X (cellIx lo (wid j)))

/-- Where the window of a chunk starts. -/
def winStart (base : ℕ) : ℕ := min 786976 (base - 256)

/-- The chunk of `c2` elements from `base`, at the array's position `n`. -/
def chunk (ids : ℕ → BitVec 32) (s : ℕ → F .f32) (base c2 n : ℕ) : F .f32 :=
  fin (ids base) (ids (base + c2 - 1)) (fun j => ids (winStart base + j)) (fun j => s (winStart base + j)) (n - winStart base)

/-- The kernel's result at position `n`. -/
def outAt (ids : ℕ → BitVec 32) (s : ℕ → F .f32) (n : ℕ) : F .f32 :=
  if n % 25000 < 12504 then chunk ids s (n / 25000 * 25000) 12504 n else chunk ids s (n / 25000 * 25000 + 12504) 12496 n

/-- A result array. -/
def outArr (ids : S800000.Idx → BitVec 32) (s : S800000.Idx → F .f32) : S800000.Idx → F .f32 :=
  fun j => outAt (rd ids) (rd s) (j 0).val

/-! ## The printed payloads are these -/

theorem trips_t1 : k1_t1_loop.trips = 128 := by decide
theorem trips_t2 : k1_t2_loop.trips = 814 := by decide

theorem pay4_val (t : Fin k1_t2_loop.trips) (x : S16.Idx) : (k1_pay4 k1_pay3 t x).toNat = lanePos t.val x := by
  have ht : t.val < 814 := trips_t2 ▸ t.isLt
  have hx : (x 0).val < 16 := (x 0).isLt
  show ((BitVec.ofNat 32 (0 * 16 + (x 0).val) * 814#32) + (0#32 + ((0#32 + BitVec.ofNat 32 t.val * 1#32) * 1#32))).toNat = _
  unfold lanePos
  simp only [BitVec.toNat_add, BitVec.toNat_mul, BitVec.toNat_ofNat]
  omega

theorem pay5_eq (v15 v53 : IVec S16 32) (x : S16.Idx) : k1_pay5 (F := F) v15 v53 x = cell (v15 (lane 0 (by decide))) (v53 x) := by
  have e : k1_pay5 (F := F) v15 v53 x = cell (v15 (fun a => ⟨![0] a + ((fun a => ⟨![0] a, inpos_S1_p0 a⟩ : S1.Idx) (Fin.cast slices_S16_o0_S1.1.symm a)).val, _⟩)) (v53 x) := rfl
  rw [e]; congr 2; funext a; match a with | 0 => rfl
theorem pay6_eq (v15 v21 v53 : IVec S16 32) (x : S16.Idx) :
    k1_pay6 (F := F) v15 v21 v53 x = isIn (v15 (lane 0 (by decide))) (v21 (lane 15 (by decide))) (v53 x) := by
  have e : k1_pay6 (F := F) v15 v21 v53 x = isIn
      (v15 (fun a => ⟨![0] a + ((fun a => ⟨![0] a, inpos_S1_p0 a⟩ : S1.Idx) (Fin.cast slices_S16_o0_S1.1.symm a)).val, _⟩))
      (v21 (fun a => ⟨![15] a + ((fun a => ⟨![0] a, inpos_S1_p0 a⟩ : S1.Idx) (Fin.cast slices_S16_o15_S1.1.symm a)).val, _⟩)) (v53 x) := rfl
  rw [e]; congr 2 <;> (funext a; match a with | 0 => rfl)

theorem body_t5 : k1_t5_body (F := F) = k1_t1_body (F := F) := rfl
theorem body_t6 : k1_t6_body (F := F) = k1_t2_body (F := F) := rfl
theorem body_t7 : k1_t7_body (F := F) = k1_t3_body (F := F) := rfl
theorem body_t8 : k1_t8_body (F := F) = k1_t4_body (F := F) := rfl

end Cert.Proof

end
-- ==== Proof.Setup.lean ====
/-
  The program as the launch theorem sees it: its labels, its resource algebra, and names for the arrays and the buffers
  a tile works on.
-/
module

public import proofs.«01_k».proof.Defs
public import proofs.«01_k».proof.Proof.Model
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The coordinates of a tile -/

abbrev cV (L : grid1.Coords) : Fin τ.nSC := (L 0).castLE hcore1
abbrev jV (L : grid1.Coords) : Fin τ.nSub := (L 1).castLE hsub1

/-! ## The arrays and buffers as a tile names them -/

abbrev sV0 : Memref sig .scVector .hbm S800000 .f32 := Memref.whole main_v7_0_scv
abbrev sV1 : Memref sig .scVector .hbm S800000 .f32 := Memref.whole main_v7_1_scv
abbrev sV2 : Memref sig .scVector .hbm S800000 .f32 := Memref.whole main_v7_2_scv
abbrev sV3 : Memref sig .scVector .hbm S800000 .f32 := Memref.whole main_v7_3_scv
abbrev iV : Memref sig .scVector .hbm S800000 .i32 := Memref.whole main_arg11_scv
abbrev oV0 : Memref sig .scVector .hbm S800000 .f32 := Memref.whole main_v8_0_scv
abbrev oV1 : Memref sig .scVector .hbm S800000 .f32 := Memref.whole main_v8_1_scv
abbrev oV2 : Memref sig .scVector .hbm S800000 .f32 := Memref.whole main_v8_2_scv
abbrev oV3 : Memref sig .scVector .hbm S800000 .f32 := Memref.whole main_v8_3_scv
abbrev tI : Memref sig .scVector .vmem S13040 .i32 := Memref.whole cc1_scratch0
abbrev tX0 : Memref sig .scVector .vmem S13024 .f32 := Memref.whole cc1_scratch1
abbrev tX1 : Memref sig .scVector .vmem S13024 .f32 := Memref.whole cc1_scratch2
abbrev tX2 : Memref sig .scVector .vmem S13024 .f32 := Memref.whole cc1_scratch3
abbrev tX3 : Memref sig .scVector .vmem S13024 .f32 := Memref.whole cc1_scratch4
abbrev tZ0 : Memref sig .scVector .vmem S2048 .f32 := Memref.whole cc1_scratch5
abbrev tZ1 : Memref sig .scVector .vmem S2048 .f32 := Memref.whole cc1_scratch6
abbrev tZ2 : Memref sig .scVector .vmem S2048 .f32 := Memref.whole cc1_scratch7
abbrev tZ3 : Memref sig .scVector .vmem S2048 .f32 := Memref.whole cc1_scratch8

end Cert.Proof

end
-- ==== Proof.Trips.lean ====
/-
  One trip of each of a chunk's four loops, with the values the buffers hold. The second chunk's loops have the first's
  bodies (`Model.lean`).
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The four bodies at the arrays and buffers of a tile. -/
abbrev body1 (L : grid1.Coords) := k1_t1_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body2 (L : grid1.Coords) := k1_t2_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body3 (L : grid1.Coords) := k1_t3_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body4 (L : grid1.Coords) := k1_t4_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17

variable (d : Dev nD) (L : grid1.Coords)

abbrev thr : Thread nD τ := V d (cV L) (jV L)

abbrev ptI (f : S13040.Idx → BitVec 32) : sProp 𝕄 := (tI).view.loc (thr d L) ↦{fullShare} f
abbrev ptX0 (f : S13024.Idx → F .f32) : sProp 𝕄 := (tX0).view.loc (thr d L) ↦{fullShare} f
abbrev ptX1 (f : S13024.Idx → F .f32) : sProp 𝕄 := (tX1).view.loc (thr d L) ↦{fullShare} f
abbrev ptX2 (f : S13024.Idx → F .f32) : sProp 𝕄 := (tX2).view.loc (thr d L) ↦{fullShare} f
abbrev ptX3 (f : S13024.Idx → F .f32) : sProp 𝕄 := (tX3).view.loc (thr d L) ↦{fullShare} f
abbrev ptZ0 (f : S2048.Idx → F .f32) : sProp 𝕄 := (tZ0).view.loc (thr d L) ↦{fullShare} f
abbrev ptZ1 (f : S2048.Idx → F .f32) : sProp 𝕄 := (tZ1).view.loc (thr d L) ↦{fullShare} f
abbrev ptZ2 (f : S2048.Idx → F .f32) : sProp 𝕄 := (tZ2).view.loc (thr d L) ↦{fullShare} f
abbrev ptZ3 (f : S2048.Idx → F .f32) : sProp 𝕄 := (tZ3).view.loc (thr d L) ↦{fullShare} f

/-! ## A slab of 16 written into, or read out of, a buffer of sums -/

/-- The sums' buffer after `k` trips of the clearing loop, over whatever it held. -/
def zClr (f : S2048.Idx → F .f32) (k : ℕ) : S2048.Idx → F .f32 := fun j => if (j 0).val < 16 * k then Scalar.ofBits .f32 0x00000000#32 else f j
/-- The sums' buffer after `k` trips of the inverting loop. -/
def zRec (f : S2048.Idx → F .f32) (k : ℕ) : S2048.Idx → F .f32 :=
  fun j => if (j 0).val < 16 * k then FloatOps.divf (Scalar.ofBits .f32 0x3F800000#32) (f j) else f j

/-- A view of a whole buffer of 2048 cells, written at 16 cells from `16 k`, holds the payload there and the rest elsewhere. -/
theorem writes_slab (v : View sig .scVector .vmem S2048 .f32) (f : v.ty.Contents (Elt F)) (off : Fin 1 → ℕ) (h : ∀ a, off a + S16.size a ≤ S2048.size a)
    (k : ℕ) (hk : off = ![16 * k]) (w : S16.Idx → F .f32) (y : S2048.Idx) (g : S2048.Idx → F .f32) (val : F .f32)
    (hin : ∀ x : S16.Idx, (y 0).val = 16 * k + (x 0).val → w x = val)
    (hout : ¬(16 * k ≤ (y 0).val ∧ (y 0).val < 16 * k + 16) → v.read (Elt F) f y = val) :
    v.read (Elt F) (v.writes (Elt F) f [⟨Rect.unit (s := S2048) off S16.size h, w⟩]) y = val := by
  subst hk
  by_cases hy : 16 * k ≤ (y 0).val ∧ (y 0).val < 16 * k + 16
  · have hx : (y 0).val - 16 * k < 16 := by omega
    rw [View.read_writes_cons_hit_of_coords v f (Rect.unit (s := S2048) _ S16.size h) w [] (lane ((y 0).val - 16 * k) hx) y]
    · exact hin _ (show (y 0).val = 16 * k + ((y 0).val - 16 * k) by omega)
    · intro a; match a with
      | 0 => show (y 0).val = 16 * k + 1 * ((y 0).val - 16 * k); omega
  · rw [View.read_writes_cons_miss_of_axis (v := v) f _ [] y 0 (16 * k) 16 rfl rfl rfl (by omega)]
    exact hout hy

theorem trip1 (f0 f1 f2 f3 : S2048.Idx → F .f32) (v3 : FVec F S16 .f32) (v6 : IVec S16 32) (v13 : BitVec 32) (k : Fin k1_t1_loop.trips) (u : Unit) :
    iprop(ptZ0 d L (zClr f0 k.val) ∗ ptZ1 d L (zClr f1 k.val) ∗ ptZ2 d L (zClr f2 k.val) ∗ ptZ3 d L (zClr f3 k.val))
      ⊢ wp frame (wpE (defs₀ (F := F)) 𝒱₀ (thr d L) none) Set.univ (body1 L k1_pay1 v3 v6 v13 k u)
          fun _ => iprop(ptZ0 d L (zClr f0 (k.val + 1)) ∗ ptZ1 d L (zClr f1 (k.val + 1)) ∗ ptZ2 d L (zClr f2 (k.val + 1)) ∗ ptZ3 d L (zClr f3 (k.val + 1))) := by
  have E (v : View sig .scVector .vmem S2048 .f32) (f : S2048.Idx → F .f32) (y : S2048.Idx) (g : v.ty.Contents (Elt F)) (hg : v.read (Elt F) g = zClr f k.val) :
      v.read (Elt F) (v.writes (Elt F) g [⟨Rect.unit (s := S2048) (k1_off4 k) S16.size (k1_off4_inb k), k1_pay1⟩]) y = zClr f (k.val + 1) y := by
    refine writes_slab v g _ _ k.val (k1_off4_eq k) _ y (zClr f k.val) _ (fun x hx => ?_) (fun h => ?_)
    · have := (x 0).isLt; have : (x 0).val < 16 := (x 0).isLt
      unfold zClr; rw [if_pos (by omega)]; rfl
    · rw [hg]; unfold zClr
      by_cases h2 : (y 0).val < 16 * k.val
      · rw [if_pos h2, if_pos (by omega)]
      · rw [if_neg h2, if_neg (by omega)]
  unfold body1 k1_t1_body
  iintro ⟨H0, H1, H2, H3⟩
  sl_exec
  sl_step
  isplitl [H0]
  · iapply (Entails.of_eq ?_) $$ H0; exact congrArg (ptZ0 d L) (funext fun y => E (tZ0).view f0 y (zClr f0 k.val) rfl)
  isplitl [H1]
  · iapply (Entails.of_eq ?_) $$ H1; exact congrArg (ptZ1 d L) (funext fun y => E (tZ1).view f1 y (zClr f1 k.val) rfl)
  isplitl [H2]
  · iapply (Entails.of_eq ?_) $$ H2; exact congrArg (ptZ2 d L) (funext fun y => E (tZ2).view f2 y (zClr f2 k.val) rfl)
  · iapply (Entails.of_eq ?_) $$ H3; exact congrArg (ptZ3 d L) (funext fun y => E (tZ3).view f3 y (zClr f3 k.val) rfl)

theorem trip3 (f0 f1 f2 f3 : S2048.Idx → F .f32) (v2 : FVec F S16 .f32) (v6 : IVec S16 32) (v13 : BitVec 32) (k : Fin k1_t3_loop.trips) (u : Unit) :
    iprop(ptZ0 d L (zRec f0 k.val) ∗ ptZ1 d L (zRec f1 k.val) ∗ ptZ2 d L (zRec f2 k.val) ∗ ptZ3 d L (zRec f3 k.val))
      ⊢ wp frame (wpE (defs₀ (F := F)) 𝒱₀ (thr d L) none) Set.univ (body3 L v2 k1_pay2 v6 v13 k u)
          fun _ => iprop(ptZ0 d L (zRec f0 (k.val + 1)) ∗ ptZ1 d L (zRec f1 (k.val + 1)) ∗ ptZ2 d L (zRec f2 (k.val + 1)) ∗ ptZ3 d L (zRec f3 (k.val + 1))) := by
  have hk : k.val < 128 := trips_t1 ▸ k.isLt
  have E (v : View sig .scVector .vmem S2048 .f32) (f : S2048.Idx → F .f32) (y : S2048.Idx) (g : v.ty.Contents (Elt F)) (hg : v.read (Elt F) g = zRec f k.val)
      (w : Vec F S16 .f32) (hw : ∀ x y, (y 0).val = 16 * k.val + (x 0).val → w x = FloatOps.divf (Scalar.ofBits .f32 0x3F800000#32) (f y)) :
      v.read (Elt F) (v.writes (Elt F) g [⟨Rect.unit (s := S2048) (k1_off5 k) S16.size (k1_off5_inb k), w⟩]) y = zRec f (k.val + 1) y := by
    refine writes_slab v g _ _ k.val (k1_off5_eq k) _ y (zRec f k.val) _ (fun x hx => ?_) (fun h => ?_)
    · have : (x 0).val < 16 := (x 0).isLt
      unfold zRec; rw [if_pos (by omega)]; exact hw x y hx
    · rw [hg]; unfold zRec
      by_cases h2 : (y 0).val < 16 * k.val
      · rw [if_pos h2, if_pos (by omega)]
      · rw [if_neg h2, if_neg (by omega)]
  have R (v : View sig .scVector .vmem S2048 .f32) (f : S2048.Idx → F .f32) (g : v.ty.Contents (Elt F)) (hg : v.read (Elt F) g = zRec f k.val) (x : S16.Idx) (y : S2048.Idx)
      (h : (y 0).val = 16 * k.val + (x 0).val) :
      v.readAt (Elt F) (Rect.unit (s := S2048) (k1_off5 k) S16.size (k1_off5_inb k)).toLoadRect g x = f y := by
    have e : v.readAt (Elt F) (Rect.unit (s := S2048) (k1_off5 k) S16.size (k1_off5_inb k)).toLoadRect g x
        = v.read (Elt F) g ((Rect.unit (s := S2048) (k1_off5 k) S16.size (k1_off5_inb k)).emb x) := rfl
    have ey : (Rect.unit (s := S2048) (k1_off5 k) S16.size (k1_off5_inb k)).emb x = y := by
      refine Rect.emb_eq_of_coords _ _ _ fun a => ?_
      match a with
      | 0 => show (y 0).val = k1_off5 k 0 + 1 * (x 0).val; rw [k1_off5_eq]; rw [h]; simp
    rw [e, ey, hg]; unfold zRec; rw [if_neg (by omega)]
  unfold body3 k1_t3_body
  iintro ⟨H0, H1, H2, H3⟩
  sl_exec
  sl_step
  isplitl [H0]
  · iapply (Entails.of_eq ?_) $$ H0; exact congrArg (ptZ0 d L) (funext fun y => E (tZ0).view f0 y (zRec f0 k.val) rfl _ fun x y h => congrArg (FloatOps.divf _) (R (tZ0).view f0 (zRec f0 k.val) rfl x y h))
  isplitl [H1]
  · iapply (Entails.of_eq ?_) $$ H1; exact congrArg (ptZ1 d L) (funext fun y => E (tZ1).view f1 y (zRec f1 k.val) rfl _ fun x y h => congrArg (FloatOps.divf _) (R (tZ1).view f1 (zRec f1 k.val) rfl x y h))
  isplitl [H2]
  · iapply (Entails.of_eq ?_) $$ H2; exact congrArg (ptZ2 d L) (funext fun y => E (tZ2).view f2 y (zRec f2 k.val) rfl _ fun x y h => congrArg (FloatOps.divf _) (R (tZ2).view f2 (zRec f2 k.val) rfl x y h))
  · iapply (Entails.of_eq ?_) $$ H3; exact congrArg (ptZ3 d L) (funext fun y => E (tZ3).view f3 y (zRec f3 k.val) rfl _ fun x y h => congrArg (FloatOps.divf _) (R (tZ3).view f3 (zRec f3 k.val) rfl x y h))

/-! ## Gathers and scatters of a trip -/

/-- A gather out of a buffer held outright. -/
theorem ldIdx {S0 T0 : Shape} {e : EltTy} {α : Type} {Q : α → sProp 𝕄} (base : Memref sig .scVector .vmem S0 e) (idxs : Fin S0.rank → IVec T0 32)
    (h : ∀ a x, (idxs a x).toNat < S0.size a) (hl : base.view.Loads) (kk : Vec F T0 e → Prog (TpuEff nD τ sig (Elt F) Λ₀ (thr d L).2) α)
    (f : Buf (Elt F) ((base.access (.whole S0)).loc (thr d L))) (g : Vec F S0 e) (hg : (base.access (.whole S0)).read (Elt F) f = g)
    (r : Vec F T0 e) (hr : loadIdx g idxs h = r) :
    ((base.access (.whole S0)).loc (thr d L) ↦{fullShare} f : sProp 𝕄)
      ⊢ iprop((((base.access (.whole S0)).loc (thr d L) ↦{fullShare} f) -∗ wp frame (wpE (defs₀ (F := F)) 𝒱₀ (thr d L) none) Set.univ (kk r) Q)
        -∗ wp frame (wpE (defs₀ (F := F)) 𝒱₀ (thr d L) none) Set.univ (SparseCore.vectorLoadIdx base idxs h hl >>= kk) Q) := by
  subst hg hr
  exact SparseCore.wp_vectorLoadIdx (defs := defs₀ (F := F)) (c := thr d L) (base := base) (hl := hl) (h := h) (k := kk) (f := f) (Q := Q) 𝒱₀ none Set.univ (S := Finset.univ) (q := fullShare) (Finset.subset_univ _)

/-- A scatter into a buffer held outright. -/
theorem stIdx {S0 : Shape} {e : EltTy} {dd : Fin 1 → ℕ} {α : Type} {Q : α → sProp 𝕄} (base : Memref sig .scVector .vmem S0 e) (idxs : Fin S0.rank → IVec ⟨1, dd⟩ 32)
    (v : Vec F ⟨1, dd⟩ e) (mask : IVec ⟨1, dd⟩ 1) (add : Bool)
    (h : ∀ a x, (idxs a x).toNat < S0.size a) (hs : (base.access (.whole S0)).Stores Finset.univ) (kk : PUnit → Prog (TpuEff nD τ sig (Elt F) Λ₀ (thr d L).2) α)
    (f f' : Buf (Elt F) ((base.access (.whole S0)).loc (thr d L))) (g g' : Vec F S0 e) (hu : (base.access (.whole S0)).set = Finset.univ)
    (hg : (base.access (.whole S0)).read (Elt F) f = g)
    (hs' : storeIdx g idxs v mask add h = g')
    (hf : (base.access (.whole S0)).write (Elt F) f g' Finset.univ = f') :
    ((base.access (.whole S0)).loc (thr d L) ↦{fullShare} f : sProp 𝕄)
      ⊢ iprop((((base.access (.whole S0)).loc (thr d L) ↦{fullShare} f') -∗ wp frame (wpE (defs₀ (F := F)) 𝒱₀ (thr d L) none) Set.univ (kk ⟨⟩) Q)
        -∗ wp frame (wpE (defs₀ (F := F)) 𝒱₀ (thr d L) none) Set.univ (SparseCore.vectorStoreIdx base idxs v mask add h hs >>= kk) Q) := by
  subst hg hs' hf
  have := SparseCore.wp_vectorStoreIdx (defs := defs₀ (F := F)) (c := thr d L) 𝒱₀ none Set.univ (base := base) (idxs := idxs) (v := v) (mask := mask) (add := add) (h := h) (hs := hs) (k := kk) (f := f) (Q := Q)
  rw [hu] at this
  exact this

theorem rdI (f : S13040.Idx → BitVec 32) : (tI.access (.whole S13040)).read (Elt F) f = f := Memref.read_access_whole (Elt F) cc1_scratch0 f
theorem rdX0 (f : S13024.Idx → F .f32) : (tX0.access (.whole S13024)).read (Elt F) f = f := Memref.read_access_whole (Elt F) cc1_scratch1 f
theorem wrX0 (f g : S13024.Idx → F .f32) : (tX0.access (.whole S13024)).write (Elt F) f g Finset.univ = g := Memref.write_access_whole_univ (Elt F) cc1_scratch1 f g
theorem unX0 : (tX0.access (.whole S13024)).set = Finset.univ := Memref.set_access_whole cc1_scratch1
theorem rdZ0 (f : S2048.Idx → F .f32) : (tZ0.access (.whole S2048)).read (Elt F) f = f := Memref.read_access_whole (Elt F) cc1_scratch5 f
theorem wrZ0 (f g : S2048.Idx → F .f32) : (tZ0.access (.whole S2048)).write (Elt F) f g Finset.univ = g := Memref.write_access_whole_univ (Elt F) cc1_scratch5 f g
theorem unZ0 : (tZ0.access (.whole S2048)).set = Finset.univ := Memref.set_access_whole cc1_scratch5
theorem rdX1 (f : S13024.Idx → F .f32) : (tX1.access (.whole S13024)).read (Elt F) f = f := Memref.read_access_whole (Elt F) cc1_scratch2 f
theorem wrX1 (f g : S13024.Idx → F .f32) : (tX1.access (.whole S13024)).write (Elt F) f g Finset.univ = g := Memref.write_access_whole_univ (Elt F) cc1_scratch2 f g
theorem unX1 : (tX1.access (.whole S13024)).set = Finset.univ := Memref.set_access_whole cc1_scratch2
theorem rdZ1 (f : S2048.Idx → F .f32) : (tZ1.access (.whole S2048)).read (Elt F) f = f := Memref.read_access_whole (Elt F) cc1_scratch6 f
theorem wrZ1 (f g : S2048.Idx → F .f32) : (tZ1.access (.whole S2048)).write (Elt F) f g Finset.univ = g := Memref.write_access_whole_univ (Elt F) cc1_scratch6 f g
theorem unZ1 : (tZ1.access (.whole S2048)).set = Finset.univ := Memref.set_access_whole cc1_scratch6
theorem rdX2 (f : S13024.Idx → F .f32) : (tX2.access (.whole S13024)).read (Elt F) f = f := Memref.read_access_whole (Elt F) cc1_scratch3 f
theorem wrX2 (f g : S13024.Idx → F .f32) : (tX2.access (.whole S13024)).write (Elt F) f g Finset.univ = g := Memref.write_access_whole_univ (Elt F) cc1_scratch3 f g
theorem unX2 : (tX2.access (.whole S13024)).set = Finset.univ := Memref.set_access_whole cc1_scratch3
theorem rdZ2 (f : S2048.Idx → F .f32) : (tZ2.access (.whole S2048)).read (Elt F) f = f := Memref.read_access_whole (Elt F) cc1_scratch7 f
theorem wrZ2 (f g : S2048.Idx → F .f32) : (tZ2.access (.whole S2048)).write (Elt F) f g Finset.univ = g := Memref.write_access_whole_univ (Elt F) cc1_scratch7 f g
theorem unZ2 : (tZ2.access (.whole S2048)).set = Finset.univ := Memref.set_access_whole cc1_scratch7
theorem rdX3 (f : S13024.Idx → F .f32) : (tX3.access (.whole S13024)).read (Elt F) f = f := Memref.read_access_whole (Elt F) cc1_scratch4 f
theorem wrX3 (f g : S13024.Idx → F .f32) : (tX3.access (.whole S13024)).write (Elt F) f g Finset.univ = g := Memref.write_access_whole_univ (Elt F) cc1_scratch4 f g
theorem unX3 : (tX3.access (.whole S13024)).set = Finset.univ := Memref.set_access_whole cc1_scratch4
theorem rdZ3 (f : S2048.Idx → F .f32) : (tZ3.access (.whole S2048)).read (Elt F) f = f := Memref.read_access_whole (Elt F) cc1_scratch8 f
theorem wrZ3 (f g : S2048.Idx → F .f32) : (tZ3.access (.whole S2048)).write (Elt F) f g Finset.univ = g := Memref.write_access_whole_univ (Elt F) cc1_scratch8 f g
theorem unZ3 : (tZ3.access (.whole S2048)).set = Finset.univ := Memref.set_access_whole cc1_scratch8

theorem storeIdx_congr {S0 : Shape} {e : EltTy} {dd : Fin 1 → ℕ} {f : Vec F S0 e} {i i' : Fin S0.rank → IVec ⟨1, dd⟩ 32} {v v' : Vec F ⟨1, dd⟩ e} {mk mk' : IVec ⟨1, dd⟩ 1} {add : Bool}
    (hi : i = i') (hv : v = v') (hm : mk = mk') (h : ∀ a x, (i a x).toNat < S0.size a) (h' : ∀ a x, (i' a x).toNat < S0.size a) :
    storeIdx f i v mk add h = storeIdx f i' v' mk' add h' := by subst hi hv hm; rfl

/-- The window of a score row, as a buffer holds it. -/
def winX (X : ℕ → F .f32) : S13024.Idx → F .f32 := fun j => X (j 0).val

theorem lanePos_lt (k : Fin k1_t2_loop.trips) (x : S16.Idx) : lanePos k.val x < 13024 := by
  have ht : k.val < 814 := trips_t2 ▸ k.isLt
  have hx : (x 0).val < 16 := (x 0).isLt
  unfold lanePos; omega

theorem chk_pos (k : Fin k1_t2_loop.trips) (n : ℕ) (hn : 13024 ≤ n) : ∀ a x, ((![k1_pay4 k1_pay3 k] : Fin 1 → IVec S16 32) a x).toNat < (⟨1, ![n]⟩ : Shape).size a := by
  intro a x
  match a with
  | 0 => show (k1_pay4 k1_pay3 k x).toNat < n; rw [pay4_val]; have := lanePos_lt k x; omega

theorem chk_cell (v15 v53 : IVec S16 32) : ∀ a x, ((![k1_pay5 (F := F) v15 v53] : Fin 1 → IVec S16 32) a x).toNat < S2048.size a := by
  intro a x
  match a with
  | 0 => show (k1_pay5 (F := F) v15 v53 x).toNat < 2048; rw [pay5_eq]; exact cell_lt _ _

theorem chk1_holds (k : Fin k1_t2_loop.trips) : k1_chk1 (k1_pay4 k1_pay3 k) :=
  ⟨chk_pos k 13040 (by decide), chk_pos k 13024 le_rfl, chk_pos k 13024 le_rfl, chk_pos k 13024 le_rfl, chk_pos k 13024 le_rfl⟩
theorem chk2_holds (v15 v53 : IVec S16 32) : k1_chk2 (k1_pay5 (F := F) v15 v53) := ⟨chk_cell v15 v53, chk_cell v15 v53, chk_cell v15 v53, chk_cell v15 v53⟩
theorem chk3_holds (k : Fin k1_t2_loop.trips) : k1_chk3 (k1_pay4 k1_pay3 k) :=
  ⟨chk_pos k 13040 (by decide), chk_pos k 13024 le_rfl, chk_pos k 13024 le_rfl, chk_pos k 13024 le_rfl, chk_pos k 13024 le_rfl, chk_pos k 13024 le_rfl,
    chk_pos k 13024 le_rfl, chk_pos k 13024 le_rfl, chk_pos k 13024 le_rfl⟩
theorem chk4_holds (v15 v53 : IVec S16 32) : k1_chk4 (k1_pay5 (F := F) v15 v53) := ⟨chk_cell v15 v53, chk_cell v15 v53, chk_cell v15 v53, chk_cell v15 v53⟩

theorem ld_ids (k : Fin k1_t2_loop.trips) (I : S13040.Idx → BitVec 32) (wid : ℕ → BitVec 32) (hI : ∀ j : S13040.Idx, (j 0).val < 13024 → I j = wid (j 0).val)
    (h : ∀ a x, ((![k1_pay4 k1_pay3 k] : Fin 1 → IVec S16 32) a x).toNat < S13040.size a) :
    loadIdx (F := F) (e := .i32) I ![k1_pay4 k1_pay3 k] h = tripId wid k.val := by
  funext x
  have e : ((idxAt (s := S13040) ![k1_pay4 k1_pay3 k] h x) 0).val = lanePos k.val x := pay4_val k x
  show I (idxAt (s := S13040) ![k1_pay4 k1_pay3 k] h x) = wid (lanePos k.val x)
  rw [hI _ (e ▸ lanePos_lt k x), e]
theorem ld_win (k : Fin k1_t2_loop.trips) (X : ℕ → F .f32)
    (h : ∀ a x, ((![k1_pay4 k1_pay3 k] : Fin 1 → IVec S16 32) a x).toNat < S13024.size a) :
    loadIdx (F := F) (e := .f32) (winX X) ![k1_pay4 k1_pay3 k] h = tripX X k.val := by
  funext x
  exact congrArg X (pay4_val k x)

theorem st_sum (lo hi : BitVec 32) (wid : ℕ → BitVec 32) (X : ℕ → F .f32) (k : Fin k1_t2_loop.trips) (z : S2048.Idx → F .f32)
    (v15 v21 v53 : IVec S16 32) (h15 : v15 (lane 0 (by decide)) = lo) (h21 : v21 (lane 15 (by decide)) = hi) (h53 : v53 = tripId wid k.val)
    (v : FVec F S16 .f32) (hv : v = tripX X k.val)
    (h : ∀ a x, ((![k1_pay5 (F := F) v15 v53] : Fin 1 → IVec S16 32) a x).toNat < S2048.size a) :
    storeIdx (F := F) (e := .f32) z ![k1_pay5 (F := F) v15 v53] (exp v) (k1_pay6 (F := F) v15 v21 v53) true h = zStep lo hi wid X k.val z := by
  subst h15 h21 h53 hv
  unfold zStep
  refine storeIdx_congr ?_ rfl ?_ _ _
  · congr 1; funext x; exact pay5_eq _ _ x
  · funext x; exact pay6_eq _ _ _ x

theorem trip2 (lo hi : BitVec 32) (wid : ℕ → BitVec 32) (I : S13040.Idx → BitVec 32) (hI : ∀ j : S13040.Idx, (j 0).val < 13024 → I j = wid (j 0).val)
    (X0 X1 X2 X3 : ℕ → F .f32) (v2 v3 : FVec F S16 .f32) (v13 : BitVec 32) (v15 v21 : IVec S16 32)
    (h15 : v15 (lane 0 (by decide)) = lo) (h21 : v21 (lane 15 (by decide)) = hi) (k : Fin k1_t2_loop.trips) (u : Unit) :
    iprop(ptI d L I ∗ (ptX0 d L (winX X0) ∗ ptX1 d L (winX X1) ∗ ptX2 d L (winX X2) ∗ ptX3 d L (winX X3))
        ∗ (ptZ0 d L (zIter lo hi wid X0 k.val) ∗ ptZ1 d L (zIter lo hi wid X1 k.val) ∗ ptZ2 d L (zIter lo hi wid X2 k.val) ∗ ptZ3 d L (zIter lo hi wid X3 k.val)))
      ⊢ wp frame (wpE (defs₀ (F := F)) 𝒱₀ (thr d L) none) Set.univ (body2 L v2 v3 k1_pay3 v13 v15 v21 k u)
          fun _ => iprop(ptI d L I ∗ (ptX0 d L (winX X0) ∗ ptX1 d L (winX X1) ∗ ptX2 d L (winX X2) ∗ ptX3 d L (winX X3))
            ∗ (ptZ0 d L (zIter lo hi wid X0 (k.val + 1)) ∗ ptZ1 d L (zIter lo hi wid X1 (k.val + 1)) ∗ ptZ2 d L (zIter lo hi wid X2 (k.val + 1)) ∗ ptZ3 d L (zIter lo hi wid X3 (k.val + 1)))) := by
  unfold body2 k1_t2_body
  iintro ⟨HI, ⟨H0, H1, H2, H3⟩, Z0, Z1, Z2, Z3⟩
  sl_exec (disch := exact chk1_holds k)
  iapply (ldIdx d L tI _ _ _ _ I I (rdI I) _ (ld_ids k I wid hI _)) $$ HI; iintro HI
  sl_exec (disch := exact chk2_holds (F := F) v15 _)
  iapply (ldIdx d L tX0 _ _ _ _ (winX X0) (winX X0) (rdX0 _) _ (ld_win k X0 _)) $$ H0; iintro H0
  iapply (stIdx d L tZ0 _ _ _ _ _ _ _ (zIter lo hi wid X0 k.val) (zIter lo hi wid X0 (k.val + 1)) _ _ unZ0 (rdZ0 _)
    (st_sum lo hi wid X0 k _ v15 v21 _ h15 h21 rfl _ rfl _) (wrZ0 _ _)) $$ Z0; iintro Z0
  iapply (ldIdx d L tX1 _ _ _ _ (winX X1) (winX X1) (rdX1 _) _ (ld_win k X1 _)) $$ H1; iintro H1
  iapply (stIdx d L tZ1 _ _ _ _ _ _ _ (zIter lo hi wid X1 k.val) (zIter lo hi wid X1 (k.val + 1)) _ _ unZ1 (rdZ1 _)
    (st_sum lo hi wid X1 k _ v15 v21 _ h15 h21 rfl _ rfl _) (wrZ1 _ _)) $$ Z1; iintro Z1
  iapply (ldIdx d L tX2 _ _ _ _ (winX X2) (winX X2) (rdX2 _) _ (ld_win k X2 _)) $$ H2; iintro H2
  iapply (stIdx d L tZ2 _ _ _ _ _ _ _ (zIter lo hi wid X2 k.val) (zIter lo hi wid X2 (k.val + 1)) _ _ unZ2 (rdZ2 _)
    (st_sum lo hi wid X2 k _ v15 v21 _ h15 h21 rfl _ rfl _) (wrZ2 _ _)) $$ Z2; iintro Z2
  iapply (ldIdx d L tX3 _ _ _ _ (winX X3) (winX X3) (rdX3 _) _ (ld_win k X3 _)) $$ H3; iintro H3
  iapply (stIdx d L tZ3 _ _ _ _ _ _ _ (zIter lo hi wid X3 k.val) (zIter lo hi wid X3 (k.val + 1)) _ _ unZ3 (rdZ3 _)
    (st_sum lo hi wid X3 k _ v15 v21 _ h15 h21 rfl _ rfl _) (wrZ3 _ _)) $$ Z3; iintro Z3
  sl_step
  isplitl [HI]; · iexact HI
  isplitl [H0 H1 H2 H3]
  · isplitl [H0]; · iexact H0
    isplitl [H1]; · iexact H1
    isplitl [H2]; · iexact H2
    iexact H3
  isplitl [Z0]; · iexact Z0
  isplitl [Z1]; · iexact Z1
  isplitl [Z2]; · iexact Z2
  iexact Z3

/-! ## The last loop -/

theorem storeIdx_all {S0 : Shape} {e : EltTy} {dd : Fin 1 → ℕ} (f : Vec F S0 e) (i : Fin S0.rank → IVec ⟨1, dd⟩ 32) (v : Vec F ⟨1, dd⟩ e)
    (h : ∀ a x, (i a x).toNat < S0.size a) (y : S0.Idx) (val : Elt F e)
    (hin : ∀ x, (∀ a, (y a).val = (i a x).toNat) → v x = val) (hout : (∀ x, ¬∀ a, (y a).val = (i a x).toNat) → f y = val) :
    storeIdx f i v (fun _ => 1#1) false h y = val := by
  have H : (∃ k ∈ List.finRange (dd 0), ∀ a, (y a).val = (i a (Shape.ofLane k)).toNat) ∨ f y = val := by
    by_cases hh : ∃ k : Fin (dd 0), ∀ a, (y a).val = (i a (Shape.ofLane k)).toNat
    · obtain ⟨k, hk⟩ := hh; exact .inl ⟨k, List.mem_finRange k, hk⟩
    · right
      refine hout fun x hx => hh ⟨x 0, ?_⟩
      have : Shape.ofLane (x 0) = x := by funext a; rw [Fin.eq_zero a]; rfl
      intro a; rw [this]; exact hx a
  clear hout
  unfold storeIdx
  generalize List.finRange (dd 0) = l at H ⊢
  induction l generalizing f with
  | nil =>
    rcases H with ⟨k, hk, _⟩ | hg
    · simp at hk
    · exact hg
  | cons k l ih =>
    rw [List.foldl_cons]
    apply ih
    by_cases hk : ∀ a, (y a).val = (i a (Shape.ofLane k)).toNat
    · right
      exact (if_pos hk).trans (hin _ hk)
    · rcases H with ⟨k', hk', hh⟩ | hg
      · rcases List.mem_cons.mp hk' with rfl | hm
        · exact absurd hh hk
        · exact .inl ⟨k', hm, hh⟩
      · right; exact (if_neg hk).trans hg

/-- The window of a score row after `k` trips of the last loop: the positions those trips looked at hold the results. -/
def wFin (lo hi : BitVec 32) (wid : ℕ → BitVec 32) (X : ℕ → F .f32) (k : ℕ) : S13024.Idx → F .f32 :=
  fun j => if (j 0).val % 814 < k then fin lo hi wid X (j 0).val else X (j 0).val

theorem ld_fin (lo hi : BitVec 32) (wid : ℕ → BitVec 32) (k : Fin k1_t2_loop.trips) (X : ℕ → F .f32)
    (h : ∀ a x, ((![k1_pay4 k1_pay3 k] : Fin 1 → IVec S16 32) a x).toNat < S13024.size a) :
    loadIdx (F := F) (e := .f32) (wFin lo hi wid X k.val) ![k1_pay4 k1_pay3 k] h = tripX X k.val := by
  funext x
  have ht : k.val < 814 := trips_t2 ▸ k.isLt
  have e : ((idxAt (s := S13024) ![k1_pay4 k1_pay3 k] h x) 0).val = lanePos k.val x := pay4_val k x
  show wFin lo hi wid X k.val (idxAt (s := S13024) ![k1_pay4 k1_pay3 k] h x) = X (lanePos k.val x)
  unfold wFin
  rw [e, if_neg]
  unfold lanePos; omega

theorem ld_inv (lo hi : BitVec 32) (wid : ℕ → BitVec 32) (k : ℕ) (X : ℕ → F .f32) (v15 v53 : IVec S16 32)
    (h15 : v15 (lane 0 (by decide)) = lo) (h53 : v53 = tripId wid k)
    (h : ∀ a x, ((![k1_pay5 (F := F) v15 v53] : Fin 1 → IVec S16 32) a x).toNat < S2048.size a) :
    loadIdx (F := F) (e := .f32) (zInv lo hi wid X) ![k1_pay5 (F := F) v15 v53] h = fun x => zInv lo hi wid X (cellIx lo (wid (lanePos k x))) := by
  subst h15 h53
  funext x
  refine congrArg (zInv _ hi wid X) (funext fun a => ?_)
  match a with
  | 0 => exact Fin.ext (by show (k1_pay5 (F := F) v15 (tripId wid k) x).toNat = _; rw [pay5_eq]; rfl)

theorem st_fin (lo hi : BitVec 32) (wid : ℕ → BitVec 32) (X : ℕ → F .f32) (k : Fin k1_t2_loop.trips)
    (z : FVec F S16 .f32) (hz : z = fun x => zInv lo hi wid X (cellIx lo (wid (lanePos k.val x)))) (v : FVec F S16 .f32) (hv : v = tripX X k.val)
    (h : ∀ a x, ((![k1_pay4 k1_pay3 k] : Fin 1 → IVec S16 32) a x).toNat < S13024.size a) :
    storeIdx (F := F) (e := .f32) (wFin lo hi wid X k.val) ![k1_pay4 k1_pay3 k] (mulf (exp v) z) (fun _ => 1#1) false h = wFin lo hi wid X (k.val + 1) := by
  subst hz hv
  funext y
  have ht : k.val < 814 := trips_t2 ▸ k.isLt
  have hy : (y 0).val < 13024 := (y 0).isLt
  apply storeIdx_all
  · intro x hx
    have e : (y 0).val = lanePos k.val x := (hx 0).trans (pay4_val k x)
    unfold wFin
    rw [if_pos (by rw [e]; unfold lanePos; omega), e]; rfl
  · intro hx
    have e : (y 0).val % 814 ≠ k.val := by
      intro h2
      have hq : (y 0).val / 814 < 16 := by omega
      refine hx (lane ((y 0).val / 814) hq) fun a => ?_
      match a with
      | 0 =>
        refine Eq.trans ?_ (pay4_val k (lane ((y 0).val / 814) hq)).symm
        show (y 0).val = 814 * ((y 0).val / 814) + k.val
        omega
    unfold wFin
    by_cases h2 : (y 0).val % 814 < k.val
    · rw [if_pos h2, if_pos (by omega)]
    · rw [if_neg h2, if_neg (by omega)]

theorem trip4 (lo hi : BitVec 32) (wid : ℕ → BitVec 32) (I : S13040.Idx → BitVec 32) (hI : ∀ j : S13040.Idx, (j 0).val < 13024 → I j = wid (j 0).val)
    (X0 X1 X2 X3 : ℕ → F .f32) (v2 v3 : FVec F S16 .f32) (v13 : BitVec 32) (v15 : IVec S16 32)
    (h15 : v15 (lane 0 (by decide)) = lo) (k : Fin k1_t4_loop.trips) (u : Unit) :
    iprop(ptI d L I ∗ (ptX0 d L (wFin lo hi wid X0 k.val) ∗ ptX1 d L (wFin lo hi wid X1 k.val) ∗ ptX2 d L (wFin lo hi wid X2 k.val) ∗ ptX3 d L (wFin lo hi wid X3 k.val))
        ∗ (ptZ0 d L (zInv lo hi wid X0) ∗ ptZ1 d L (zInv lo hi wid X1) ∗ ptZ2 d L (zInv lo hi wid X2) ∗ ptZ3 d L (zInv lo hi wid X3)))
      ⊢ wp frame (wpE (defs₀ (F := F)) 𝒱₀ (thr d L) none) Set.univ (body4 L v2 v3 k1_pay3 v13 v15 k u)
          fun _ => iprop(ptI d L I ∗ (ptX0 d L (wFin lo hi wid X0 (k.val + 1)) ∗ ptX1 d L (wFin lo hi wid X1 (k.val + 1)) ∗ ptX2 d L (wFin lo hi wid X2 (k.val + 1)) ∗ ptX3 d L (wFin lo hi wid X3 (k.val + 1)))
            ∗ (ptZ0 d L (zInv lo hi wid X0) ∗ ptZ1 d L (zInv lo hi wid X1) ∗ ptZ2 d L (zInv lo hi wid X2) ∗ ptZ3 d L (zInv lo hi wid X3))) := by
  unfold body4 k1_t4_body
  iintro ⟨HI, ⟨H0, H1, H2, H3⟩, Z0, Z1, Z2, Z3⟩
  sl_exec (disch := exact chk3_holds k)
  iapply (ldIdx d L tI _ _ _ _ I I (rdI I) _ (ld_ids k I wid hI _)) $$ HI; iintro HI
  sl_exec (disch := exact chk4_holds (F := F) v15 _)
  iapply (ldIdx d L tZ0 _ _ _ _ (zInv lo hi wid X0) (zInv lo hi wid X0) (rdZ0 _) _ (ld_inv lo hi wid k.val X0 v15 _ h15 rfl _)) $$ Z0; iintro Z0
  iapply (ldIdx d L tX0 _ _ _ _ (wFin lo hi wid X0 k.val) (wFin lo hi wid X0 k.val) (rdX0 _) _ (ld_fin lo hi wid k X0 _)) $$ H0; iintro H0
  iapply (stIdx d L tX0 _ _ _ _ _ _ _ (wFin lo hi wid X0 k.val) (wFin lo hi wid X0 (k.val + 1)) _ _ unX0 (rdX0 _)
    (st_fin lo hi wid X0 k _ rfl _ rfl _) (wrX0 _ _)) $$ H0; iintro H0
  iapply (ldIdx d L tZ1 _ _ _ _ (zInv lo hi wid X1) (zInv lo hi wid X1) (rdZ1 _) _ (ld_inv lo hi wid k.val X1 v15 _ h15 rfl _)) $$ Z1; iintro Z1
  iapply (ldIdx d L tX1 _ _ _ _ (wFin lo hi wid X1 k.val) (wFin lo hi wid X1 k.val) (rdX1 _) _ (ld_fin lo hi wid k X1 _)) $$ H1; iintro H1
  iapply (stIdx d L tX1 _ _ _ _ _ _ _ (wFin lo hi wid X1 k.val) (wFin lo hi wid X1 (k.val + 1)) _ _ unX1 (rdX1 _)
    (st_fin lo hi wid X1 k _ rfl _ rfl _) (wrX1 _ _)) $$ H1; iintro H1
  iapply (ldIdx d L tZ2 _ _ _ _ (zInv lo hi wid X2) (zInv lo hi wid X2) (rdZ2 _) _ (ld_inv lo hi wid k.val X2 v15 _ h15 rfl _)) $$ Z2; iintro Z2
  iapply (ldIdx d L tX2 _ _ _ _ (wFin lo hi wid X2 k.val) (wFin lo hi wid X2 k.val) (rdX2 _) _ (ld_fin lo hi wid k X2 _)) $$ H2; iintro H2
  iapply (stIdx d L tX2 _ _ _ _ _ _ _ (wFin lo hi wid X2 k.val) (wFin lo hi wid X2 (k.val + 1)) _ _ unX2 (rdX2 _)
    (st_fin lo hi wid X2 k _ rfl _ rfl _) (wrX2 _ _)) $$ H2; iintro H2
  iapply (ldIdx d L tZ3 _ _ _ _ (zInv lo hi wid X3) (zInv lo hi wid X3) (rdZ3 _) _ (ld_inv lo hi wid k.val X3 v15 _ h15 rfl _)) $$ Z3; iintro Z3
  iapply (ldIdx d L tX3 _ _ _ _ (wFin lo hi wid X3 k.val) (wFin lo hi wid X3 k.val) (rdX3 _) _ (ld_fin lo hi wid k X3 _)) $$ H3; iintro H3
  iapply (stIdx d L tX3 _ _ _ _ _ _ _ (wFin lo hi wid X3 k.val) (wFin lo hi wid X3 (k.val + 1)) _ _ unX3 (rdX3 _)
    (st_fin lo hi wid X3 k _ rfl _ rfl _) (wrX3 _ _)) $$ H3; iintro H3
  sl_step
  isplitl [HI]; · iexact HI
  isplitl [H0 H1 H2 H3]
  · isplitl [H0]; · iexact H0
    isplitl [H1]; · iexact H1
    isplitl [H2]; · iexact H2
    iexact H3
  isplitl [Z0]; · iexact Z0
  isplitl [Z1]; · iexact Z1
  isplitl [Z2]; · iexact Z2
  iexact Z3

end Cert.Proof

end
-- ==== Proof.Loops.lean ====
/-
  The four loops of a chunk one after another, from the windows as fetched to the chunk's results in place.
-/
module

public import proofs.«01_k».proof.Proof.Trips

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The four windows of scores. -/
abbrev ptXs (f0 f1 f2 f3 : S13024.Idx → F .f32) : sProp 𝕄 := iprop(ptX0 d L f0 ∗ ptX1 d L f1 ∗ ptX2 d L f2 ∗ ptX3 d L f3)
/-- The four buffers of sums. -/
abbrev ptZs (f0 f1 f2 f3 : S2048.Idx → F .f32) : sProp 𝕄 := iprop(ptZ0 d L f0 ∗ ptZ1 d L f1 ∗ ptZ2 d L f2 ∗ ptZ3 d L f3)

theorem zClr_zero (f : S2048.Idx → F .f32) : zClr f 0 = f := by funext j; simp [zClr]
theorem zClr_end (lo hi : BitVec 32) (wid : ℕ → BitVec 32) (X : ℕ → F .f32) (f : S2048.Idx → F .f32) (k : ℕ) (hk : k = 128) : zClr f k = zIter lo hi wid X 0 := by
  subst hk; funext j
  have : (j 0).val < 2048 := (j 0).isLt
  unfold zClr zIter; rw [if_pos (by omega)]
theorem zRec_zero (f : S2048.Idx → F .f32) : zRec f 0 = f := by funext j; simp [zRec]
theorem zRec_end (lo hi : BitVec 32) (wid : ℕ → BitVec 32) (X : ℕ → F .f32) (k n : ℕ) (hk : k = 128) (hn : n = 814) : zRec (zIter lo hi wid X n) k = zInv lo hi wid X := by
  subst hk hn; funext j
  have : (j 0).val < 2048 := (j 0).isLt
  unfold zRec zInv; rw [if_pos (by omega)]
theorem wFin_zero (lo hi : BitVec 32) (wid : ℕ → BitVec 32) (X : ℕ → F .f32) : wFin lo hi wid X 0 = winX X := by funext j; simp [wFin, winX]
theorem wFin_end (lo hi : BitVec 32) (wid : ℕ → BitVec 32) (X : ℕ → F .f32) (k : ℕ) (hk : k = 814) : wFin lo hi wid X k = winX (fin lo hi wid X) := by
  subst hk; funext j
  unfold wFin winX; rw [if_pos (Nat.mod_lt _ (by decide))]

theorem loop1 (f0 f1 f2 f3 : S2048.Idx → F .f32) (v3 : FVec F S16 .f32) (v6 : IVec S16 32) (v13 : BitVec 32) {α : Type} {Q : α → sProp 𝕄} (kk : PUnit → Prog (TpuEff nD τ sig (Elt F) Λ₀ (thr d L).2) α) :
    ptZs d L f0 f1 f2 f3 ⊢ iprop((ptZs d L (zClr f0 128) (zClr f1 128) (zClr f2 128) (zClr f3 128) -∗ wp frame (wpE (defs₀ (F := F)) 𝒱₀ (thr d L) none) Set.univ (kk ⟨⟩) Q)
      -∗ wp frame (wpE (defs₀ (F := F)) 𝒱₀ (thr d L) none) Set.univ (Scf.Loop.for k1_t1_loop k1_t1_ok ⟨⟩ (body1 L k1_pay1 v3 v6 v13) >>= kk) Q) := by
  have T := trip1 d L f0 f1 f2 f3 v3 v6 v13
  generalize body1 (F := F) L k1_pay1 v3 v6 v13 = B at T ⊢
  iintro H HK
  sl_for (fun (k : ℕ) (_ : PUnit) => (ptZs d L (zClr f0 k) (zClr f1 k) (zClr f2 k) (zClr f3 k) : sProp 𝕄)) $$ [H]
  case region => intro k u; exact T k u
  · rw [zClr_zero, zClr_zero, zClr_zero, zClr_zero]; iexact H
  rw [show Scf.trips k1_t1_loop.lb k1_t1_loop.ub k1_t1_loop.st = 128 from trips_t1]
  iintro %_ H
  iapply HK
  iexact H

theorem loop3 (f0 f1 f2 f3 : S2048.Idx → F .f32) (v2 : FVec F S16 .f32) (v6 : IVec S16 32) (v13 : BitVec 32) {α : Type} {Q : α → sProp 𝕄} (kk : PUnit → Prog (TpuEff nD τ sig (Elt F) Λ₀ (thr d L).2) α) :
    ptZs d L f0 f1 f2 f3 ⊢ iprop((ptZs d L (zRec f0 128) (zRec f1 128) (zRec f2 128) (zRec f3 128) -∗ wp frame (wpE (defs₀ (F := F)) 𝒱₀ (thr d L) none) Set.univ (kk ⟨⟩) Q)
      -∗ wp frame (wpE (defs₀ (F := F)) 𝒱₀ (thr d L) none) Set.univ (Scf.Loop.for k1_t3_loop k1_t3_ok ⟨⟩ (body3 L v2 k1_pay2 v6 v13) >>= kk) Q) := by
  have T := trip3 d L f0 f1 f2 f3 v2 v6 v13
  generalize body3 (F := F) L v2 k1_pay2 v6 v13 = B at T ⊢
  iintro H HK
  sl_for (fun (k : ℕ) (_ : PUnit) => (ptZs d L (zRec f0 k) (zRec f1 k) (zRec f2 k) (zRec f3 k) : sProp 𝕄)) $$ [H]
  case region => intro k u; exact T k u
  · rw [zRec_zero, zRec_zero, zRec_zero, zRec_zero]; iexact H
  rw [show Scf.trips k1_t3_loop.lb k1_t3_loop.ub k1_t3_loop.st = 128 from trips_t1]
  iintro %_ H
  iapply HK
  iexact H

theorem loop2 (lo hi : BitVec 32) (wid : ℕ → BitVec 32) (I : S13040.Idx → BitVec 32) (hI : ∀ j : S13040.Idx, (j 0).val < 13024 → I j = wid (j 0).val)
    (X0 X1 X2 X3 : ℕ → F .f32) (v2 v3 : FVec F S16 .f32) (v13 : BitVec 32) (v15 v21 : IVec S16 32)
    (h15 : v15 (lane 0 (by decide)) = lo) (h21 : v21 (lane 15 (by decide)) = hi) {α : Type} {Q : α → sProp 𝕄} (kk : PUnit → Prog (TpuEff nD τ sig (Elt F) Λ₀ (thr d L).2) α) :
    iprop(ptI d L I ∗ ptXs d L (winX X0) (winX X1) (winX X2) (winX X3)
        ∗ ptZs d L (zIter lo hi wid X0 0) (zIter lo hi wid X1 0) (zIter lo hi wid X2 0) (zIter lo hi wid X3 0))
      ⊢ iprop((iprop(ptI d L I ∗ ptXs d L (winX X0) (winX X1) (winX X2) (winX X3)
          ∗ ptZs d L (zIter lo hi wid X0 814) (zIter lo hi wid X1 814) (zIter lo hi wid X2 814) (zIter lo hi wid X3 814)) -∗ wp frame (wpE (defs₀ (F := F)) 𝒱₀ (thr d L) none) Set.univ (kk ⟨⟩) Q)
      -∗ wp frame (wpE (defs₀ (F := F)) 𝒱₀ (thr d L) none) Set.univ (Scf.Loop.for k1_t2_loop k1_t2_ok ⟨⟩ (body2 L v2 v3 k1_pay3 v13 v15 v21) >>= kk) Q) := by
  have T := trip2 d L lo hi wid I hI X0 X1 X2 X3 v2 v3 v13 v15 v21 h15 h21
  generalize body2 (F := F) L v2 v3 k1_pay3 v13 v15 v21 = B at T ⊢
  iintro H HK
  sl_for (fun (k : ℕ) (_ : PUnit) => (iprop(ptI d L I ∗ ptXs d L (winX X0) (winX X1) (winX X2) (winX X3)
          ∗ ptZs d L (zIter lo hi wid X0 k) (zIter lo hi wid X1 k) (zIter lo hi wid X2 k) (zIter lo hi wid X3 k)) : sProp 𝕄)) $$ [H]
  case region => intro k u; exact T k u
  · iexact H
  rw [show Scf.trips k1_t2_loop.lb k1_t2_loop.ub k1_t2_loop.st = 814 from trips_t2]
  iintro %_ H
  iapply HK
  iexact H

theorem loop4 (lo hi : BitVec 32) (wid : ℕ → BitVec 32) (I : S13040.Idx → BitVec 32) (hI : ∀ j : S13040.Idx, (j 0).val < 13024 → I j = wid (j 0).val)
    (X0 X1 X2 X3 : ℕ → F .f32) (v2 v3 : FVec F S16 .f32) (v13 : BitVec 32) (v15 : IVec S16 32)
    (h15 : v15 (lane 0 (by decide)) = lo) {α : Type} {Q : α → sProp 𝕄} (kk : PUnit → Prog (TpuEff nD τ sig (Elt F) Λ₀ (thr d L).2) α) :
    iprop(ptI d L I ∗ ptXs d L (winX X0) (winX X1) (winX X2) (winX X3)
        ∗ ptZs d L (zInv lo hi wid X0) (zInv lo hi wid X1) (zInv lo hi wid X2) (zInv lo hi wid X3))
      ⊢ iprop((iprop(ptI d L I ∗ ptXs d L (winX (fin lo hi wid X0)) (winX (fin lo hi wid X1)) (winX (fin lo hi wid X2)) (winX (fin lo hi wid X3))
          ∗ ptZs d L (zInv lo hi wid X0) (zInv lo hi wid X1) (zInv lo hi wid X2) (zInv lo hi wid X3)) -∗ wp frame (wpE (defs₀ (F := F)) 𝒱₀ (thr d L) none) Set.univ (kk ⟨⟩) Q)
      -∗ wp frame (wpE (defs₀ (F := F)) 𝒱₀ (thr d L) none) Set.univ (Scf.Loop.for k1_t4_loop k1_t4_ok ⟨⟩ (body4 L v2 v3 k1_pay3 v13 v15) >>= kk) Q) := by
  have T := trip4 d L lo hi wid I hI X0 X1 X2 X3 v2 v3 v13 v15 h15
  generalize body4 (F := F) L v2 v3 k1_pay3 v13 v15 = B at T ⊢
  iintro H HK
  sl_for (fun (k : ℕ) (_ : PUnit) => (iprop(ptI d L I ∗ ptXs d L (wFin lo hi wid X0 k) (wFin lo hi wid X1 k) (wFin lo hi wid X2 k) (wFin lo hi wid X3 k)
          ∗ ptZs d L (zInv lo hi wid X0) (zInv lo hi wid X1) (zInv lo hi wid X2) (zInv lo hi wid X3)) : sProp 𝕄)) $$ [H]
  case region => intro k u; exact T k u
  · rw [wFin_zero, wFin_zero, wFin_zero, wFin_zero]; iexact H
  rw [show Scf.trips k1_t4_loop.lb k1_t4_loop.ub k1_t4_loop.st = 814 from trips_t2, wFin_end _ _ _ _ _ rfl, wFin_end _ _ _ _ _ rfl, wFin_end _ _ _ _ _ rfl, wFin_end _ _ _ _ _ rfl]
  iintro %_ H
  iapply HK
  iexact H

/-- All four. -/
theorem loops (lo hi : BitVec 32) (wid : ℕ → BitVec 32) (I : S13040.Idx → BitVec 32) (hI : ∀ j : S13040.Idx, (j 0).val < 13024 → I j = wid (j 0).val)
    (X0 X1 X2 X3 : ℕ → F .f32) (f0 f1 f2 f3 : S2048.Idx → F .f32) (v13 : BitVec 32) (v15 v21 : IVec S16 32)
    (h15 : v15 (lane 0 (by decide)) = lo) (h21 : v21 (lane 15 (by decide)) = hi) {α : Type} {Q : α → sProp 𝕄} (kk : PUnit → Prog (TpuEff nD τ sig (Elt F) Λ₀ (thr d L).2) α) :
    iprop(ptI d L I ∗ ptXs d L (winX X0) (winX X1) (winX X2) (winX X3) ∗ ptZs d L f0 f1 f2 f3)
      ⊢ iprop((iprop(ptI d L I ∗ ptXs d L (winX (fin lo hi wid X0)) (winX (fin lo hi wid X1)) (winX (fin lo hi wid X2)) (winX (fin lo hi wid X3))
          ∗ ptZs d L (zInv lo hi wid X0) (zInv lo hi wid X1) (zInv lo hi wid X2) (zInv lo hi wid X3)) -∗ wp frame (wpE (defs₀ (F := F)) 𝒱₀ (thr d L) none) Set.univ (kk ⟨⟩) Q)
      -∗ wp frame (wpE (defs₀ (F := F)) 𝒱₀ (thr d L) none) Set.univ (Scf.Loop.for k1_t1_loop k1_t1_ok ⟨⟩ (body1 L k1_pay1 k1_pay2 k1_pay3 v13) >>= fun _ =>
          Scf.Loop.for k1_t2_loop k1_t2_ok ⟨⟩ (body2 L k1_pay1 k1_pay2 k1_pay3 v13 v15 v21) >>= fun _ =>
          Scf.Loop.for k1_t3_loop k1_t3_ok ⟨⟩ (body3 L k1_pay1 k1_pay2 k1_pay3 v13) >>= fun _ =>
          Scf.Loop.for k1_t4_loop k1_t4_ok ⟨⟩ (body4 L k1_pay1 k1_pay2 k1_pay3 v13 v15) >>= kk) Q) := by
  iintro ⟨HI, HX, HZ⟩ HK
  iapply (loop1 d L f0 f1 f2 f3 _ _ _ _) $$ HZ
  iintro HZ
  rw [zClr_end lo hi wid X0 _ _ rfl, zClr_end lo hi wid X1 _ _ rfl, zClr_end lo hi wid X2 _ _ rfl, zClr_end lo hi wid X3 _ _ rfl]
  iapply (loop2 d L lo hi wid I hI X0 X1 X2 X3 _ _ _ v15 v21 h15 h21 _) $$ [HI HX HZ]
  · isplitl [HI]; · iexact HI
    isplitl [HX] <;> iassumption
  iintro ⟨HI, HX, HZ⟩
  iapply (loop3 d L _ _ _ _ _ _ _ _) $$ HZ
  iintro HZ
  rw [zRec_end lo hi wid X0 _ _ rfl rfl, zRec_end lo hi wid X1 _ _ rfl rfl, zRec_end lo hi wid X2 _ _ rfl rfl, zRec_end lo hi wid X3 _ _ rfl rfl]
  iapply (loop4 d L lo hi wid I hI X0 X1 X2 X3 _ _ _ v15 h15 _) $$ [HI HX HZ]
  · isplitl [HI]; · iexact HI
    isplitl [HX] <;> iassumption
  iexact HK

abbrev body5 (L : grid1.Coords) := k1_t5_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body6 (L : grid1.Coords) := k1_t6_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body7 (L : grid1.Coords) := k1_t7_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17
abbrev body8 (L : grid1.Coords) := k1_t8_body (F := F) L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17

/-- All four, under the names the second chunk's loops have. -/
theorem loops2 (lo hi : BitVec 32) (wid : ℕ → BitVec 32) (I : S13040.Idx → BitVec 32) (hI : ∀ j : S13040.Idx, (j 0).val < 13024 → I j = wid (j 0).val)
    (X0 X1 X2 X3 : ℕ → F .f32) (f0 f1 f2 f3 : S2048.Idx → F .f32) (v13 : BitVec 32) (v15 v21 : IVec S16 32)
    (h15 : v15 (lane 0 (by decide)) = lo) (h21 : v21 (lane 15 (by decide)) = hi) {α : Type} {Q : α → sProp 𝕄} (kk : PUnit → Prog (TpuEff nD τ sig (Elt F) Λ₀ (thr d L).2) α) :
    iprop(ptI d L I ∗ ptXs d L (winX X0) (winX X1) (winX X2) (winX X3) ∗ ptZs d L f0 f1 f2 f3)
      ⊢ iprop((iprop(ptI d L I ∗ ptXs d L (winX (fin lo hi wid X0)) (winX (fin lo hi wid X1)) (winX (fin lo hi wid X2)) (winX (fin lo hi wid X3))
          ∗ ptZs d L (zInv lo hi wid X0) (zInv lo hi wid X1) (zInv lo hi wid X2) (zInv lo hi wid X3)) -∗ wp frame (wpE (defs₀ (F := F)) 𝒱₀ (thr d L) none) Set.univ (kk ⟨⟩) Q)
      -∗ wp frame (wpE (defs₀ (F := F)) 𝒱₀ (thr d L) none) Set.univ (Scf.Loop.for k1_t5_loop k1_t5_ok ⟨⟩ (body5 L k1_pay1 k1_pay2 k1_pay3 v13) >>= fun _ =>
          Scf.Loop.for k1_t6_loop k1_t6_ok ⟨⟩ (body6 L k1_pay1 k1_pay2 k1_pay3 v13 v15 v21) >>= fun _ =>
          Scf.Loop.for k1_t7_loop k1_t7_ok ⟨⟩ (body7 L k1_pay1 k1_pay2 k1_pay3 v13) >>= fun _ =>
          Scf.Loop.for k1_t8_loop k1_t8_ok ⟨⟩ (body8 L k1_pay1 k1_pay2 k1_pay3 v13 v15) >>= kk) Q) :=
  loops d L lo hi wid I hI X0 X1 X2 X3 f0 f1 f2 f3 v13 v15 v21 h15 h21 kk

end Cert.Proof

end
-- ==== Proof.Own.lean ====
/-
  The task of one tile: five fetches of a window, the chunk's loops, four copies out; twice.
-/
module

public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The tile's own semaphores and buffers -/

abbrev csem (s : DmaSems sig S_) : GSem nD τ sig := (thr d L, .dma s.sem)

omit [FloatOps F] in
theorem ownSems0_V :
    ∃ R : sProp 𝕄, (ownSems0 (thr d L) : sProp 𝕄)
      = iprop(semVal (csem d L cc1_scoped0) 0 ∗ semVal (csem d L cc1_scoped1) 0 ∗ semVal (csem d L cc1_scoped2) 0 ∗ semVal (csem d L cc1_scoped3) 0 ∗ semVal (csem d L cc1_scoped4) 0 ∗ semVal (csem d L cc1_scoped5) 0 ∗ semVal (csem d L cc1_scoped6) 0 ∗ semVal (csem d L cc1_scoped7) 0 ∗ semVal (csem d L cc1_scoped8) 0 ∗ semVal (csem d L cc1_scoped9) 0 ∗ semVal (csem d L cc1_scoped10) 0 ∗ semVal (csem d L cc1_scoped11) 0 ∗ semVal (csem d L cc1_scoped12) 0 ∗ semVal (csem d L cc1_scoped13) 0 ∗ semVal (csem d L cc1_scoped14) 0 ∗ semVal (csem d L cc1_scoped15) 0 ∗ semVal (csem d L cc1_scoped16) 0 ∗ semVal (csem d L cc1_scoped17) 0
          ∗ R) := by
  refine ⟨bigSep (((((((((((((((((((ownCells (thr d L)).erase (csem d L cc1_scoped0)).erase (csem d L cc1_scoped1)).erase (csem d L cc1_scoped2)).erase (csem d L cc1_scoped3)).erase (csem d L cc1_scoped4)).erase (csem d L cc1_scoped5)).erase (csem d L cc1_scoped6)).erase (csem d L cc1_scoped7)).erase (csem d L cc1_scoped8)).erase (csem d L cc1_scoped9)).erase (csem d L cc1_scoped10)).erase (csem d L cc1_scoped11)).erase (csem d L cc1_scoped12)).erase (csem d L cc1_scoped13)).erase (csem d L cc1_scoped14)).erase (csem d L cc1_scoped15)).erase (csem d L cc1_scoped16)).erase (csem d L cc1_scoped17)) fun g => semVal g 0, ?_⟩
  have M (s : DmaSems sig S_) (h : (SemLoc.dma s.sem : SemLoc sig).isScoped .scVector = true) : csem d L s ∈ ownCells (thr d L) := mem_ownCells.mpr ⟨rfl, h⟩
  have N (s t : DmaSems sig S_) (h : (SemLoc.dma s.sem : SemLoc sig) ≠ .dma t.sem) : csem d L s ≠ csem d L t := fun e => h (congrArg Prod.snd e)
  unfold SparseCore.Cfg.ownSems0
  rw [SparseCore.bigSep_erase' (M cc1_scoped0 (by decide)),
    SparseCore.bigSep_erase' (Finset.mem_erase.mpr ⟨N cc1_scoped1 cc1_scoped0 (by decide), M cc1_scoped1 (by decide)⟩),
    SparseCore.bigSep_erase' (Finset.mem_erase.mpr ⟨N cc1_scoped2 cc1_scoped1 (by decide), Finset.mem_erase.mpr ⟨N cc1_scoped2 cc1_scoped0 (by decide), M cc1_scoped2 (by decide)⟩⟩),
    SparseCore.bigSep_erase' (Finset.mem_erase.mpr ⟨N cc1_scoped3 cc1_scoped2 (by decide), Finset.mem_erase.mpr ⟨N cc1_scoped3 cc1_scoped1 (by decide), Finset.mem_erase.mpr ⟨N cc1_scoped3 cc1_scoped0 (by decide), M cc1_scoped3 (by decide)⟩⟩⟩),
    SparseCore.bigSep_erase' (Finset.mem_erase.mpr ⟨N cc1_scoped4 cc1_scoped3 (by decide), Finset.mem_erase.mpr ⟨N cc1_scoped4 cc1_scoped2 (by decide), Finset.mem_erase.mpr ⟨N cc1_scoped4 cc1_scoped1 (by decide), Finset.mem_erase.mpr ⟨N cc1_scoped4 cc1_scoped0 (by decide), M cc1_scoped4 (by decide)⟩⟩⟩⟩),
    SparseCore.bigSep_erase' (Finset.mem_erase.mpr ⟨N cc1_scoped5 cc1_scoped4 (by decide), Finset.mem_erase.mpr ⟨N cc1_scoped5 cc1_scoped3 (by decide), Finset.mem_erase.mpr ⟨N cc1_scoped5 cc1_scoped2 (by decide), Finset.mem_erase.mpr ⟨N cc1_scoped5 cc1_scoped1 (by decide), Finset.mem_erase.mpr ⟨N cc1_scoped5 cc1_scoped0 (by decide), M cc1_scoped5 (by decide)⟩⟩⟩⟩⟩),
    SparseCore.bigSep_erase' (Finset.mem_erase.mpr ⟨N cc1_scoped6 cc1_scoped5 (by decide), Finset.mem_erase.mpr ⟨N cc1_scoped6 cc1_scoped4 (by decide), Finset.mem_erase.mpr ⟨N cc1_scoped6 cc1_scoped3 (by decide), Finset.mem_erase.mpr ⟨N cc1_scoped6 cc1_scoped2 (by decide), Finset.mem_erase.mpr ⟨N cc1_scoped6 cc1_scoped1 (by decide), Finset.mem_erase.mpr ⟨N cc1_scoped6 cc1_scoped0 (by decide), M cc1_scoped6 (by decide)⟩⟩⟩⟩⟩⟩),
    SparseCore.bigSep_erase' (Finset.mem_erase.mpr ⟨N cc1_scoped7 cc1_scoped6 (by decide), Finset.mem_erase.mpr ⟨N cc1_scoped7 cc1_scoped5 (by decide), Finset.mem_erase.mpr ⟨N cc1_scoped7 cc1_scoped4 (by decide), Finset.mem_erase.mpr ⟨N cc1_scoped7 cc1_scoped3 (by decide), Finset.mem_erase.mpr ⟨N cc1_scoped7 cc1_scoped2 (by decide), Finset.mem_erase.mpr ⟨N cc1_scoped7 cc1_scoped1 (by decide), Finset.mem_erase.mpr ⟨N cc1_scoped7 cc1_scoped0 (by decide), M cc1_scoped7 (by decide)⟩⟩⟩⟩⟩⟩⟩),
    SparseCore.bigSep_erase' (Finset.mem_erase.mpr ⟨N cc1_scoped8 cc1_scoped7 (by decide), Finset.mem_erase.mpr ⟨N cc1_scoped8 cc1_scoped6 (by decide), Finset.mem_erase.mpr ⟨N cc1_scoped8 cc1_scoped5 (by decide), Finset.mem_erase.mpr ⟨N cc1_scoped8 cc1_scoped4 (by decide), Finset.mem_erase.mpr ⟨N cc1_scoped8 cc1_scoped3 (by decide), Finset.mem_erase.mpr ⟨N cc1_scoped8 cc1_scoped2 (by decide), Finset.mem_erase.mpr ⟨N cc1_scoped8 cc1_scoped1 (by decide), Finset.mem_erase.mpr ⟨N cc1_scoped8 cc1_scoped0 (by decide), M cc1_scoped8 (by decide)⟩⟩⟩⟩⟩⟩⟩⟩),
    SparseCore.bigSep_erase' (Finset.mem_erase.mpr ⟨N cc1_scoped9 cc1_scoped8 (by decide), Finset.mem_erase.mpr ⟨N cc1_scoped9 cc1_scoped7 (by decide), Finset.mem_erase.mpr ⟨N cc1_scoped9 cc1_scoped6 (by decide), Finset.mem_erase.mpr ⟨N cc1_scoped9 cc1_scoped5 (by decide), Finset.mem_erase.mpr ⟨N cc1_scoped9 cc1_scoped4 (by decide), Finset.mem_erase.mpr ⟨N cc1_scoped9 cc1_scoped3 (by decide), Finset.mem_erase.mpr ⟨N cc1_scoped9 cc1_scoped2 (by decide), Finset.mem_erase.mpr ⟨N cc1_scoped9 cc1_scoped1 (by decide), Finset.mem_erase.mpr ⟨N cc1_scoped9 cc1_scoped0 (by decide), M cc1_scoped9 (by decide)⟩⟩⟩⟩⟩⟩⟩⟩⟩),
    SparseCore.bigSep_erase' (Finset.mem_erase.mpr ⟨N cc1_scoped10 cc1_scoped9 (by decide), Finset.mem_erase.mpr ⟨N cc1_scoped10 cc1_scoped8 (by decide), Finset.mem_erase.mpr ⟨N cc1_scoped10 cc1_scoped7 (by decide), Finset.mem_erase.mpr ⟨N cc1_scoped10 cc1_scoped6 (by decide), Finset.mem_erase.mpr ⟨N cc1_scoped10 cc1_scoped5 (by decide), Finset.mem_erase.mpr ⟨N cc1_scoped10 cc1_scoped4 (by decide), Finset.mem_erase.mpr ⟨N cc1_scoped10 cc1_scoped3 (by decide), Finset.mem_erase.mpr ⟨N cc1_scoped10 cc1_scoped2 (by decide), Finset.mem_erase.mpr ⟨N cc1_scoped10 cc1_scoped1 (by decide), Finset.mem_erase.mpr ⟨N cc1_scoped10 cc1_scoped0 (by decide), M cc1_scoped10 (by decide)⟩⟩⟩⟩⟩⟩⟩⟩⟩⟩),
    SparseCore.bigSep_erase' (Finset.mem_erase.mpr ⟨N cc1_scoped11 cc1_scoped10 (by decide), Finset.mem_erase.mpr ⟨N cc1_scoped11 cc1_scoped9 (by decide), Finset.mem_erase.mpr ⟨N cc1_scoped11 cc1_scoped8 (by decide), Finset.mem_erase.mpr ⟨N cc1_scoped11 cc1_scoped7 (by decide), Finset.mem_erase.mpr ⟨N cc1_scoped11 cc1_scoped6 (by decide), Finset.mem_erase.mpr ⟨N cc1_scoped11 cc1_scoped5 (by decide), Finset.mem_erase.mpr ⟨N cc1_scoped11 cc1_scoped4 (by decide), Finset.mem_erase.mpr ⟨N cc1_scoped11 cc1_scoped3 (by decide), Finset.mem_erase.mpr ⟨N cc1_scoped11 cc1_scoped2 (by decide), Finset.mem_erase.mpr ⟨N cc1_scoped11 cc1_scoped1 (by decide), Finset.mem_erase.mpr ⟨N cc1_scoped11 cc1_scoped0 (by decide), M cc1_scoped11 (by decide)⟩⟩⟩⟩⟩⟩⟩⟩⟩⟩⟩),
    SparseCore.bigSep_erase' (Finset.mem_erase.mpr ⟨N cc1_scoped12 cc1_scoped11 (by decide), Finset.mem_erase.mpr ⟨N cc1_scoped12 cc1_scoped10 (by decide), Finset.mem_erase.mpr ⟨N cc1_scoped12 cc1_scoped9 (by decide), Finset.mem_erase.mpr ⟨N cc1_scoped12 cc1_scoped8 (by decide), Finset.mem_erase.mpr ⟨N cc1_scoped12 cc1_scoped7 (by decide), Finset.mem_erase.mpr ⟨N cc1_scoped12 cc1_scoped6 (by decide), Finset.mem_erase.mpr ⟨N cc1_scoped12 cc1_scoped5 (by decide), Finset.mem_erase.mpr ⟨N cc1_scoped12 cc1_scoped4 (by decide), Finset.mem_erase.mpr ⟨N cc1_scoped12 cc1_scoped3 (by decide), Finset.mem_erase.mpr ⟨N cc1_scoped12 cc1_scoped2 (by decide), Finset.mem_erase.mpr ⟨N cc1_scoped12 cc1_scoped1 (by decide), Finset.mem_erase.mpr ⟨N cc1_scoped12 cc1_scoped0 (by decide), M cc1_scoped12 (by decide)⟩⟩⟩⟩⟩⟩⟩⟩⟩⟩⟩⟩),
    SparseCore.bigSep_erase' (Finset.mem_erase.mpr ⟨N cc1_scoped13 cc1_scoped12 (by decide), Finset.mem_erase.mpr ⟨N cc1_scoped13 cc1_scoped11 (by decide), Finset.mem_erase.mpr ⟨N cc1_scoped13 cc1_scoped10 (by decide), Finset.mem_erase.mpr ⟨N cc1_scoped13 cc1_scoped9 (by decide), Finset.mem_erase.mpr ⟨N cc1_scoped13 cc1_scoped8 (by decide), Finset.mem_erase.mpr ⟨N cc1_scoped13 cc1_scoped7 (by decide), Finset.mem_erase.mpr ⟨N cc1_scoped13 cc1_scoped6 (by decide), Finset.mem_erase.mpr ⟨N cc1_scoped13 cc1_scoped5 (by decide), Finset.mem_erase.mpr ⟨N cc1_scoped13 cc1_scoped4 (by decide), Finset.mem_erase.mpr ⟨N cc1_scoped13 cc1_scoped3 (by decide), Finset.mem_erase.mpr ⟨N cc1_scoped13 cc1_scoped2 (by decide), Finset.mem_erase.mpr ⟨N cc1_scoped13 cc1_scoped1 (by decide), Finset.mem_erase.mpr ⟨N cc1_scoped13 cc1_scoped0 (by decide), M cc1_scoped13 (by decide)⟩⟩⟩⟩⟩⟩⟩⟩⟩⟩⟩⟩⟩),
    SparseCore.bigSep_erase' (Finset.mem_erase.mpr ⟨N cc1_scoped14 cc1_scoped13 (by decide), Finset.mem_erase.mpr ⟨N cc1_scoped14 cc1_scoped12 (by decide), Finset.mem_erase.mpr ⟨N cc1_scoped14 cc1_scoped11 (by decide), Finset.mem_erase.mpr ⟨N cc1_scoped14 cc1_scoped10 (by decide), Finset.mem_erase.mpr ⟨N cc1_scoped14 cc1_scoped9 (by decide), Finset.mem_erase.mpr ⟨N cc1_scoped14 cc1_scoped8 (by decide), Finset.mem_erase.mpr ⟨N cc1_scoped14 cc1_scoped7 (by decide), Finset.mem_erase.mpr ⟨N cc1_scoped14 cc1_scoped6 (by decide), Finset.mem_erase.mpr ⟨N cc1_scoped14 cc1_scoped5 (by decide), Finset.mem_erase.mpr ⟨N cc1_scoped14 cc1_scoped4 (by decide), Finset.mem_erase.mpr ⟨N cc1_scoped14 cc1_scoped3 (by decide), Finset.mem_erase.mpr ⟨N cc1_scoped14 cc1_scoped2 (by decide), Finset.mem_erase.mpr ⟨N cc1_scoped14 cc1_scoped1 (by decide), Finset.mem_erase.mpr ⟨N cc1_scoped14 cc1_scoped0 (by decide), M cc1_scoped14 (by decide)⟩⟩⟩⟩⟩⟩⟩⟩⟩⟩⟩⟩⟩⟩),
    SparseCore.bigSep_erase' (Finset.mem_erase.mpr ⟨N cc1_scoped15 cc1_scoped14 (by decide), Finset.mem_erase.mpr ⟨N cc1_scoped15 cc1_scoped13 (by decide), Finset.mem_erase.mpr ⟨N cc1_scoped15 cc1_scoped12 (by decide), Finset.mem_erase.mpr ⟨N cc1_scoped15 cc1_scoped11 (by decide), Finset.mem_erase.mpr ⟨N cc1_scoped15 cc1_scoped10 (by decide), Finset.mem_erase.mpr ⟨N cc1_scoped15 cc1_scoped9 (by decide), Finset.mem_erase.mpr ⟨N cc1_scoped15 cc1_scoped8 (by decide), Finset.mem_erase.mpr ⟨N cc1_scoped15 cc1_scoped7 (by decide), Finset.mem_erase.mpr ⟨N cc1_scoped15 cc1_scoped6 (by decide), Finset.mem_erase.mpr ⟨N cc1_scoped15 cc1_scoped5 (by decide), Finset.mem_erase.mpr ⟨N cc1_scoped15 cc1_scoped4 (by decide), Finset.mem_erase.mpr ⟨N cc1_scoped15 cc1_scoped3 (by decide), Finset.mem_erase.mpr ⟨N cc1_scoped15 cc1_scoped2 (by decide), Finset.mem_erase.mpr ⟨N cc1_scoped15 cc1_scoped1 (by decide), Finset.mem_erase.mpr ⟨N cc1_scoped15 cc1_scoped0 (by decide), M cc1_scoped15 (by decide)⟩⟩⟩⟩⟩⟩⟩⟩⟩⟩⟩⟩⟩⟩⟩),
    SparseCore.bigSep_erase' (Finset.mem_erase.mpr ⟨N cc1_scoped16 cc1_scoped15 (by decide), Finset.mem_erase.mpr ⟨N cc1_scoped16 cc1_scoped14 (by decide), Finset.mem_erase.mpr ⟨N cc1_scoped16 cc1_scoped13 (by decide), Finset.mem_erase.mpr ⟨N cc1_scoped16 cc1_scoped12 (by decide), Finset.mem_erase.mpr ⟨N cc1_scoped16 cc1_scoped11 (by decide), Finset.mem_erase.mpr ⟨N cc1_scoped16 cc1_scoped10 (by decide), Finset.mem_erase.mpr ⟨N cc1_scoped16 cc1_scoped9 (by decide), Finset.mem_erase.mpr ⟨N cc1_scoped16 cc1_scoped8 (by decide), Finset.mem_erase.mpr ⟨N cc1_scoped16 cc1_scoped7 (by decide), Finset.mem_erase.mpr ⟨N cc1_scoped16 cc1_scoped6 (by decide), Finset.mem_erase.mpr ⟨N cc1_scoped16 cc1_scoped5 (by decide), Finset.mem_erase.mpr ⟨N cc1_scoped16 cc1_scoped4 (by decide), Finset.mem_erase.mpr ⟨N cc1_scoped16 cc1_scoped3 (by decide), Finset.mem_erase.mpr ⟨N cc1_scoped16 cc1_scoped2 (by decide), Finset.mem_erase.mpr ⟨N cc1_scoped16 cc1_scoped1 (by decide), Finset.mem_erase.mpr ⟨N cc1_scoped16 cc1_scoped0 (by decide), M cc1_scoped16 (by decide)⟩⟩⟩⟩⟩⟩⟩⟩⟩⟩⟩⟩⟩⟩⟩⟩),
    SparseCore.bigSep_erase' (Finset.mem_erase.mpr ⟨N cc1_scoped17 cc1_scoped16 (by decide), Finset.mem_erase.mpr ⟨N cc1_scoped17 cc1_scoped15 (by decide), Finset.mem_erase.mpr ⟨N cc1_scoped17 cc1_scoped14 (by decide), Finset.mem_erase.mpr ⟨N cc1_scoped17 cc1_scoped13 (by decide), Finset.mem_erase.mpr ⟨N cc1_scoped17 cc1_scoped12 (by decide), Finset.mem_erase.mpr ⟨N cc1_scoped17 cc1_scoped11 (by decide), Finset.mem_erase.mpr ⟨N cc1_scoped17 cc1_scoped10 (by decide), Finset.mem_erase.mpr ⟨N cc1_scoped17 cc1_scoped9 (by decide), Finset.mem_erase.mpr ⟨N cc1_scoped17 cc1_scoped8 (by decide), Finset.mem_erase.mpr ⟨N cc1_scoped17 cc1_scoped7 (by decide), Finset.mem_erase.mpr ⟨N cc1_scoped17 cc1_scoped6 (by decide), Finset.mem_erase.mpr ⟨N cc1_scoped17 cc1_scoped5 (by decide), Finset.mem_erase.mpr ⟨N cc1_scoped17 cc1_scoped4 (by decide), Finset.mem_erase.mpr ⟨N cc1_scoped17 cc1_scoped3 (by decide), Finset.mem_erase.mpr ⟨N cc1_scoped17 cc1_scoped2 (by decide), Finset.mem_erase.mpr ⟨N cc1_scoped17 cc1_scoped1 (by decide), Finset.mem_erase.mpr ⟨N cc1_scoped17 cc1_scoped0 (by decide), M cc1_scoped17 (by decide)⟩⟩⟩⟩⟩⟩⟩⟩⟩⟩⟩⟩⟩⟩⟩⟩⟩)]

omit [FloatOps F] in
theorem ownBufs_V :
    ∃ R : sProp 𝕄, (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f) ∗ (∃ f, (thr d L).loc cc1_scratch5 ↦{fullShare} f) ∗ (∃ f, (thr d L).loc cc1_scratch6 ↦{fullShare} f) ∗ (∃ f, (thr d L).loc cc1_scratch7 ↦{fullShare} f) ∗ (∃ f, (thr d L).loc cc1_scratch8 ↦{fullShare} f)
          ∗ R) := by
  refine ⟨bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8)) fun b => iprop(∃ f, ((d, b) : Loc nD τ sig) ↦{fullShare} f), ?_⟩
  have M (b : Ref sig .scVector) (h : ((Proc.scVector (cV L) (jV L)).devRef b).owner = .proc (Proc.scVector (cV L) (jV L))) : (Proc.scVector (cV L) (jV L)).devRef b ∈ ownRefs (τ := τ) (.scVector (cV L) (jV L)) :=
    SparseCore.Cfg.mem_ownRefs_of_owner (p := Proc.scVector (cV L) (jV L)) h
  have N (b b' : Ref sig .scVector) (h : b ≠ b') : (Proc.scVector (cV L) (jV L)).devRef b ≠ (Proc.scVector (cV L) (jV L)).devRef b' := fun e => h (Proc.devRef_injective _ e)
  unfold SparseCore.Cfg.ownBufs
  refine (SparseCore.bigSep_erase' (M cc1_scratch0 rfl)).trans ?_
  rw [SparseCore.bigSep_erase' (Finset.mem_erase.mpr ⟨N cc1_scratch1 cc1_scratch0 (by decide), M cc1_scratch1 rfl⟩),
    SparseCore.bigSep_erase' (Finset.mem_erase.mpr ⟨N cc1_scratch2 cc1_scratch1 (by decide), Finset.mem_erase.mpr ⟨N cc1_scratch2 cc1_scratch0 (by decide), M cc1_scratch2 rfl⟩⟩),
    SparseCore.bigSep_erase' (Finset.mem_erase.mpr ⟨N cc1_scratch3 cc1_scratch2 (by decide), Finset.mem_erase.mpr ⟨N cc1_scratch3 cc1_scratch1 (by decide), Finset.mem_erase.mpr ⟨N cc1_scratch3 cc1_scratch0 (by decide), M cc1_scratch3 rfl⟩⟩⟩),
    SparseCore.bigSep_erase' (Finset.mem_erase.mpr ⟨N cc1_scratch4 cc1_scratch3 (by decide), Finset.mem_erase.mpr ⟨N cc1_scratch4 cc1_scratch2 (by decide), Finset.mem_erase.mpr ⟨N cc1_scratch4 cc1_scratch1 (by decide), Finset.mem_erase.mpr ⟨N cc1_scratch4 cc1_scratch0 (by decide), M cc1_scratch4 rfl⟩⟩⟩⟩),
    SparseCore.bigSep_erase' (Finset.mem_erase.mpr ⟨N cc1_scratch5 cc1_scratch4 (by decide), Finset.mem_erase.mpr ⟨N cc1_scratch5 cc1_scratch3 (by decide), Finset.mem_erase.mpr ⟨N cc1_scratch5 cc1_scratch2 (by decide), Finset.mem_erase.mpr ⟨N cc1_scratch5 cc1_scratch1 (by decide), Finset.mem_erase.mpr ⟨N cc1_scratch5 cc1_scratch0 (by decide), M cc1_scratch5 rfl⟩⟩⟩⟩⟩),
    SparseCore.bigSep_erase' (Finset.mem_erase.mpr ⟨N cc1_scratch6 cc1_scratch5 (by decide), Finset.mem_erase.mpr ⟨N cc1_scratch6 cc1_scratch4 (by decide), Finset.mem_erase.mpr ⟨N cc1_scratch6 cc1_scratch3 (by decide), Finset.mem_erase.mpr ⟨N cc1_scratch6 cc1_scratch2 (by decide), Finset.mem_erase.mpr ⟨N cc1_scratch6 cc1_scratch1 (by decide), Finset.mem_erase.mpr ⟨N cc1_scratch6 cc1_scratch0 (by decide), M cc1_scratch6 rfl⟩⟩⟩⟩⟩⟩),
    SparseCore.bigSep_erase' (Finset.mem_erase.mpr ⟨N cc1_scratch7 cc1_scratch6 (by decide), Finset.mem_erase.mpr ⟨N cc1_scratch7 cc1_scratch5 (by decide), Finset.mem_erase.mpr ⟨N cc1_scratch7 cc1_scratch4 (by decide), Finset.mem_erase.mpr ⟨N cc1_scratch7 cc1_scratch3 (by decide), Finset.mem_erase.mpr ⟨N cc1_scratch7 cc1_scratch2 (by decide), Finset.mem_erase.mpr ⟨N cc1_scratch7 cc1_scratch1 (by decide), Finset.mem_erase.mpr ⟨N cc1_scratch7 cc1_scratch0 (by decide), M cc1_scratch7 rfl⟩⟩⟩⟩⟩⟩⟩),
    SparseCore.bigSep_erase' (Finset.mem_erase.mpr ⟨N cc1_scratch8 cc1_scratch7 (by decide), Finset.mem_erase.mpr ⟨N cc1_scratch8 cc1_scratch6 (by decide), Finset.mem_erase.mpr ⟨N cc1_scratch8 cc1_scratch5 (by decide), Finset.mem_erase.mpr ⟨N cc1_scratch8 cc1_scratch4 (by decide), Finset.mem_erase.mpr ⟨N cc1_scratch8 cc1_scratch3 (by decide), Finset.mem_erase.mpr ⟨N cc1_scratch8 cc1_scratch2 (by decide), Finset.mem_erase.mpr ⟨N cc1_scratch8 cc1_scratch1 (by decide), Finset.mem_erase.mpr ⟨N cc1_scratch8 cc1_scratch0 (by decide), M cc1_scratch8 rfl⟩⟩⟩⟩⟩⟩⟩⟩)]

end Cert.Proof

end
-- ==== Proof.Tile.lean ====
/-
  The task of one tile: five fetches of a window, the chunk's loops, four copies out; twice.
-/
module

public import proofs.«01_k».proof.Proof.Own
public import Idealize.ShloMosaic.Lib.SparseCore.Stream

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-- The two parts of a tile's piece of result array `o`. -/
abbrev pA (L : grid1.Coords) (o : Memref sig .scVector .hbm S800000 .f32) : Memref sig .scVector .hbm S12504 .f32 :=
  o.slice (Rect.unit (s := S800000) (k1_off7 L) S12504.size (k1_off7_inb L)) (fun _ => rfl)
abbrev pB (L : grid1.Coords) (o : Memref sig .scVector .hbm S800000 .f32) : Memref sig .scVector .hbm S12496 .f32 :=
  o.slice (Rect.unit (s := S800000) (k1_off11 L) S12496.size (k1_off11_inb L)) (fun _ => rfl)
abbrev ptOA0 (f : S800000.Idx → F .f32) : sProp 𝕄 := (pA L oV0).view.loc (thr d L) ↦[(pA L oV0).view.set]{fullShare} f
abbrev ptOB0 (f : S800000.Idx → F .f32) : sProp 𝕄 := (pB L oV0).view.loc (thr d L) ↦[(pB L oV0).view.set]{fullShare} f
abbrev ptS0 (q : PosShare TreeShare) (f : S800000.Idx → F .f32) : sProp 𝕄 := (sV0).view.loc (thr d L) ↦{q} f
abbrev ptOA1 (f : S800000.Idx → F .f32) : sProp 𝕄 := (pA L oV1).view.loc (thr d L) ↦[(pA L oV1).view.set]{fullShare} f
abbrev ptOB1 (f : S800000.Idx → F .f32) : sProp 𝕄 := (pB L oV1).view.loc (thr d L) ↦[(pB L oV1).view.set]{fullShare} f
abbrev ptS1 (q : PosShare TreeShare) (f : S800000.Idx → F .f32) : sProp 𝕄 := (sV1).view.loc (thr d L) ↦{q} f
abbrev ptOA2 (f : S800000.Idx → F .f32) : sProp 𝕄 := (pA L oV2).view.loc (thr d L) ↦[(pA L oV2).view.set]{fullShare} f
abbrev ptOB2 (f : S800000.Idx → F .f32) : sProp 𝕄 := (pB L oV2).view.loc (thr d L) ↦[(pB L oV2).view.set]{fullShare} f
abbrev ptS2 (q : PosShare TreeShare) (f : S800000.Idx → F .f32) : sProp 𝕄 := (sV2).view.loc (thr d L) ↦{q} f
abbrev ptOA3 (f : S800000.Idx → F .f32) : sProp 𝕄 := (pA L oV3).view.loc (thr d L) ↦[(pA L oV3).view.set]{fullShare} f
abbrev ptOB3 (f : S800000.Idx → F .f32) : sProp 𝕄 := (pB L oV3).view.loc (thr d L) ↦[(pB L oV3).view.set]{fullShare} f
abbrev ptS3 (q : PosShare TreeShare) (f : S800000.Idx → F .f32) : sProp 𝕄 := (sV3).view.loc (thr d L) ↦{q} f

/-- Where a tile's two chunks start, and how far into its window each starts. -/
def baseA (L : grid1.Coords) : ℕ := 50000 * (L 1).val + 25000 * (L 0).val
def baseB (L : grid1.Coords) : ℕ := 50000 * (L 1).val + 25000 * (L 0).val + 12504
def offA (L : grid1.Coords) : ℕ := baseA L - winStart (baseA L)
def offB (L : grid1.Coords) : ℕ := baseB L - winStart (baseB L)

theorem off1A_eq : ∀ L : grid1.Coords, k1_off1 L 0#32 = ![winStart (baseA L)] := by decide +kernel
theorem off1B_eq : ∀ L : grid1.Coords, k1_off1 L 12504#32 = ![winStart (baseB L)] := by decide +kernel
theorem off2A_eq : ∀ L : grid1.Coords, k1_off2 L 0#32 = ![offA L] := by decide +kernel
theorem off2B_eq : ∀ L : grid1.Coords, k1_off2 L 12504#32 = ![offB L] := by decide +kernel
theorem off3A_eq : ∀ L : grid1.Coords, k1_off3 L 0#32 12504#32 = ![offA L + 12488] := by decide +kernel
theorem off3B_eq : ∀ L : grid1.Coords, k1_off3 L 12504#32 12496#32 = ![offB L + 12480] := by decide +kernel
theorem off6_eq : ∀ L : grid1.Coords, k1_off6 L = ![offA L] := by decide +kernel
theorem off10_eq : ∀ L : grid1.Coords, k1_off10 L = ![offB L] := by decide +kernel
theorem offA_le : ∀ L : grid1.Coords, offA L ≤ 256 := by decide +kernel
theorem offB_le : ∀ L : grid1.Coords, offB L ≤ 528 := by decide +kernel
theorem baseA_eq : ∀ L : grid1.Coords, baseA L = winStart (baseA L) + offA L := by decide +kernel
theorem baseB_eq : ∀ L : grid1.Coords, baseB L = winStart (baseB L) + offB L := by decide +kernel
theorem winA_le : ∀ L : grid1.Coords, winStart (baseA L) ≤ 786976 := by decide +kernel
theorem winB_le : ∀ L : grid1.Coords, winStart (baseB L) ≤ 786976 := by decide +kernel
instance closed_off1A (L : grid1.Coords) : ClosedOff (k1_off1 L 0#32) := ⟨![winStart (baseA L)], off1A_eq L⟩
instance closed_off1B (L : grid1.Coords) : ClosedOff (k1_off1 L 12504#32) := ⟨![winStart (baseB L)], off1B_eq L⟩
instance closed_off2A (L : grid1.Coords) : ClosedOff (k1_off2 L 0#32) := ⟨![offA L], off2A_eq L⟩
instance closed_off2B (L : grid1.Coords) : ClosedOff (k1_off2 L 12504#32) := ⟨![offB L], off2B_eq L⟩
instance closed_off3A (L : grid1.Coords) : ClosedOff (k1_off3 L 0#32 12504#32) := ⟨![offA L + 12488], off3A_eq L⟩
instance closed_off3B (L : grid1.Coords) : ClosedOff (k1_off3 L 12504#32 12496#32) := ⟨![offB L + 12480], off3B_eq L⟩
instance closed_off6 (L : grid1.Coords) : ClosedOff (k1_off6 L) := ⟨![offA L], off6_eq L⟩
instance closed_off10 (L : grid1.Coords) : ClosedOff (k1_off10 L) := ⟨![offB L], off10_eq L⟩

abbrev ptIds (q : PosShare TreeShare) (f : S800000.Idx → BitVec 32) : sProp 𝕄 := (iV).view.loc (thr d L) ↦{q} f
abbrev ptOs (f0 f1 f2 f3 g0 g1 g2 g3 : S800000.Idx → F .f32) : sProp 𝕄 :=
  iprop((ptOA0 d L f0 ∗ ptOA1 d L f1 ∗ ptOA2 d L f2 ∗ ptOA3 d L f3) ∗ (ptOB0 d L g0 ∗ ptOB1 d L g1 ∗ ptOB2 d L g2 ∗ ptOB3 d L g3))
abbrev ptSs (q : PosShare TreeShare) (f0 f1 f2 f3 : S800000.Idx → F .f32) : sProp 𝕄 := iprop(ptS0 d L q f0 ∗ ptS1 d L q f1 ∗ ptS2 d L q f2 ∗ ptS3 d L q f3)

/-- The buffer of ids once a window has landed. -/
def landI (w : ℕ) (ids : S800000.Idx → BitVec 32) (f : S13040.Idx → BitVec 32) : S13040.Idx → BitVec 32 :=
  fun j => if (j 0).val < 13024 then rd ids (w + (j 0).val) else f j

/-- A window of an array, read at a position of the window. -/
theorem src_eq {α : Type} (s : S800000.Idx → α) (off : Fin 1 → ℕ) (w : ℕ) (hoff : off = ![w]) (inb : ∀ a, off a + S13024.size a ≤ S800000.size a)
    (j : S13024.Idx) : s ((Rect.unit (s := S800000) off S13024.size inb).emb j) = rd s (w + (j 0).val) := by
  subst hoff
  rw [← rd_val s]
  congr 1
  show w + 1 * (j 0).val = _
  omega

theorem rd_tI (g : S13040.Idx → BitVec 32) : tI.view.read (Elt F) g = g := rfl

theorem ld_I (g : S13040.Idx → BitVec 32) (off : Fin 1 → ℕ) (inb : ∀ a, off a + S16.size a ≤ S13040.size a) (x : S16.Idx) :
    View.readAt (Elt F) tI.view (Rect.unit (s := S13040) off S16.size inb).toLoadRect g x = g ((Rect.unit (s := S13040) off S16.size inb).emb x) := rfl

theorem land_I (w : ℕ) (ids : S800000.Idx → BitVec 32) (f : S13040.Idx → BitVec 32) (p : S13024.Idx → BitVec 32) (hp : ∀ j, p j = rd ids (w + (j 0).val)) :
    (tI.view.writes (Elt F) f [⟨Rect.unit (s := S13040) ![0] S13024.size inb_S13040_S13024_0, p⟩] : S13040.Idx → BitVec 32) = landI w ids f := by
  funext y
  by_cases hy : (y 0).val < 13024
  · have h := View.read_writes_cons_hit_of_coords (Val := Elt F) (e := .i32) tI.view f (Rect.unit (s := S13040) ![0] S13024.size inb_S13040_S13024_0) p [] (fun a => ⟨(y 0).val, by match a with | 0 => exact hy⟩) y
      (by intro a; match a with | 0 => show (y 0).val = 0 + 1 * (y 0).val; omega)
    unfold landI
    rw [if_pos hy, ← hp (fun a => ⟨(y 0).val, by match a with | 0 => exact hy⟩)]
    exact (congrFun (rd_tI _) y).symm.trans h
  · have h := View.read_writes_cons_miss_of_axis (v := tI.view) (Val := Elt F) f ⟨Rect.unit (s := S13040) ![0] S13024.size inb_S13040_S13024_0, p⟩ [] y (0 : Fin 1) 0 13024 rfl rfl rfl (by show (y 0).val < 0 ∨ 0 + 13024 ≤ (y 0).val; omega)
    unfold landI
    rw [if_neg hy]
    exact (congrFun (rd_tI _) y).symm.trans h

/-- The sixteen ids from a position, read out of the landed buffer. -/
theorem rd_land (w : ℕ) (ids : S800000.Idx → BitVec 32) (f : S13040.Idx → BitVec 32) (off : Fin 1 → ℕ) (o : ℕ) (hoff : off = ![o])
    (inb : ∀ a, off a + S16.size a ≤ S13040.size a) (x : S16.Idx) (h : o + (x 0).val < 13024) :
    landI w ids f ((Rect.unit (s := S13040) off S16.size inb).emb x) = rd ids (w + o + (x 0).val) := by
  subst hoff
  unfold landI
  have e : ((Rect.unit (s := S13040) ![o] S16.size inb).emb x 0).val = o + (x 0).val := by
    show o + 1 * (x 0).val = _
    omega
  rw [e, if_pos h, Nat.add_assoc]

theorem landX0 (x p : S13024.Idx → F .f32) (X : ℕ → F .f32) (h : ∀ j, p j = X (j 0).val) :
    View.write (Elt F) tX0.view x p Finset.univ = winX X := by
  rw [View.write_whole_univ]; funext j; exact h j
theorem landX1 (x p : S13024.Idx → F .f32) (X : ℕ → F .f32) (h : ∀ j, p j = X (j 0).val) :
    View.write (Elt F) tX1.view x p Finset.univ = winX X := by
  rw [View.write_whole_univ]; funext j; exact h j
theorem landX2 (x p : S13024.Idx → F .f32) (X : ℕ → F .f32) (h : ∀ j, p j = X (j 0).val) :
    View.write (Elt F) tX2.view x p Finset.univ = winX X := by
  rw [View.write_whole_univ]; funext j; exact h j
theorem landX3 (x p : S13024.Idx → F .f32) (X : ℕ → F .f32) (h : ∀ j, p j = X (j 0).val) :
    View.write (Elt F) tX3.view x p Finset.univ = winX X := by
  rw [View.write_whole_univ]; funext j; exact h j

theorem off7_eq : ∀ L : grid1.Coords, k1_off7 L = ![baseA L] := by decide +kernel
theorem off11_eq : ∀ L : grid1.Coords, k1_off11 L = ![baseB L] := by decide +kernel

/-- The result at a position of a tile's first chunk, and of its second. -/
theorem outAt_A (ids : ℕ → BitVec 32) (s : ℕ → F .f32) (x : ℕ) (hx : x < 12504) : outAt ids s (baseA L + x)
    = fin (ids (baseA L)) (ids (baseA L + 12504 - 1)) (fun j => ids (winStart (baseA L) + j)) (fun j => s (winStart (baseA L) + j)) (offA L + x) := by
  have h1 : (baseA L + x) % 25000 < 12504 := by unfold baseA; omega
  have h2 : (baseA L + x) / 25000 * 25000 = baseA L := by unfold baseA; omega
  have h3 : baseA L + x - winStart (baseA L) = offA L + x := by have := baseA_eq L; omega
  unfold outAt chunk
  rw [if_pos h1, h2, h3]
theorem outAt_B (ids : ℕ → BitVec 32) (s : ℕ → F .f32) (x : ℕ) (hx : x < 12496) : outAt ids s (baseB L + x)
    = fin (ids (baseB L)) (ids (baseB L + 12496 - 1)) (fun j => ids (winStart (baseB L) + j)) (fun j => s (winStart (baseB L) + j)) (offB L + x) := by
  have h1 : ¬ (baseB L + x) % 25000 < 12504 := by unfold baseB; omega
  have h2 : (baseB L + x) / 25000 * 25000 + 12504 = baseB L := by unfold baseB; omega
  have h3 : baseB L + x - winStart (baseB L) = offB L + x := by have := baseB_eq L; omega
  unfold outAt chunk
  rw [if_neg h1, h2, h3]

theorem emb_A (x : S12504.Idx) : (((Rect.unit (s := S800000) (k1_off7 L) S12504.size (k1_off7_inb L)).emb x) 0).val = baseA L + (x 0).val := by
  show (k1_off7 L) 0 + 1 * (x 0).val = _
  rw [off7_eq]; show baseA L + 1 * (x 0).val = _; omega
theorem emb_tA (X : ℕ → F .f32) (x : S12504.Idx) : winX X ((Rect.unit (s := S13024) (k1_off6 L) S12504.size (k1_off6_inb L)).emb x) = X (offA L + (x 0).val) := by
  unfold winX
  rw [Rect.emb_apply, Rect.off_unit, Rect.stride_unit]; refine congrArg X ?_
  rw [congrFun (off6_eq L) 0, Nat.one_mul]; rfl
theorem putA0 (ids : S800000.Idx → BitVec 32) (s : S800000.Idx → F .f32) (g : S800000.Idx → F .f32) (p : S12504.Idx → F .f32)
    (hp : ∀ x, p x = fin (rd ids (baseA L)) (rd ids (baseA L + 12504 - 1)) (fun j => rd ids (winStart (baseA L) + j)) (fun j => rd s (winStart (baseA L) + j)) (offA L + (x 0).val)) :
    (ptOA0 d L ((pA L oV0).view.writes (Elt F) g [⟨Rect.whole S12504, p⟩])) = ptOA0 d L (outArr ids s) := by
  refine pointsTo_congr fun i hi => ?_
  obtain ⟨x, -, rfl⟩ := Finset.mem_map.mp hi
  have h := View.read_writes_cons_hit_of_coords (Val := Elt F) (e := .f32) (pA L oV0).view g (Rect.whole S12504) p [] x x (by intro a; match a with | 0 => show (x 0).val = 0 + 1 * (x 0).val; omega)
  refine ((show ∀ f : S800000.Idx → F .f32, (pA L oV0).view.read (Elt F) f x = f ((pA L oV0).view.emb x) from fun _ => rfl) _).symm.trans (h.trans ((hp x).trans ?_))
  rw [← outAt_A L (rd ids) (rd s) (x 0).val (x 0).isLt, ← emb_A L x]
  rfl
theorem putA1 (ids : S800000.Idx → BitVec 32) (s : S800000.Idx → F .f32) (g : S800000.Idx → F .f32) (p : S12504.Idx → F .f32)
    (hp : ∀ x, p x = fin (rd ids (baseA L)) (rd ids (baseA L + 12504 - 1)) (fun j => rd ids (winStart (baseA L) + j)) (fun j => rd s (winStart (baseA L) + j)) (offA L + (x 0).val)) :
    (ptOA1 d L ((pA L oV1).view.writes (Elt F) g [⟨Rect.whole S12504, p⟩])) = ptOA1 d L (outArr ids s) := by
  refine pointsTo_congr fun i hi => ?_
  obtain ⟨x, -, rfl⟩ := Finset.mem_map.mp hi
  have h := View.read_writes_cons_hit_of_coords (Val := Elt F) (e := .f32) (pA L oV1).view g (Rect.whole S12504) p [] x x (by intro a; match a with | 0 => show (x 0).val = 0 + 1 * (x 0).val; omega)
  refine ((show ∀ f : S800000.Idx → F .f32, (pA L oV1).view.read (Elt F) f x = f ((pA L oV1).view.emb x) from fun _ => rfl) _).symm.trans (h.trans ((hp x).trans ?_))
  rw [← outAt_A L (rd ids) (rd s) (x 0).val (x 0).isLt, ← emb_A L x]
  rfl
theorem putA2 (ids : S800000.Idx → BitVec 32) (s : S800000.Idx → F .f32) (g : S800000.Idx → F .f32) (p : S12504.Idx → F .f32)
    (hp : ∀ x, p x = fin (rd ids (baseA L)) (rd ids (baseA L + 12504 - 1)) (fun j => rd ids (winStart (baseA L) + j)) (fun j => rd s (winStart (baseA L) + j)) (offA L + (x 0).val)) :
    (ptOA2 d L ((pA L oV2).view.writes (Elt F) g [⟨Rect.whole S12504, p⟩])) = ptOA2 d L (outArr ids s) := by
  refine pointsTo_congr fun i hi => ?_
  obtain ⟨x, -, rfl⟩ := Finset.mem_map.mp hi
  have h := View.read_writes_cons_hit_of_coords (Val := Elt F) (e := .f32) (pA L oV2).view g (Rect.whole S12504) p [] x x (by intro a; match a with | 0 => show (x 0).val = 0 + 1 * (x 0).val; omega)
  refine ((show ∀ f : S800000.Idx → F .f32, (pA L oV2).view.read (Elt F) f x = f ((pA L oV2).view.emb x) from fun _ => rfl) _).symm.trans (h.trans ((hp x).trans ?_))
  rw [← outAt_A L (rd ids) (rd s) (x 0).val (x 0).isLt, ← emb_A L x]
  rfl
theorem putA3 (ids : S800000.Idx → BitVec 32) (s : S800000.Idx → F .f32) (g : S800000.Idx → F .f32) (p : S12504.Idx → F .f32)
    (hp : ∀ x, p x = fin (rd ids (baseA L)) (rd ids (baseA L + 12504 - 1)) (fun j => rd ids (winStart (baseA L) + j)) (fun j => rd s (winStart (baseA L) + j)) (offA L + (x 0).val)) :
    (ptOA3 d L ((pA L oV3).view.writes (Elt F) g [⟨Rect.whole S12504, p⟩])) = ptOA3 d L (outArr ids s) := by
  refine pointsTo_congr fun i hi => ?_
  obtain ⟨x, -, rfl⟩ := Finset.mem_map.mp hi
  have h := View.read_writes_cons_hit_of_coords (Val := Elt F) (e := .f32) (pA L oV3).view g (Rect.whole S12504) p [] x x (by intro a; match a with | 0 => show (x 0).val = 0 + 1 * (x 0).val; omega)
  refine ((show ∀ f : S800000.Idx → F .f32, (pA L oV3).view.read (Elt F) f x = f ((pA L oV3).view.emb x) from fun _ => rfl) _).symm.trans (h.trans ((hp x).trans ?_))
  rw [← outAt_A L (rd ids) (rd s) (x 0).val (x 0).isLt, ← emb_A L x]
  rfl
theorem emb_B (x : S12496.Idx) : (((Rect.unit (s := S800000) (k1_off11 L) S12496.size (k1_off11_inb L)).emb x) 0).val = baseB L + (x 0).val := by
  show (k1_off11 L) 0 + 1 * (x 0).val = _
  rw [off11_eq]; show baseB L + 1 * (x 0).val = _; omega
theorem emb_tB (X : ℕ → F .f32) (x : S12496.Idx) : winX X ((Rect.unit (s := S13024) (k1_off10 L) S12496.size (k1_off10_inb L)).emb x) = X (offB L + (x 0).val) := by
  unfold winX
  rw [Rect.emb_apply, Rect.off_unit, Rect.stride_unit]; refine congrArg X ?_
  rw [congrFun (off10_eq L) 0, Nat.one_mul]; rfl
theorem putB0 (ids : S800000.Idx → BitVec 32) (s : S800000.Idx → F .f32) (g : S800000.Idx → F .f32) (p : S12496.Idx → F .f32)
    (hp : ∀ x, p x = fin (rd ids (baseB L)) (rd ids (baseB L + 12496 - 1)) (fun j => rd ids (winStart (baseB L) + j)) (fun j => rd s (winStart (baseB L) + j)) (offB L + (x 0).val)) :
    (ptOB0 d L ((pB L oV0).view.writes (Elt F) g [⟨Rect.whole S12496, p⟩])) = ptOB0 d L (outArr ids s) := by
  refine pointsTo_congr fun i hi => ?_
  obtain ⟨x, -, rfl⟩ := Finset.mem_map.mp hi
  have h := View.read_writes_cons_hit_of_coords (Val := Elt F) (e := .f32) (pB L oV0).view g (Rect.whole S12496) p [] x x (by intro a; match a with | 0 => show (x 0).val = 0 + 1 * (x 0).val; omega)
  refine ((show ∀ f : S800000.Idx → F .f32, (pB L oV0).view.read (Elt F) f x = f ((pB L oV0).view.emb x) from fun _ => rfl) _).symm.trans (h.trans ((hp x).trans ?_))
  rw [← outAt_B L (rd ids) (rd s) (x 0).val (x 0).isLt, ← emb_B L x]
  rfl
theorem putB1 (ids : S800000.Idx → BitVec 32) (s : S800000.Idx → F .f32) (g : S800000.Idx → F .f32) (p : S12496.Idx → F .f32)
    (hp : ∀ x, p x = fin (rd ids (baseB L)) (rd ids (baseB L + 12496 - 1)) (fun j => rd ids (winStart (baseB L) + j)) (fun j => rd s (winStart (baseB L) + j)) (offB L + (x 0).val)) :
    (ptOB1 d L ((pB L oV1).view.writes (Elt F) g [⟨Rect.whole S12496, p⟩])) = ptOB1 d L (outArr ids s) := by
  refine pointsTo_congr fun i hi => ?_
  obtain ⟨x, -, rfl⟩ := Finset.mem_map.mp hi
  have h := View.read_writes_cons_hit_of_coords (Val := Elt F) (e := .f32) (pB L oV1).view g (Rect.whole S12496) p [] x x (by intro a; match a with | 0 => show (x 0).val = 0 + 1 * (x 0).val; omega)
  refine ((show ∀ f : S800000.Idx → F .f32, (pB L oV1).view.read (Elt F) f x = f ((pB L oV1).view.emb x) from fun _ => rfl) _).symm.trans (h.trans ((hp x).trans ?_))
  rw [← outAt_B L (rd ids) (rd s) (x 0).val (x 0).isLt, ← emb_B L x]
  rfl
theorem putB2 (ids : S800000.Idx → BitVec 32) (s : S800000.Idx → F .f32) (g : S800000.Idx → F .f32) (p : S12496.Idx → F .f32)
    (hp : ∀ x, p x = fin (rd ids (baseB L)) (rd ids (baseB L + 12496 - 1)) (fun j => rd ids (winStart (baseB L) + j)) (fun j => rd s (winStart (baseB L) + j)) (offB L + (x 0).val)) :
    (ptOB2 d L ((pB L oV2).view.writes (Elt F) g [⟨Rect.whole S12496, p⟩])) = ptOB2 d L (outArr ids s) := by
  refine pointsTo_congr fun i hi => ?_
  obtain ⟨x, -, rfl⟩ := Finset.mem_map.mp hi
  have h := View.read_writes_cons_hit_of_coords (Val := Elt F) (e := .f32) (pB L oV2).view g (Rect.whole S12496) p [] x x (by intro a; match a with | 0 => show (x 0).val = 0 + 1 * (x 0).val; omega)
  refine ((show ∀ f : S800000.Idx → F .f32, (pB L oV2).view.read (Elt F) f x = f ((pB L oV2).view.emb x) from fun _ => rfl) _).symm.trans (h.trans ((hp x).trans ?_))
  rw [← outAt_B L (rd ids) (rd s) (x 0).val (x 0).isLt, ← emb_B L x]
  rfl
theorem putB3 (ids : S800000.Idx → BitVec 32) (s : S800000.Idx → F .f32) (g : S800000.Idx → F .f32) (p : S12496.Idx → F .f32)
    (hp : ∀ x, p x = fin (rd ids (baseB L)) (rd ids (baseB L + 12496 - 1)) (fun j => rd ids (winStart (baseB L) + j)) (fun j => rd s (winStart (baseB L) + j)) (offB L + (x 0).val)) :
    (ptOB3 d L ((pB L oV3).view.writes (Elt F) g [⟨Rect.whole S12496, p⟩])) = ptOB3 d L (outArr ids s) := by
  refine pointsTo_congr fun i hi => ?_
  obtain ⟨x, -, rfl⟩ := Finset.mem_map.mp hi
  have h := View.read_writes_cons_hit_of_coords (Val := Elt F) (e := .f32) (pB L oV3).view g (Rect.whole S12496) p [] x x (by intro a; match a with | 0 => show (x 0).val = 0 + 1 * (x 0).val; omega)
  refine ((show ∀ f : S800000.Idx → F .f32, (pB L oV3).view.read (Elt F) f x = f ((pB L oV3).view.emb x) from fun _ => rfl) _).symm.trans (h.trans ((hp x).trans ?_))
  rw [← outAt_B L (rd ids) (rd s) (x 0).val (x 0).isLt, ← emb_B L x]
  rfl

set_option maxHeartbeats 4000000 in
theorem tile_body (hF : (K (F := F)).Facts) (O : CellTallies nD τ sig (HIx 1)) (W : Waits sig (HIx 1)) (hO : ∀ g, O g none = 0)
    (q : PosShare TreeShare) (ids : S800000.Idx → BitVec 32) (s0 s1 s2 s3 f0 f1 f2 f3 g0 g1 g2 g3 : S800000.Idx → F .f32) :
    iprop(levAts (K (F := F)).L (K (F := F)).lev ∗ emp
        ∗ (ptIds d L q ids ∗ ptSs d L q s0 s1 s2 s3 ∗ ptOs d L f0 f1 f2 f3 g0 g1 g2 g3)
        ∗ scopedBufs (thr d L) ∗ scopedSems0 (thr d L) ∗ owes (thr d L) O W)
      ⊢ wp frame (wpE (defs₀ (F := F)) 𝒱₀ (thr d L) none) Set.univ
          (cc1_k L sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17)
          fun _ => iprop((ptIds d L q ids ∗ ptSs d L q s0 s1 s2 s3
              ∗ ptOs d L (outArr ids s0) (outArr ids s1) (outArr ids s2) (outArr ids s3) (outArr ids s0) (outArr ids s1) (outArr ids s2) (outArr ids s3))
            ∗ scopedBufs (thr d L) ∗ scopedSems0 (thr d L)
            ∗ ∃ W', ⌜∀ p ∈ W', p ∈ W ∨ p.2 = none⌝ ∗ owes (thr d L) O W') := by
  have hoA := offA_le L
  have hoB := offB_le L
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, -, ⟨Hids, ⟨S0, S1, S2, S3⟩, ⟨A0, A1, A2, A3⟩, B0, B1, B2, B3⟩, ⟨⟨%fI, HI⟩, ⟨%x0, X0⟩, ⟨%x1, X1⟩, ⟨%x2, X2⟩, ⟨%x3, X3⟩, ⟨%z0, Z0⟩, ⟨%z1, Z1⟩, ⟨%z2, Z2⟩, ⟨%z3, Z3⟩, Hbufs⟩, ⟨D0, D1, D2, D3, D4, D5, D6, D7, D8, D9, D10, D11, D12, D13, D14, D15, D16, D17, Hsems⟩, HO⟩
  ihave Hmw := (show levAts (K (F := F)).L (K (F := F)).lev ⊢ Transfers.MayWaits (thr d L) (default : HIx 1) O from
    (K (F := F)).mayWaits_none (thr := thr d L) hO) $$ Hlv
  simp only [cc1_k_eq_skeleton]; unfold cc1_k_skel
  simp only [k1_part1_eq_skeleton]; unfold k1_part1_skel
  ihave HI := (show ((thr d L).loc cc1_scratch0 ↦{fullShare} fI : sProp 𝕄) ⊢ ptI d L fI from Entails.rfl) $$ HI
  ihave X0 := (show ((thr d L).loc cc1_scratch1 ↦{fullShare} x0 : sProp 𝕄) ⊢ ptX0 d L x0 from Entails.rfl) $$ X0
  ihave X1 := (show ((thr d L).loc cc1_scratch2 ↦{fullShare} x1 : sProp 𝕄) ⊢ ptX1 d L x1 from Entails.rfl) $$ X1
  ihave X2 := (show ((thr d L).loc cc1_scratch3 ↦{fullShare} x2 : sProp 𝕄) ⊢ ptX2 d L x2 from Entails.rfl) $$ X2
  ihave X3 := (show ((thr d L).loc cc1_scratch4 ↦{fullShare} x3 : sProp 𝕄) ⊢ ptX3 d L x3 from Entails.rfl) $$ X3
  ihave Z0 := (show ((thr d L).loc cc1_scratch5 ↦{fullShare} z0 : sProp 𝕄) ⊢ ptZ0 d L z0 from Entails.rfl) $$ Z0
  ihave Z1 := (show ((thr d L).loc cc1_scratch6 ↦{fullShare} z1 : sProp 𝕄) ⊢ ptZ1 d L z1 from Entails.rfl) $$ Z1
  ihave Z2 := (show ((thr d L).loc cc1_scratch7 ↦{fullShare} z2 : sProp 𝕄) ⊢ ptZ2 d L z2 from Entails.rfl) $$ Z2
  ihave Z3 := (show ((thr d L).loc cc1_scratch8 ↦{fullShare} z3 : sProp 𝕄) ⊢ ptZ3 d L z3 from Entails.rfl) $$ Z3
  sl_exec
  ihave HI := (Entails.of_eq (congrArg (ptI d L) (land_I (winStart (baseA L)) ids fI _ ?_))) $$ HI
  · intro j; exact src_eq ids _ _ (off1A_eq L) _ j
  ihave X0 := (Entails.of_eq (congrArg (ptX0 d L) (landX0 _ _ (fun j => rd s0 (winStart (baseA L) + j)) ?_))) $$ X0
  · intro j; exact src_eq s0 _ _ (off1A_eq L) _ j
  ihave X1 := (Entails.of_eq (congrArg (ptX1 d L) (landX1 _ _ (fun j => rd s1 (winStart (baseA L) + j)) ?_))) $$ X1
  · intro j; exact src_eq s1 _ _ (off1A_eq L) _ j
  ihave X2 := (Entails.of_eq (congrArg (ptX2 d L) (landX2 _ _ (fun j => rd s2 (winStart (baseA L) + j)) ?_))) $$ X2
  · intro j; exact src_eq s2 _ _ (off1A_eq L) _ j
  ihave X3 := (Entails.of_eq (congrArg (ptX3 d L) (landX3 _ _ (fun j => rd s3 (winStart (baseA L) + j)) ?_))) $$ X3
  · intro j; exact src_eq s3 _ _ (off1A_eq L) _ j
  iapply (loops d L (rd ids (baseA L)) (rd ids (baseA L + 12504 - 1)) (fun j => rd ids (winStart (baseA L) + j)) (landI (winStart (baseA L)) ids fI) (fun j hj => if_pos hj) (fun j => rd s0 (winStart (baseA L) + j)) (fun j => rd s1 (winStart (baseA L) + j)) (fun j => rd s2 (winStart (baseA L) + j)) (fun j => rd s3 (winStart (baseA L) + j)) _ _ _ _ _ _ _ ?_ ?_ _) $$ [HI X0 X1 X2 X3 Z0 Z1 Z2 Z3]
  · refine (ld_I _ _ _ _).trans ((congrFun (land_I (winStart (baseA L)) ids fI _ (fun j => src_eq ids _ _ (off1A_eq L) _ j)) _).trans ?_)
    refine (rd_land (winStart (baseA L)) ids fI _ _ (off2A_eq L) _ _ ?_).trans ?_
    · show offA L + 0 < _; omega
    · show rd ids (_ + _ + 0) = _; rw [Nat.add_zero, ← baseA_eq L]
  · refine (ld_I _ _ _ _).trans ((congrFun (land_I (winStart (baseA L)) ids fI _ (fun j => src_eq ids _ _ (off1A_eq L) _ j)) _).trans ?_)
    refine (rd_land (winStart (baseA L)) ids fI _ _ (off3A_eq L) _ _ ?_).trans ?_
    · show offA L + 12488 + 15 < _; omega
    · exact congrArg (rd ids) (show winStart (baseA L) + (offA L + 12488) + 15 = baseA L + 12504 - 1 by have := baseA_eq L; omega)
  · isplitl [HI]; · iexact HI
    isplitl [X0 X1 X2 X3]
    · isplitl [X0]; · iexact X0
      isplitl [X1]; · iexact X1
      isplitl [X2] <;> iassumption
    · isplitl [Z0]; · iexact Z0
      isplitl [Z1]; · iexact Z1
      isplitl [Z2] <;> iassumption
  iintro ⟨HI, ⟨X0, X1, X2, X3⟩, Z0, Z1, Z2, Z3⟩
  sl_exec
  ihave A0 := (Entails.of_eq (putA0 d L ids s0 _ _ ?_)) $$ A0
  · intro x; exact emb_tA L (fin (rd ids (baseA L)) (rd ids (baseA L + 12504 - 1)) (fun j => rd ids (winStart (baseA L) + j)) (fun j => rd s0 (winStart (baseA L) + j))) x
  ihave A1 := (Entails.of_eq (putA1 d L ids s1 _ _ ?_)) $$ A1
  · intro x; exact emb_tA L (fin (rd ids (baseA L)) (rd ids (baseA L + 12504 - 1)) (fun j => rd ids (winStart (baseA L) + j)) (fun j => rd s1 (winStart (baseA L) + j))) x
  ihave A2 := (Entails.of_eq (putA2 d L ids s2 _ _ ?_)) $$ A2
  · intro x; exact emb_tA L (fin (rd ids (baseA L)) (rd ids (baseA L + 12504 - 1)) (fun j => rd ids (winStart (baseA L) + j)) (fun j => rd s2 (winStart (baseA L) + j))) x
  ihave A3 := (Entails.of_eq (putA3 d L ids s3 _ _ ?_)) $$ A3
  · intro x; exact emb_tA L (fin (rd ids (baseA L)) (rd ids (baseA L + 12504 - 1)) (fun j => rd ids (winStart (baseA L) + j)) (fun j => rd s3 (winStart (baseA L) + j))) x
  ihave HI := (Entails.of_eq (congrArg (ptI d L) (land_I (winStart (baseB L)) ids (landI (winStart (baseA L)) ids fI) _ ?_))) $$ HI
  · intro j; exact src_eq ids _ _ (off1B_eq L) _ j
  ihave X0 := (Entails.of_eq (congrArg (ptX0 d L) (landX0 _ _ (fun j => rd s0 (winStart (baseB L) + j)) ?_))) $$ X0
  · intro j; exact src_eq s0 _ _ (off1B_eq L) _ j
  ihave X1 := (Entails.of_eq (congrArg (ptX1 d L) (landX1 _ _ (fun j => rd s1 (winStart (baseB L) + j)) ?_))) $$ X1
  · intro j; exact src_eq s1 _ _ (off1B_eq L) _ j
  ihave X2 := (Entails.of_eq (congrArg (ptX2 d L) (landX2 _ _ (fun j => rd s2 (winStart (baseB L) + j)) ?_))) $$ X2
  · intro j; exact src_eq s2 _ _ (off1B_eq L) _ j
  ihave X3 := (Entails.of_eq (congrArg (ptX3 d L) (landX3 _ _ (fun j => rd s3 (winStart (baseB L) + j)) ?_))) $$ X3
  · intro j; exact src_eq s3 _ _ (off1B_eq L) _ j
  iapply (loops2 d L (rd ids (baseB L)) (rd ids (baseB L + 12496 - 1)) (fun j => rd ids (winStart (baseB L) + j)) (landI (winStart (baseB L)) ids (landI (winStart (baseA L)) ids fI)) (fun j hj => if_pos hj) (fun j => rd s0 (winStart (baseB L) + j)) (fun j => rd s1 (winStart (baseB L) + j)) (fun j => rd s2 (winStart (baseB L) + j)) (fun j => rd s3 (winStart (baseB L) + j)) _ _ _ _ _ _ _ ?_ ?_ _) $$ [HI X0 X1 X2 X3 Z0 Z1 Z2 Z3]
  · refine (ld_I _ _ _ _).trans ((congrFun (land_I (winStart (baseB L)) ids (landI (winStart (baseA L)) ids fI) _ (fun j => src_eq ids _ _ (off1B_eq L) _ j)) _).trans ?_)
    refine (rd_land (winStart (baseB L)) ids (landI (winStart (baseA L)) ids fI) _ _ (off2B_eq L) _ _ ?_).trans ?_
    · show offB L + 0 < _; omega
    · show rd ids (_ + _ + 0) = _; rw [Nat.add_zero, ← baseB_eq L]
  · refine (ld_I _ _ _ _).trans ((congrFun (land_I (winStart (baseB L)) ids (landI (winStart (baseA L)) ids fI) _ (fun j => src_eq ids _ _ (off1B_eq L) _ j)) _).trans ?_)
    refine (rd_land (winStart (baseB L)) ids (landI (winStart (baseA L)) ids fI) _ _ (off3B_eq L) _ _ ?_).trans ?_
    · show offB L + 12480 + 15 < _; omega
    · exact congrArg (rd ids) (show winStart (baseB L) + (offB L + 12480) + 15 = baseB L + 12496 - 1 by have := baseB_eq L; omega)
  · isplitl [HI]; · iexact HI
    isplitl [X0 X1 X2 X3]
    · isplitl [X0]; · iexact X0
      isplitl [X1]; · iexact X1
      isplitl [X2] <;> iassumption
    · isplitl [Z0]; · iexact Z0
      isplitl [Z1]; · iexact Z1
      isplitl [Z2] <;> iassumption
  iintro ⟨HI, ⟨X0, X1, X2, X3⟩, Z0, Z1, Z2, Z3⟩
  sl_exec
  ihave B0 := (Entails.of_eq (putB0 d L ids s0 _ _ ?_)) $$ B0
  · intro x; exact emb_tB L (fin (rd ids (baseB L)) (rd ids (baseB L + 12496 - 1)) (fun j => rd ids (winStart (baseB L) + j)) (fun j => rd s0 (winStart (baseB L) + j))) x
  ihave B1 := (Entails.of_eq (putB1 d L ids s1 _ _ ?_)) $$ B1
  · intro x; exact emb_tB L (fin (rd ids (baseB L)) (rd ids (baseB L + 12496 - 1)) (fun j => rd ids (winStart (baseB L) + j)) (fun j => rd s1 (winStart (baseB L) + j))) x
  ihave B2 := (Entails.of_eq (putB2 d L ids s2 _ _ ?_)) $$ B2
  · intro x; exact emb_tB L (fin (rd ids (baseB L)) (rd ids (baseB L + 12496 - 1)) (fun j => rd ids (winStart (baseB L) + j)) (fun j => rd s2 (winStart (baseB L) + j))) x
  ihave B3 := (Entails.of_eq (putB3 d L ids s3 _ _ ?_)) $$ B3
  · intro x; exact emb_tB L (fin (rd ids (baseB L)) (rd ids (baseB L + 12496 - 1)) (fun j => rd ids (winStart (baseB L) + j)) (fun j => rd s3 (winStart (baseB L) + j))) x
  rw [wp_ret]; imodintro
  ihave Hids := (show ((iV).view.loc (thr d L) ↦{q} ids : sProp 𝕄) ⊢ ptIds d L q ids from Entails.rfl) $$ Hids
  isplitl [Hids S0 S1 S2 S3 A0 A1 A2 A3 B0 B1 B2 B3]
  · isplitl [Hids]; · iexact Hids
    isplitl [S0 S1 S2 S3]
    · isplitl [S0]; · iexact S0
      isplitl [S1]; · iexact S1
      isplitl [S2] <;> iassumption
    isplitl [A0 A1 A2 A3]
    · isplitl [A0]; · iexact A0
      isplitl [A1]; · iexact A1
      isplitl [A2] <;> iassumption
    · isplitl [B0]; · iexact B0
      isplitl [B1]; · iexact B1
      isplitl [B2] <;> iassumption
  isplitl [HI X0 X1 X2 X3 Z0 Z1 Z2 Z3 Hbufs]
  · isplitl [HI]; · iexists _; iexact HI
    isplitl [X0]; · iexists _; iexact X0
    isplitl [X1]; · iexists _; iexact X1
    isplitl [X2]; · iexists _; iexact X2
    isplitl [X3]; · iexists _; iexact X3
    isplitl [Z0]; · iexists _; iexact Z0
    isplitl [Z1]; · iexists _; iexact Z1
    isplitl [Z2]; · iexists _; iexact Z2
    isplitl [Z3]; · iexists _; iexact Z3
    iexact Hbufs
  isplitl [D0 D1 D2 D3 D4 D5 D6 D7 D8 D9 D10 D11 D12 D13 D14 D15 D16 D17 Hsems]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    isplitl [D8]; · iexact D8
    isplitl [D9]; · iexact D9
    isplitl [D10]; · iexact D10
    isplitl [D11]; · iexact D11
    isplitl [D12]; · iexact D12
    isplitl [D13]; · iexact D13
    isplitl [D14]; · iexact D14
    isplitl [D15]; · iexact D15
    isplitl [D16]; · iexact D16
    isplitl [D17]; · iexact D17
    iexact Hsems
  iexists _
  isplitr
  swap; · iexact HO
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof

end
-- ==== Proof.Region.lean ====
/-
  The TensorCore's kernel: one block of 65536 columns per grid point, each output the product of one row of the query
  matrix with the block.
-/
module

public import proofs.«01_k».proof.Proof.Setup
public import proofs.«01_k».proof.Proof.Gen.KernelIdeal.Launch
public import proofs.«01_k».proof.Proof.Gen.KernelIdeal.Points
public import Idealize.ShloMosaic.Lib.Pipeline.Regions
public import Idealize.ShloMosaic.Lib.VecWindow
public import Idealize.ShloMosaic.Lib.Pointwise.Index
public import Idealize.ShloMosaic.Lib.Pipeline.ArrRel
public import Idealize.ShloMosaic.Lib.Pipeline.ValueKit.Partial

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat Dat)

variable {F : FTy → Type} [FloatOps F] [∀ e, Nonempty (Elt F e)]

local notation "𝕄" => MT nD τ sig (HIx 1) (Elt F) ℕ UU ℕ

/-- The pipeline's rounds within the resource algebra. -/
abbrev EP : Emb UP (MT nD τ sig (HIx 1) (Elt F) ℕ UU ℕ) := (Emb.inl : Emb UP (UP × Counters)).trans embR

instance : (EP (F := F)).LandsIn (upEmb : UEmb _ 𝕄) := by unfold EP embR; infer_instance

/-! ## The body at one grid point -/

theorem block_body (c : Dev nD) (i : grid0.Coords) (M1 : Memref sig .tc .vmem S32x65536 .f32) (h1 : M1.IsWhole) (M2 : Memref sig .tc .vmem S4x32 .f32) (h2 : M2.IsWhole)
    (M3 : Memref sig .tc .vmem S65536 .f32) (h3 : M3.IsWhole) (M4 : Memref sig .tc .vmem S65536 .f32) (h4 : M4.IsWhole)
    (M5 : Memref sig .tc .vmem S65536 .f32) (h5 : M5.IsWhole) (M6 : Memref sig .tc .vmem S65536 .f32) (h6 : M6.IsWhole)
    (x : S32x65536.Idx → Elt F .f32) (u : S4x32.Idx → Elt F .f32) (Q : PUnit → sProp 𝕄) :
    iprop(owns (c : Thread nD τ) M1 fullShare x ∗ owns (c : Thread nD τ) M2 fullShare u ∗ (∃ y, owns (c : Thread nD τ) M3 fullShare y)
        ∗ (∃ y, owns (c : Thread nD τ) M4 fullShare y) ∗ (∃ y, owns (c : Thread nD τ) M5 fullShare y) ∗ (∃ y, owns (c : Thread nD τ) M6 fullShare y)
        ∗ (iprop(owns (c : Thread nD τ) M1 fullShare x ∗ owns (c : Thread nD τ) M2 fullShare u ∗ owns (c : Thread nD τ) M3 fullShare (k0_pay2 u x)
            ∗ owns (c : Thread nD τ) M4 fullShare (k0_pay3 u x) ∗ owns (c : Thread nD τ) M5 fullShare (k0_pay4 u x) ∗ owns (c : Thread nD τ) M6 fullShare (k0_pay5 u x)) -∗ Q ⟨⟩))
      ⊢ wp frame (wpE (defs₀ (F := F)) 𝒱₀ (c : Thread nD τ) none) Set.univ (cc0_body i M1 h1 M2 h2 M3 h3 M4 h4 M5 h5 M6 h6) Q := by
  rw [cc0_body_eq_skeleton]; unfold cc0_body_skel
  unfold owns
  iintro ⟨⟨%f1, %e1, H1⟩, ⟨%f2, %e2, H2⟩, ⟨%y3, %f3, %e3, H3⟩, ⟨%y4, %f4, %e4, H4⟩, ⟨%y5, %f5, %e5, H5⟩, ⟨%y6, %f6, %e6, H6⟩, Hk⟩
  sl_exec
  sl_step
  iapply Hk
  isplitl [H1]
  · iexists f1; isplitr; swap; · iexact H1
    ipureintro; exact e1
  isplitl [H2]
  · iexists f2; isplitr; swap; · iexact H2
    ipureintro; exact e2
  isplitl [H3]
  · iexists _; isplitr; swap; · iexact H3
    ipureintro; rw [View.read_writes_full, View.readAt_full, View.readAt_full, e1, e2]
  isplitl [H4]
  · iexists _; isplitr; swap; · iexact H4
    ipureintro; rw [View.read_writes_full, View.readAt_full, View.readAt_full, e1, e2]
  isplitl [H5]
  · iexists _; isplitr; swap; · iexact H5
    ipureintro; rw [View.read_writes_full, View.readAt_full, View.readAt_full, e1, e2]
  iexists _; isplitr; swap; · iexact H6
  ipureintro; rw [View.read_writes_full, View.readAt_full, View.readAt_full, e1, e2]

/-! ## The proof data -/

variable (V : (c : Dev nD) → (b : Ref sig .tc) → Buf (Elt F) ((c : Thread nD τ).loc b))
variable (O : Dev nD → CellTallies nD τ sig (HIx 1)) (Rec : Dev nD → Set (SemLoc sig × HIx 1))

/-- What the fetch of point `t` leaves in the first window's buffer over contents `x`. -/
def colsAt (c : Dev nD) (t : Fin cfg0.N) (x : S32x65536.Idx → Elt F .f32) : S32x65536.Idx → Elt F .f32 :=
  (cfg0.win 0).fill (cfg0.grid.coords t) x (((cfg0.win 0).blk t).view.read (Elt F) (V c main_v6))

/-- What the body leaves: the query matrix as it is, each output one row of the product with the columns fetched. -/
def leavesAt (c : Dev nD) : (w : Fin cfg0.W) → Fin cfg0.N → (Y X : (cfg0.win w).block.Idx → Elt F (cfg0.win w).elt) → Prop
  | ⟨0, _⟩ => fun _ _ _ => True
  | ⟨1, _⟩ => fun _ _ X => X = (V c main_v5 : S4x32.Idx → Elt F .f32)
  | ⟨2, _⟩ => fun t _ X => ∃ x, X = k0_pay2 (V c main_v5) (colsAt V c t x)
  | ⟨3, _⟩ => fun t _ X => ∃ x, X = k0_pay3 (V c main_v5) (colsAt V c t x)
  | ⟨4, _⟩ => fun t _ X => ∃ x, X = k0_pay4 (V c main_v5) (colsAt V c t x)
  | ⟨5, _⟩ => fun t _ X => ∃ x, X = k0_pay5 (V c main_v5) (colsAt V c t x)

def rdat (c : Dev nD) : RDat τ (Elt F) (HIx 1) ℕ UU ℕ cfg0 c where
  A w := V c (Pipeline.arrRef spec0 w)
  after := leavesAt V c
  Φ _ := iprop(emp)
  q _ := fullShare
  owed _ := O c
  recorded _ := Rec c

theorem finds_query (c : Dev nD) (t : Fin cfg0.N) (X : S4x32.Idx → Elt F .f32) (h : (rdat V O Rec c).Finds 1 t X) : X = V c main_v5 := by
  by_cases hf : (cfg0.win 1).fetch t = true
  · obtain ⟨x, rfl⟩ := ((rdat V O Rec c).finds_of_fetch hf X).mp h
    funext j
    show (V c main_v5 : S4x32.Idx → Elt F .f32) _ = _
    refine congrArg _ (funext fun a => Fin.ext ?_)
    match a with
    | ⟨0, _⟩ => show 0 + 1 * (j _).val = _; omega
    | ⟨1, _⟩ => show 0 + 1 * (j _).val = _; omega
  · have hf' : (cfg0.win 1).fetch t = false := by simpa using hf
    have ht : t.val ≠ 0 := fun h0 => hf ((fetch0_1 t).mpr (by rw [h0]))
    rcases ((rdat V O Rec c).finds_of_pos hf' ht X).mp h with h | ⟨Y, -, hY⟩
    · exact absurd h (by rw [show (cfg0.win 1).flush _ = false from rfl]; decide)
    · exact hY

theorem finds_cols (c : Dev nD) (t : Fin cfg0.N) (X : S32x65536.Idx → Elt F .f32) (h : (rdat V O Rec c).Finds 0 t X) : ∃ x, X = colsAt V c t x :=
  ((rdat V O Rec c).finds_of_fetch (fetch0_0 t) X).mp h

theorem region_body (c : Dev nD) : (rdat V O Rec c).BodyObligation (defs₀ (F := F)) 𝒱₀ none Set.univ := fun t Y hY => by
  rw [bigSep_W0, bigSep_W0]
  have hu := finds_query V O Rec c t _ (hY 1)
  obtain ⟨x, hx⟩ := finds_cols V O Rec c t _ (hY 0)
  rw [show (rdat V O Rec c).Φ t.succ = (rdat V O Rec c).Φ t.castSucc from rfl,
    show (rdat V O Rec c).owesAt none t.succ = (rdat V O Rec c).owesAt none t.castSucc from rfl]
  iintro ⟨HΦ, HO, H0, H1, H2, H3, H4, H5⟩
  iapply (block_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Y 0) (Y 1) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [HO]; · iexact HO
  isplitl [H0]; · iexists _; isplitr; swap; (· iexact H0); ipureintro; exact trivial
  isplitl [H1]; · iexists _; isplitr; swap; (· iexact H1); ipureintro; exact hu
  isplitl [H2]; · iexists _; isplitr; swap; (· iexact H2); ipureintro; exact ⟨x, congrArg₂ k0_pay2 hu hx⟩
  isplitl [H3]; · iexists _; isplitr; swap; (· iexact H3); ipureintro; exact ⟨x, congrArg₂ k0_pay3 hu hx⟩
  isplitl [H4]; · iexists _; isplitr; swap; (· iexact H4); ipureintro; exact ⟨x, congrArg₂ k0_pay4 hu hx⟩
  iexists _; isplitr; swap; (· iexact H5); ipureintro; exact ⟨x, congrArg₂ k0_pay5 hu hx⟩

/-! ## The region over the thread state -/

/-- The one admissible choice of tables: there is none. -/
abbrev tabs : Dev nD → (p : Fin 1) → (pcfgs (F := F) p).Adm := fun _ p => (cfgs p).toPCfg_adm

/-- The proof data of every pipeline: there is one. -/
def rdats : (p : Fin 1) → (c : Dev nD) → RDat τ (Elt F) (HIx 1) ℕ UU ℕ (Pipeline.pinD (pcfgs (F := F)) tabs c p) c := fun _ c => rdat V O Rec c

/-- A valuation with given contents at the windows' arrays, and `V`'s elsewhere. -/
theorem exists_arrays (c : Dev nD) (G : (w : Fin cfg0.W) → Buf (Elt F) ((c : Thread nD τ).loc (Pipeline.arrRef spec0 w))) :
    ∃ Vp : (b : Ref sig .tc) → Buf (Elt F) ((c : Thread nD τ).loc b), (∀ w, Vp (Pipeline.arrRef spec0 w) = G w)
      ∧ ∀ b, b ∉ Finset.univ.image (Pipeline.arrRef spec0) → Vp b = V c b := by
  classical
  have hinj : Function.Injective (Pipeline.arrRef spec0) := launch0.win.arr_inj
  refine ⟨fun b => if h : ∃ w, Pipeline.arrRef spec0 w = b then h.choose_spec ▸ G h.choose else V c b, fun w => ?_, fun b hb => ?_⟩
  · have h : ∃ w', Pipeline.arrRef spec0 w' = Pipeline.arrRef spec0 w := ⟨w, rfl⟩
    show dite _ _ _ = _
    rw [dif_pos h]
    have key : ∀ w' (e : Pipeline.arrRef spec0 w' = Pipeline.arrRef spec0 w),
        (e ▸ G w' : Buf (Elt F) ((c : Thread nD τ).loc (Pipeline.arrRef spec0 w))) = G w := fun w' e => by
      obtain rfl := hinj e; rfl
    exact key _ h.choose_spec
  · show dite _ _ _ = _
    rw [dif_neg]
    rintro ⟨w, rfl⟩
    exact hb (Finset.mem_image_of_mem _ (Finset.mem_univ w))

/-- What the region leaves in the unscoped buffers. -/
def After (c : Dev nD) (Vp : (b : Ref sig .tc) → Buf (Elt F) ((c : Thread nD τ).loc b)) : Prop :=
  (∀ w, (rdat V O Rec c).ArrAt w cfg0.N (Vp (Pipeline.arrRef spec0 w))) ∧ ∀ b, b ∉ Finset.univ.image (Pipeline.arrRef spec0) → Vp b = V c b

set_option backward.isDefEq.respectTransparency.types false in
/-- The region, over the unscoped buffers and the core's `owes`. -/
def reg (hO : ∀ c g, O c g none = 0) (hRec : ∀ c p, p.2 = none → p ∈ Rec c) :
    Pipeline.PerCore.RDat.RegionSeg (pcfgs (F := F)) tabs (rdats V O Rec) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := region_body V O Rec c
  hwaits c := Pipeline.PerCore.RDat.cellsWaits_intro _ _ _ _ _ fun w s t => (K (F := F)).mayWait_none _ (hO c)
  pre c := iprop(unscopedBufs c (V c) ∗ ∃ W, ⌜∀ p ∈ W, p ∈ Rec c⌝ ∗ owes (c : Thread nD τ) (O c) W)
  post c := iprop((∃ Vp, ⌜After V O Rec c Vp⌝ ∗ unscopedBufs c Vp) ∗ ∃ W, ⌜∀ p ∈ W, p ∈ Rec c⌝ ∗ owes (c : Thread nD τ) (O c) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.PerCore.RDat.arrays_of_unscopedBufs (p := 0) (pcfgs (F := F)) tabs (rdats V O Rec) launch0.win launch0.arr_whole c
      ((rdat V O Rec c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr; · iempintro
    iexact Hrest
  hin c := by
    rw [show (rdats V O Rec 0 c).Φ 0 = iprop(emp) from rfl]
    rw [scopedRest0_eq]
    iintro ⟨-, -, -⟩; iempintro
  hout c := by
    rw [Pipeline.ownSems0_none, scopedRest0_eq]
    iintro -
    isplitr; · iempintro
    isplitr; · iempintro
    iempintro
  hexit c := by
    rw [Pipeline.PerCore.RDat.arraysAt_eq (pcfgs (F := F)) tabs (rdats V O Rec) 0 c launch0.arr_whole ((rdat V O Rec c).share_full fun _ => rfl)]
    iintro ⟨Ha, HO, -, Hrest⟩
    ihave Ha' := (BI.bigSep_exists_pi Finset.univ _) $$ Ha
    icases Ha' with ⟨%G, Ha⟩
    ihave Ha2 := (BI.bigSep_pure_sep Finset.univ _ _) $$ Ha
    icases Ha2 with ⟨%hG, Ha⟩
    obtain ⟨Vp, hVp, hV⟩ := exists_arrays V c G
    imodintro
    isplitl [Ha Hrest]
    · iexists Vp
      isplitr
      · ipureintro; exact ⟨fun w => by rw [hVp w]; exact hG w (Finset.mem_univ w), hV⟩
      rw [Pipeline.PerCore.unscopedBufs_split (Pipeline.pinD (pcfgs (F := F)) tabs) 0 c launch0.win.arr_unscoped launch0.win.arr_inj Vp]
      isplitl [Ha]
      · iapply (Entails.of_eq (bigSep_congr fun w _ => by rw [hVp w])) $$ Ha
      · unfold Pipeline.unscopedRest
        iapply (Entails.of_eq (bigSep_congr fun b hb => by rw [hV b (Finset.mem_sdiff.mp hb).2])) $$ Hrest
    unfold Pipeline.RDat.owesAt Pipeline.owesWithin
    icases HO with ⟨%W, %hW, HO⟩
    iexists W; isplitr
    · ipureintro
      intro p hp
      rcases hW hp with h | ⟨w, s, rfl⟩
      · exact h
      · exact hRec c _ rfl
    iexact HO

/-! ## What the outputs hold -/

/-- `v` is a score of column `n`: the row `pay` makes of some block of columns, at a position where that block's column is column `n`. -/
def GoodAt (pay : Vec F S4x32 .f32 → Vec F S32x65536 .f32 → FVec F S65536 .f32) (u : Vec F S4x32 .f32) (xT : Vec F S32x800000 .f32)
    (n : Fin 800000) (v : F .f32) : Prop :=
  ∃ (x : Vec F S32x65536 .f32) (j : Fin 65536), (∀ k : Fin 32, x (ix2 k j) = xT (ix2 k n)) ∧ v = pay u x (ix1 j)

/-- A row of scores. -/
def Scored (pay : Vec F S4x32 .f32 → Vec F S32x65536 .f32 → FVec F S65536 .f32) (u : Vec F S4x32 .f32) (xT : Vec F S32x800000 .f32)
    (s : S800000.Idx → F .f32) : Prop := ∀ n : S800000.Idx, GoodAt pay u xT (n 0) (s n)

theorem xsize_col (t : Fin cfg0.N) : (cfg0.win 0).xsize (cfg0.grid.coords t) 1 = (cfg0.win 2).xsize (cfg0.grid.coords t) 0 := by
  revert t; decide +kernel

theorem xsize_row (t : Fin cfg0.N) : (cfg0.win 0).xsize (cfg0.grid.coords t) 0 = 32 := by
  revert t; decide +kernel

/-- A fetched column is the array's. -/
theorem colsAt_eq (c : Dev nD) (t : Fin cfg0.N) (x : S32x65536.Idx → Elt F .f32) (k : Fin 32) (j : Fin 65536) (n : Fin 800000)
    (hj : j.val < (cfg0.win 2).xsize (cfg0.grid.coords t) 0) (hn : n.val = cc0_transform_2 (cfg0.grid.coords t) 0 * 65536 + j.val) :
    colsAt V c t x (ix2 k j) = (V c main_v6 : S32x800000.Idx → Elt F .f32) (ix2 k n) := by
  let y : ((cfg0.win 0).xblock (cfg0.grid.coords t)).Idx := fun a => match a with
    | ⟨0, _⟩ => ⟨k.val, k.isLt.trans_eq (xsize_row t).symm⟩
    | ⟨1, _⟩ => ⟨j.val, hj.trans_eq (xsize_col t).symm⟩
  have hy : (cfg0.win 0).xinj (cfg0.grid.coords t) y = ix2 k j := by
    funext a; match a with | ⟨0, _⟩ => rfl | ⟨1, _⟩ => rfl
  unfold colsAt
  rw [← hy, Pipeline.Window.fill_xinj]
  show (V c main_v6 : S32x800000.Idx → Elt F .f32) _ = _
  refine congrArg _ (funext fun a => Fin.ext ?_)
  match a with
  | ⟨0, _⟩ => show 0 * 32 + 1 * k.val = k.val; omega
  | ⟨1, _⟩ => show cc0_transform_2 (cfg0.grid.coords t) 0 * 65536 + 1 * j.val = n.val; omega

theorem covers2 : (cfg0.win 2).CoversWhere (fun _ => True) := by decide +kernel

theorem scored2 (c : Dev nD) (G : Buf (Elt F) ((c : Thread nD τ).loc main_v7_0)) (h : (rdat V O Rec c).ArrAt 2 cfg0.N G) :
    Scored k0_pay2 (V c main_v5) (V c main_v6) G := by
  obtain ⟨X, hX, hA⟩ := h.exists_exact
  let after : (w' : Fin cfg0.W) → Fin cfg0.N → (cfg0.win w').block.Idx → Elt F (cfg0.win w').elt :=
    fun w' => if e : w' = 2 then e ▸ X else fun _ _ => Classical.arbitrary _
  have ha : after 2 = X := dif_pos rfl
  rw [hA after (fun u _ _ => by rw [ha])]
  intro n
  refine Pipeline.Dat.arrAt_forall_of_coversWhere ((rdat V O Rec c).withAfter after) 2 (fun i v => GoodAt k0_pay2 (V c main_v5) (V c main_v6) (i 0) v)
    (fun _ => True) covers2 (fun t hf y => ?_) (fun j hj => absurd trivial hj) n
  obtain ⟨Y, -, x, hx⟩ := hX t t.isLt hf
  refine ⟨colsAt V c t x, ⟨(y 0).val, (y 0).isLt.trans_le ((cfg0.win 2).xsize_le _ 0)⟩, fun k => colsAt_eq V c t x k _ _ (y 0).isLt ?_, ?_⟩
  · show cc0_transform_2 (cfg0.grid.coords t) 0 * 65536 + 1 * (y 0).val = cc0_transform_2 (cfg0.grid.coords t) 0 * 65536 + (y 0).val
    omega
  · show after 2 t ((cfg0.win 2).xinj (cfg0.grid.coords t) y) = _
    rw [ha, hx]
    refine congrArg _ (funext fun a => ?_)
    match a with | ⟨0, _⟩ => rfl

theorem covers3 : (cfg0.win 3).CoversWhere (fun _ => True) := by decide +kernel

theorem scored3 (c : Dev nD) (G : Buf (Elt F) ((c : Thread nD τ).loc main_v7_1)) (h : (rdat V O Rec c).ArrAt 3 cfg0.N G) :
    Scored k0_pay3 (V c main_v5) (V c main_v6) G := by
  obtain ⟨X, hX, hA⟩ := h.exists_exact
  let after : (w' : Fin cfg0.W) → Fin cfg0.N → (cfg0.win w').block.Idx → Elt F (cfg0.win w').elt :=
    fun w' => if e : w' = 3 then e ▸ X else fun _ _ => Classical.arbitrary _
  have ha : after 3 = X := dif_pos rfl
  rw [hA after (fun u _ _ => by rw [ha])]
  intro n
  refine Pipeline.Dat.arrAt_forall_of_coversWhere ((rdat V O Rec c).withAfter after) 3 (fun i v => GoodAt k0_pay3 (V c main_v5) (V c main_v6) (i 0) v)
    (fun _ => True) covers3 (fun t hf y => ?_) (fun j hj => absurd trivial hj) n
  obtain ⟨Y, -, x, hx⟩ := hX t t.isLt hf
  refine ⟨colsAt V c t x, ⟨(y 0).val, (y 0).isLt.trans_le ((cfg0.win 3).xsize_le _ 0)⟩, fun k => colsAt_eq V c t x k _ _ (y 0).isLt ?_, ?_⟩
  · show cc0_transform_3 (cfg0.grid.coords t) 0 * 65536 + 1 * (y 0).val = cc0_transform_3 (cfg0.grid.coords t) 0 * 65536 + (y 0).val
    omega
  · show after 3 t ((cfg0.win 3).xinj (cfg0.grid.coords t) y) = _
    rw [ha, hx]
    refine congrArg _ (funext fun a => ?_)
    match a with | ⟨0, _⟩ => rfl

theorem covers4 : (cfg0.win 4).CoversWhere (fun _ => True) := by decide +kernel

theorem scored4 (c : Dev nD) (G : Buf (Elt F) ((c : Thread nD τ).loc main_v7_2)) (h : (rdat V O Rec c).ArrAt 4 cfg0.N G) :
    Scored k0_pay4 (V c main_v5) (V c main_v6) G := by
  obtain ⟨X, hX, hA⟩ := h.exists_exact
  let after : (w' : Fin cfg0.W) → Fin cfg0.N → (cfg0.win w').block.Idx → Elt F (cfg0.win w').elt :=
    fun w' => if e : w' = 4 then e ▸ X else fun _ _ => Classical.arbitrary _
  have ha : after 4 = X := dif_pos rfl
  rw [hA after (fun u _ _ => by rw [ha])]
  intro n
  refine Pipeline.Dat.arrAt_forall_of_coversWhere ((rdat V O Rec c).withAfter after) 4 (fun i v => GoodAt k0_pay4 (V c main_v5) (V c main_v6) (i 0) v)
    (fun _ => True) covers4 (fun t hf y => ?_) (fun j hj => absurd trivial hj) n
  obtain ⟨Y, -, x, hx⟩ := hX t t.isLt hf
  refine ⟨colsAt V c t x, ⟨(y 0).val, (y 0).isLt.trans_le ((cfg0.win 4).xsize_le _ 0)⟩, fun k => colsAt_eq V c t x k _ _ (y 0).isLt ?_, ?_⟩
  · show cc0_transform_4 (cfg0.grid.coords t) 0 * 65536 + 1 * (y 0).val = cc0_transform_4 (cfg0.grid.coords t) 0 * 65536 + (y 0).val
    omega
  · show after 4 t ((cfg0.win 4).xinj (cfg0.grid.coords t) y) = _
    rw [ha, hx]
    refine congrArg _ (funext fun a => ?_)
    match a with | ⟨0, _⟩ => rfl

theorem covers5 : (cfg0.win 5).CoversWhere (fun _ => True) := by decide +kernel

theorem scored5 (c : Dev nD) (G : Buf (Elt F) ((c : Thread nD τ).loc main_v7_3)) (h : (rdat V O Rec c).ArrAt 5 cfg0.N G) :
    Scored k0_pay5 (V c main_v5) (V c main_v6) G := by
  obtain ⟨X, hX, hA⟩ := h.exists_exact
  let after : (w' : Fin cfg0.W) → Fin cfg0.N → (cfg0.win w').block.Idx → Elt F (cfg0.win w').elt :=
    fun w' => if e : w' = 5 then e ▸ X else fun _ _ => Classical.arbitrary _
  have ha : after 5 = X := dif_pos rfl
  rw [hA after (fun u _ _ => by rw [ha])]
  intro n
  refine Pipeline.Dat.arrAt_forall_of_coversWhere ((rdat V O Rec c).withAfter after) 5 (fun i v => GoodAt k0_pay5 (V c main_v5) (V c main_v6) (i 0) v)
    (fun _ => True) covers5 (fun t hf y => ?_) (fun j hj => absurd trivial hj) n
  obtain ⟨Y, -, x, hx⟩ := hX t t.isLt hf
  refine ⟨colsAt V c t x, ⟨(y 0).val, (y 0).isLt.trans_le ((cfg0.win 5).xsize_le _ 0)⟩, fun k => colsAt_eq V c t x k _ _ (y 0).isLt ?_, ?_⟩
  · show cc0_transform_5 (cfg0.grid.coords t) 0 * 65536 + 1 * (y 0).val = cc0_transform_5 (cfg0.grid.coords t) 0 * 65536 + (y 0).val
    omega
  · show after 5 t ((cfg0.win 5).xinj (cfg0.grid.coords t) y) = _
    rw [ha, hx]
    refine congrArg _ (funext fun a => ?_)
    match a with | ⟨0, _⟩ => rfl

end Cert.Proof

end
-- ==== Proof.Pay.lean ====
/-
  What the call to the tiles carries: each tile its share of the ids and of the four score rows, and its 25000 elements of
  the four results.
-/
module

public import proofs.«01_k».proof.Proof.Tile
public import proofs.«01_k».proof.Proof.Region
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

/-! ## The tiles, their elements and their shares -/

/-- A tile: its core and its number on the core. -/
abbrev Tl : Type := Fin 2 × Fin 16

def coordsV (c : Fin (grid1.bound 0)) (s : Fin (grid1.bound 1)) : grid1.Coords :=
  fun | 0 => c | 1 => s | ⟨_ + 2, h⟩ => absurd h (Nat.not_lt.2 (Nat.le_add_left _ _))

abbrev tL (g : Tl) : grid1.Coords := coordsV g.1 g.2

/-- A tile's elements. -/
def tset (g : Tl) : Finset S800000.Idx :=
  Finset.univ.filter fun j => 50000 * g.2.val + 25000 * g.1.val ≤ (j 0).val ∧ (j 0).val < 50000 * g.2.val + 25000 * g.1.val + 25000

theorem mem_tset (g : Tl) (j : S800000.Idx) :
    j ∈ tset g ↔ 50000 * g.2.val + 25000 * g.1.val ≤ (j 0).val ∧ (j 0).val < 50000 * g.2.val + 25000 * g.1.val + 25000 := by
  unfold tset; rw [Finset.mem_filter]; exact ⟨fun h => h.2, fun h => ⟨Finset.mem_univ _, h⟩⟩

theorem tset_disjoint : ∀ g ∈ (Finset.univ : Finset Tl), ∀ g' ∈ (Finset.univ : Finset Tl), g ≠ g' → Disjoint (tset g) (tset g') := by
  intro g _ g' _ h
  refine Finset.disjoint_left.mpr fun j hj hj' => h ?_
  rw [mem_tset] at hj hj'
  have h1 := g.1.isLt; have h2 := g'.1.isLt; have h3 := g.2.isLt; have h4 := g'.2.isLt
  exact Prod.ext (Fin.ext (by omega)) (Fin.ext (by omega))

theorem tset_cover : (Finset.univ : Finset Tl).biUnion tset = Finset.univ := by
  refine Finset.eq_univ_iff_forall.mpr fun j => Finset.mem_biUnion.mpr ?_
  have hj : (j 0).val < 800000 := (j 0).isLt
  refine ⟨(⟨(j 0).val % 50000 / 25000, by omega⟩, ⟨(j 0).val / 50000, by omega⟩), Finset.mem_univ _, (mem_tset _ _).mpr ?_⟩
  show 50000 * ((j 0).val / 50000) + 25000 * ((j 0).val % 50000 / 25000) ≤ _ ∧ _
  constructor
  · omega
  · show (j 0).val < 50000 * ((j 0).val / 50000) + 25000 * ((j 0).val % 50000 / 25000) + 25000; omega

/-- The first 12504 elements of a tile, and the rest. -/
def rA (L : grid1.Coords) : Finset S800000.Idx := (Rect.unit (s := S800000) (k1_off7 L) S12504.size (k1_off7_inb L)).set
def rB (L : grid1.Coords) : Finset S800000.Idx := (Rect.unit (s := S800000) (k1_off11 L) S12496.size (k1_off11_inb L)).set

theorem mem_rA (L : grid1.Coords) (j : S800000.Idx) : j ∈ rA L ↔ baseA L ≤ (j 0).val ∧ (j 0).val < baseA L + 12504 := by
  unfold rA
  rw [Rect.mem_set_unit]
  constructor
  · intro h
    have := h 0
    rw [congrFun (off7_eq L) 0] at this
    exact this
  · intro h a
    match a with
    | 0 => rw [congrFun (off7_eq L) 0]; exact h

theorem mem_rB (L : grid1.Coords) (j : S800000.Idx) : j ∈ rB L ↔ baseB L ≤ (j 0).val ∧ (j 0).val < baseB L + 12496 := by
  unfold rB
  rw [Rect.mem_set_unit]
  constructor
  · intro h
    have := h 0
    rw [congrFun (off11_eq L) 0] at this
    exact this
  · intro h a
    match a with
    | 0 => rw [congrFun (off11_eq L) 0]; exact h

theorem tset_eq (g : Tl) : tset g = rA (tL g) ∪ rB (tL g) := by
  ext j
  rw [Finset.mem_union, mem_rA, mem_rB, mem_tset]
  unfold baseA baseB
  show _ ↔ (50000 * g.2.val + 25000 * g.1.val ≤ (j 0).val ∧ (j 0).val < 50000 * g.2.val + 25000 * g.1.val + 12504)
    ∨ (50000 * g.2.val + 25000 * g.1.val + 12504 ≤ (j 0).val ∧ (j 0).val < 50000 * g.2.val + 25000 * g.1.val + 12504 + 12496)
  omega

theorem rAB_disjoint (L : grid1.Coords) : Disjoint (rA L) (rB L) := by
  refine Finset.disjoint_left.mpr fun j hj hj' => ?_
  rw [mem_rA] at hj; rw [mem_rB] at hj'
  unfold baseA baseB at *; omega

/-- The tiles, counted. -/
def tEq : Tl ≃ Fin (2 ^ 5) := (finProdFinEquiv (m := 2) (n := 16)).trans (finCongr (by norm_num))

/-- A tile's share of what every tile reads. -/
def tq (g : Tl) : PosShare TreeShare := leaf 5 fullShare (tEq g)

theorem pointsTo_tiles {ℓ : Loc nD τ sig} (I : Finset (Idx ℓ)) (f : Buf (Elt F) ℓ) :
    (ℓ ↦[I]{fullShare} f : sProp 𝕄) = bigSep Finset.univ fun g : Tl => ℓ ↦[I]{tq g} f := by
  rw [pointsTo_leaves I f 5 fullShare]
  exact bigSep_univ_equiv tEq (fun i : Fin (2 ^ 5) => (ℓ ↦[I]{leaf 5 fullShare i} f : sProp 𝕄))

/-! ## The arrays as the TensorCore names them -/

abbrev iLoc (d : Dev nD) : Loc nD τ sig := (SparseCore.T d : Thread nD τ).loc main_arg11
abbrev sLoc0 (d : Dev nD) : Loc nD τ sig := (SparseCore.T d : Thread nD τ).loc main_v7_0
abbrev sLoc1 (d : Dev nD) : Loc nD τ sig := (SparseCore.T d : Thread nD τ).loc main_v7_1
abbrev sLoc2 (d : Dev nD) : Loc nD τ sig := (SparseCore.T d : Thread nD τ).loc main_v7_2
abbrev sLoc3 (d : Dev nD) : Loc nD τ sig := (SparseCore.T d : Thread nD τ).loc main_v7_3
abbrev oLoc0 (d : Dev nD) : Loc nD τ sig := (SparseCore.T d : Thread nD τ).loc main_v8_0
abbrev oLoc1 (d : Dev nD) : Loc nD τ sig := (SparseCore.T d : Thread nD τ).loc main_v8_1
abbrev oLoc2 (d : Dev nD) : Loc nD τ sig := (SparseCore.T d : Thread nD τ).loc main_v8_2
abbrev oLoc3 (d : Dev nD) : Loc nD τ sig := (SparseCore.T d : Thread nD τ).loc main_v8_3

theorem setA0 (L : grid1.Coords) : (pA L oV0).view.set = rA L := by
  show ((View.whole (main_v8_0_scv : Ref sig .scVector)).slice _).set = _
  rw [View.set_slice]; exact Finset.map_refl
theorem setB0 (L : grid1.Coords) : (pB L oV0).view.set = rB L := by
  show ((View.whole (main_v8_0_scv : Ref sig .scVector)).slice _).set = _
  rw [View.set_slice]; exact Finset.map_refl

theorem oPts0 (d : Dev nD) (g : Tl) (f : S800000.Idx → F .f32) :
    (oLoc0 d ↦[tset g]{fullShare} f : sProp 𝕄) = iprop(ptOA0 d (tL g) f ∗ ptOB0 d (tL g) f) := by
  rw [tset_eq, BI.Entails.antisymm (pointsTo_union (rAB_disjoint (tL g))).1 (pointsTo_union (rAB_disjoint (tL g))).2]
  unfold ptOA0 ptOB0
  rw [setA0, setB0]

theorem setA1 (L : grid1.Coords) : (pA L oV1).view.set = rA L := by
  show ((View.whole (main_v8_1_scv : Ref sig .scVector)).slice _).set = _
  rw [View.set_slice]; exact Finset.map_refl
theorem setB1 (L : grid1.Coords) : (pB L oV1).view.set = rB L := by
  show ((View.whole (main_v8_1_scv : Ref sig .scVector)).slice _).set = _
  rw [View.set_slice]; exact Finset.map_refl

theorem oPts1 (d : Dev nD) (g : Tl) (f : S800000.Idx → F .f32) :
    (oLoc1 d ↦[tset g]{fullShare} f : sProp 𝕄) = iprop(ptOA1 d (tL g) f ∗ ptOB1 d (tL g) f) := by
  rw [tset_eq, BI.Entails.antisymm (pointsTo_union (rAB_disjoint (tL g))).1 (pointsTo_union (rAB_disjoint (tL g))).2]
  unfold ptOA1 ptOB1
  rw [setA1, setB1]

theorem setA2 (L : grid1.Coords) : (pA L oV2).view.set = rA L := by
  show ((View.whole (main_v8_2_scv : Ref sig .scVector)).slice _).set = _
  rw [View.set_slice]; exact Finset.map_refl
theorem setB2 (L : grid1.Coords) : (pB L oV2).view.set = rB L := by
  show ((View.whole (main_v8_2_scv : Ref sig .scVector)).slice _).set = _
  rw [View.set_slice]; exact Finset.map_refl

theorem oPts2 (d : Dev nD) (g : Tl) (f : S800000.Idx → F .f32) :
    (oLoc2 d ↦[tset g]{fullShare} f : sProp 𝕄) = iprop(ptOA2 d (tL g) f ∗ ptOB2 d (tL g) f) := by
  rw [tset_eq, BI.Entails.antisymm (pointsTo_union (rAB_disjoint (tL g))).1 (pointsTo_union (rAB_disjoint (tL g))).2]
  unfold ptOA2 ptOB2
  rw [setA2, setB2]

theorem setA3 (L : grid1.Coords) : (pA L oV3).view.set = rA L := by
  show ((View.whole (main_v8_3_scv : Ref sig .scVector)).slice _).set = _
  rw [View.set_slice]; exact Finset.map_refl
theorem setB3 (L : grid1.Coords) : (pB L oV3).view.set = rB L := by
  show ((View.whole (main_v8_3_scv : Ref sig .scVector)).slice _).set = _
  rw [View.set_slice]; exact Finset.map_refl

theorem oPts3 (d : Dev nD) (g : Tl) (f : S800000.Idx → F .f32) :
    (oLoc3 d ↦[tset g]{fullShare} f : sProp 𝕄) = iprop(ptOA3 d (tL g) f ∗ ptOB3 d (tL g) f) := by
  rw [tset_eq, BI.Entails.antisymm (pointsTo_union (rAB_disjoint (tL g))).1 (pointsTo_union (rAB_disjoint (tL g))).2]
  unfold ptOA3 ptOB3
  rw [setA3, setB3]

/-! ## What the call carries -/

/-- What a result array holds once every tile has written its elements: each from a score row as the TensorCore leaves it. -/
def Result (pay : Vec F S4x32 .f32 → Vec F S32x65536 .f32 → Vec F S65536 .f32) (u : Vec F S4x32 .f32) (xT : Vec F S32x800000 .f32)
    (ids : S800000.Idx → BitVec 32) (r : S800000.Idx → F .f32) : Prop :=
  ∀ n : S800000.Idx, ∃ s : S800000.Idx → F .f32, Scored pay u xT s ∧ r n = outArr ids s n

variable (ids : (d : Dev nD) → S800000.Idx → BitVec 32) (u : Dev nD → Vec F S4x32 .f32) (xT : Dev nD → Vec F S32x800000 .f32)

def G0 (d : Dev nD) (g : Tl) : sProp 𝕄 :=
  iprop(∃ s : S800000.Idx → F .f32, ∃ f : S800000.Idx → F .f32, ⌜Scored k0_pay2 (u d) (xT d) s⌝ ∗ ptS0 d (tL g) (tq g) s ∗ oLoc0 d ↦[tset g]{fullShare} f)
def R0 (d : Dev nD) (g : Tl) : sProp 𝕄 :=
  iprop(∃ s : S800000.Idx → F .f32, ⌜Scored k0_pay2 (u d) (xT d) s⌝ ∗ oLoc0 d ↦[tset g]{fullShare} outArr (ids d) s)
def G1 (d : Dev nD) (g : Tl) : sProp 𝕄 :=
  iprop(∃ s : S800000.Idx → F .f32, ∃ f : S800000.Idx → F .f32, ⌜Scored k0_pay3 (u d) (xT d) s⌝ ∗ ptS1 d (tL g) (tq g) s ∗ oLoc1 d ↦[tset g]{fullShare} f)
def R1 (d : Dev nD) (g : Tl) : sProp 𝕄 :=
  iprop(∃ s : S800000.Idx → F .f32, ⌜Scored k0_pay3 (u d) (xT d) s⌝ ∗ oLoc1 d ↦[tset g]{fullShare} outArr (ids d) s)
def G2 (d : Dev nD) (g : Tl) : sProp 𝕄 :=
  iprop(∃ s : S800000.Idx → F .f32, ∃ f : S800000.Idx → F .f32, ⌜Scored k0_pay4 (u d) (xT d) s⌝ ∗ ptS2 d (tL g) (tq g) s ∗ oLoc2 d ↦[tset g]{fullShare} f)
def R2 (d : Dev nD) (g : Tl) : sProp 𝕄 :=
  iprop(∃ s : S800000.Idx → F .f32, ⌜Scored k0_pay4 (u d) (xT d) s⌝ ∗ oLoc2 d ↦[tset g]{fullShare} outArr (ids d) s)
def G3 (d : Dev nD) (g : Tl) : sProp 𝕄 :=
  iprop(∃ s : S800000.Idx → F .f32, ∃ f : S800000.Idx → F .f32, ⌜Scored k0_pay5 (u d) (xT d) s⌝ ∗ ptS3 d (tL g) (tq g) s ∗ oLoc3 d ↦[tset g]{fullShare} f)
def R3 (d : Dev nD) (g : Tl) : sProp 𝕄 :=
  iprop(∃ s : S800000.Idx → F .f32, ⌜Scored k0_pay5 (u d) (xT d) s⌝ ∗ oLoc3 d ↦[tset g]{fullShare} outArr (ids d) s)

/-- What a tile is handed, and what it hands back. -/
def goT (d : Dev nD) (g : Tl) : sProp 𝕄 :=
  iprop(ptIds d (tL g) (tq g) (ids d) ∗ G0 u xT d g ∗ G1 u xT d g ∗ G2 u xT d g ∗ G3 u xT d g)
def tdT (d : Dev nD) (g : Tl) : sProp 𝕄 :=
  iprop(ptIds d (tL g) (tq g) (ids d) ∗ R0 ids u xT d g ∗ R1 ids u xT d g ∗ R2 ids u xT d g ∗ R3 ids u xT d g)

instance goT_storable (d : Dev nD) (g : Tl) : BI.Storable (upEmb : UEmb _ 𝕄) (goT ids u xT d g) := by
  unfold goT G0 G1 G2 G3; infer_instance
instance tdT_storable (d : Dev nD) (g : Tl) : BI.Storable (upEmb : UEmb _ 𝕄) (tdT ids u xT d g) := by
  unfold tdT R0 R1 R2 R3; infer_instance

/-- The tile of a core and a subcore of the call. -/
abbrev tl (c : Fin ((K (F := F)).nCore 0)) (i : Fin ((K (F := F)).nSub 0)) : Tl := (Fin.cast nCore_zero c, Fin.cast nSub_zero i)

/-- The payloads of the one call. -/
def P : (K (F := F)).Pay (nD := nD) (Val := Elt F) (Name := ℕ) (U := UU) where
  st q d c := match q with | 0 => bigSep Finset.univ fun i : Fin ((K (F := F)).nSub 0) => goT ids u xT d (tl c i)
  dn q d c := match q with | 0 => bigSep Finset.univ fun i : Fin ((K (F := F)).nSub 0) => tdT ids u xT d (tl c i)
  go q d c i := match q with | 0 => goT ids u xT d (tl c i)
  td q d c i := match q with | 0 => tdT ids u xT d (tl c i)
  x _ _ := iprop(emp)

instance P_storable : (P ids u xT).IsStorable where
  st q d c := match q with | 0 => (inferInstance : BI.Storable (upEmb : UEmb _ 𝕄) (bigSep Finset.univ fun i : Fin ((K (F := F)).nSub 0) => goT ids u xT d (tl c i)))
  dn q d c := match q with | 0 => (inferInstance : BI.Storable (upEmb : UEmb _ 𝕄) (bigSep Finset.univ fun i : Fin ((K (F := F)).nSub 0) => tdT ids u xT d (tl c i)))
  go q d c i := match q with | 0 => goT_storable ids u xT d (tl c i)
  td q d c i := match q with | 0 => tdT_storable ids u xT d (tl c i)

theorem keep_both {A B : sProp 𝕄} : A ⊢ |={Set.univ}=> iprop(A ∗ (B -∗ B)) := by
  iintro H; imodintro
  isplitl [H]; · iexact H
  iintro H; iexact H

set_option maxHeartbeats 2000000 in
theorem P_st (d : Dev nD) (c : Fin ((K (F := F)).nCore 0)) :
    (P ids u xT).st 0 d c = bigSep Finset.univ fun i : Fin ((K (F := F)).nSub 0) => goT ids u xT d (tl c i) := rfl
theorem P_dn (d : Dev nD) (c : Fin ((K (F := F)).nCore 0)) :
    (P ids u xT).dn 0 d c = bigSep Finset.univ fun i : Fin ((K (F := F)).nSub 0) => tdT ids u xT d (tl c i) := rfl
theorem P_go (d : Dev nD) (c : Fin ((K (F := F)).nCore 0)) (i : Fin ((K (F := F)).nSub 0)) : (P ids u xT).go 0 d c i = goT ids u xT d (tl c i) := rfl
theorem P_td (d : Dev nD) (c : Fin ((K (F := F)).nCore 0)) (i : Fin ((K (F := F)).nSub 0)) : (P ids u xT).td 0 d c i = tdT ids u xT d (tl c i) := rfl

theorem vecSplit : (K (F := F)).VecSplit' (P ids u xT) 0 := by
  intro d c
  rw [P_st, P_dn, bigSep_congr (fun i _ => P_go ids u xT d c i), bigSep_congr (fun i _ => P_td ids u xT d c i)]
  generalize (bigSep Finset.univ fun i : Fin ((K (F := F)).nSub 0) => goT ids u xT d (tl c i)) = A
  generalize (bigSep Finset.univ fun i : Fin ((K (F := F)).nSub 0) => tdT ids u xT d (tl c i)) = B
  exact keep_both

/-! ## A tile's task -/

theorem defs₀_vector (c : Fin τ.nSC) (s : Fin τ.nSub) :
    defs₀ (F := F) (.scVector c s) 1 ()
      = SparseCore.onTile hcore1 hsub1 (fun c s => cc1_k (coordsV c s)
          sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17) ⟨⟩ c s := rfl

theorem obl_post {thr : Thread nD τ} {A A' B C : sProp 𝕄} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply hA; iexact HA
  isplitl [HB]; · iexact HB
  isplitl [HC]; · iexact HC
  iexists W'; isplitr
  · ipureintro; exact fun p hp => (hW' p hp).imp_right Or.inl
  · iexact HO

/-- The task of tile `g`, from what it is handed to what it hands back. -/
theorem tile_task (hF : (K (F := F)).Facts) (d : Dev nD) (g : Tl) (O : CellTallies nD τ sig (HIx 1)) (W : Waits sig (HIx 1)) (hO : ∀ g, O g none = 0) {q : Fin 1} :
    iprop(levAts (K (F := F)).L (K (F := F)).lev ∗ emp ∗ goT ids u xT d g ∗ scopedBufs (thr d (tL g)) ∗ scopedSems0 (thr d (tL g)) ∗ owes (thr d (tL g)) O W)
      ⊢ wp frame (wpE (defs₀ (F := F)) 𝒱₀ (thr d (tL g)) none) Set.univ
          (cc1_k (tL g) sV0 (Memref.isWhole_whole _) sV1 (Memref.isWhole_whole _) sV2 (Memref.isWhole_whole _) sV3 (Memref.isWhole_whole _) iV (Memref.isWhole_whole _) oV0 (Memref.isWhole_whole _) oV1 (Memref.isWhole_whole _) oV2 (Memref.isWhole_whole _) oV3 (Memref.isWhole_whole _) tI (Memref.isWhole_whole _) tX0 (Memref.isWhole_whole _) tX1 (Memref.isWhole_whole _) tX2 (Memref.isWhole_whole _) tX3 (Memref.isWhole_whole _) tZ0 (Memref.isWhole_whole _) tZ1 (Memref.isWhole_whole _) tZ2 (Memref.isWhole_whole _) tZ3 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17)
          fun _ => iprop(tdT ids u xT d g ∗ scopedBufs (thr d (tL g)) ∗ scopedSems0 (thr d (tL g))
            ∗ ∃ W', ⌜∀ p ∈ W', p ∈ W ∨ p.2 = none ∨ p.2 = some q⌝ ∗ owes (thr d (tL g)) O W') := by
  unfold goT G0 G1 G2 G3
  simp only [oPts0, oPts1, oPts2, oPts3]
  iintro ⟨Hlv, He, ⟨Hids, ⟨%s0, %f0, %h0, S0, Q0⟩, ⟨%s1, %f1, %h1, S1, Q1⟩, ⟨%s2, %f2, %h2, S2, Q2⟩, ⟨%s3, %f3, %h3, S3, Q3⟩⟩, Hb, Hs, HO⟩
  icases Q0 with ⟨A0, B0⟩; icases Q1 with ⟨A1, B1⟩; icases Q2 with ⟨A2, B2⟩; icases Q3 with ⟨A3, B3⟩
  iapply ((tile_body d (tL g) hF O W hO (tq g) (ids d) s0 s1 s2 s3 f0 f1 f2 f3 f0 f1 f2 f3).trans
    (wp_mono frame _ _ fun _ => obl_post ?_)) $$ [Hlv He Hids S0 S1 S2 S3 A0 A1 A2 A3 B0 B1 B2 B3 Hb Hs HO]
  · unfold tdT R0 R1 R2 R3
    simp only [oPts0, oPts1, oPts2, oPts3]
    iintro ⟨Hids, -, ⟨A0, A1, A2, A3⟩, B0, B1, B2, B3⟩
    isplitl [Hids]; · iexact Hids
    isplitl [A0 B0]
    · iexists s0
      isplitr; · ipureintro; exact h0
      isplitl [A0]; · iexact A0
      iexact B0
    isplitl [A1 B1]
    · iexists s1
      isplitr; · ipureintro; exact h1
      isplitl [A1]; · iexact A1
      iexact B1
    isplitl [A2 B2]
    · iexists s2
      isplitr; · ipureintro; exact h2
      isplitl [A2]; · iexact A2
      iexact B2
    · iexists s3
      isplitr; · ipureintro; exact h3
      isplitl [A3]; · iexact A3
      iexact B3
  · isplitl [Hlv]; · iexact Hlv
    isplitl [He]; · iexact He
    isplitl [Hids S0 S1 S2 S3 A0 A1 A2 A3 B0 B1 B2 B3]
    · isplitl [Hids]; · iexact Hids
      isplitl [S0 S1 S2 S3]
      · isplitl [S0]; · iexact S0
        isplitl [S1]; · iexact S1
        isplitl [S2]; · iexact S2
        iexact S3
      isplitl [A0 A1 A2 A3]
      · isplitl [A0]; · iexact A0
        isplitl [A1]; · iexact A1
        isplitl [A2]; · iexact A2
        iexact A3
      · isplitl [B0]; · iexact B0
        isplitl [B1]; · iexact B1
        isplitl [B2]; · iexact B2
        iexact B3
    isplitl [Hb]; · iexact Hb
    isplitl [Hs]; · iexact Hs
    iexact HO

set_option maxRecDepth 16384 in
theorem tileObl (hF : (K (F := F)).Facts) : (K (F := F)).TileObl (D (F := F)) 𝒱 (P ids u xT) v₀ 0 := by
  intro d c i O W hO _ _
  simp only [show (P ids u xT).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task ids u xT hF d (tl c i) O W hO

end Cert.Proof

end
-- ==== Proof.Deal.lean ====
/-
  The call's operands dealt to the tiles, and the four results gathered.
-/
module

public import proofs.«01_k».proof.Proof.Pay

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

variable [∀ e, Nonempty (Elt F e)]
variable (ids : (d : Dev nD) → S800000.Idx → BitVec 32) (u : Dev nD → Vec F S4x32 .f32) (xT : Dev nD → Vec F S32x800000 .f32)

/-! ## Over the cores and their subcores, over the tiles -/

theorem over_tiles (Φ : Tl → sProp 𝕄) :
    (bigSep Finset.univ fun c : Fin ((K (F := F)).nCore 0) => bigSep Finset.univ fun i : Fin ((K (F := F)).nSub 0) => Φ (tl c i)) = bigSep Finset.univ Φ := by
  rw [← Finset.univ_product_univ, SparseCore.bigSep_product,
    bigSep_univ_equiv (finCongr (nCore_zero (F := F))) (fun c : Fin 2 => bigSep Finset.univ fun i : Fin 16 => Φ (c, i))]
  exact bigSep_congr fun c _ => (bigSep_univ_equiv (finCongr (nSub_zero (F := F))) (fun i : Fin 16 => Φ (finCongr (nCore_zero (F := F)) c, i))).symm

theorem st_eq (d : Dev nD) : (bigSep Finset.univ fun c : Fin ((K (F := F)).nCore 0) => (P ids u xT).st 0 d c)
    = bigSep Finset.univ fun g : Tl => goT ids u xT d g := by
  rw [bigSep_congr (fun c _ => P_st ids u xT d c)]; exact over_tiles _

theorem dn_eq (d : Dev nD) : (bigSep Finset.univ fun c : Fin ((K (F := F)).nCore 0) => (P ids u xT).dn 0 d c)
    = bigSep Finset.univ fun g : Tl => tdT ids u xT d g := by
  rw [bigSep_congr (fun c _ => P_dn ids u xT d c)]; exact over_tiles _

/-! ## One array dealt, and gathered -/

theorem oPts_tiles0 (d : Dev nD) (f : Buf (Elt F) (oLoc0 d)) :
    (oLoc0 d ↦{fullShare} f : sProp 𝕄) = bigSep Finset.univ fun g : Tl => oLoc0 d ↦[tset g]{fullShare} f := by
  rw [← pointsTo_biUnion Finset.univ (ℓ := oLoc0 d) tset tset_disjoint, tset_cover]

theorem dealOne0 (d : Dev nD) (g : Tl) (s f : S800000.Idx → F .f32) (h : Scored k0_pay2 (u d) (xT d) s) :
    iprop((sLoc0 d ↦{tq g} s) ∗ (oLoc0 d ↦[tset g]{fullShare} f)) ⊢ (G0 u xT d g : sProp 𝕄) := by
  unfold G0
  iintro ⟨S, O⟩
  iexists s; iexists f
  isplitr; · ipureintro; exact h
  isplitl [S]; · iexact S
  iexact O

theorem deal0 (d : Dev nD) (s f : S800000.Idx → F .f32) (h : Scored k0_pay2 (u d) (xT d) s) :
    iprop((sLoc0 d ↦{fullShare} s) ∗ (oLoc0 d ↦{fullShare} f)) ⊢ (bigSep Finset.univ fun g : Tl => G0 u xT d g : sProp 𝕄) := by
  rw [pointsTo_tiles, oPts_tiles0, ← bigSep_sep']
  exact BI.bigSep_mono fun g _ => dealOne0 u xT d g s f h

theorem gather0 (d : Dev nD) : (bigSep Finset.univ fun g : Tl => R0 ids u xT d g : sProp 𝕄)
    ⊢ iprop(∃ r : S800000.Idx → F .f32, ⌜Result k0_pay2 (u d) (xT d) (ids d) r⌝ ∗ oLoc0 d ↦{fullShare} r) := by
  unfold R0
  haveI : Nonempty (S800000.Idx → F .f32) := ⟨fun _ => Classical.choice (inferInstanceAs (Nonempty (Elt F .f32)))⟩
  refine (BI.bigSep_exists_pi Finset.univ (fun (g : Tl) (s : S800000.Idx → F .f32) => (iprop(⌜Scored k0_pay2 (u d) (xT d) s⌝ ∗ oLoc0 d ↦[tset g]{fullShare} (outArr (ids d) s : Buf (Elt F) (oLoc0 d))) : sProp 𝕄))).trans ?_
  iintro ⟨%ss, H⟩
  ihave H' := (BI.bigSep_pure_sep Finset.univ (fun g : Tl => Scored k0_pay2 (u d) (xT d) (ss g)) (fun g : Tl => (oLoc0 d ↦[tset g]{fullShare} outArr (ids d) (ss g) : sProp 𝕄))) $$ H
  icases H' with ⟨%hs, H⟩
  ihave H' := (pointsTo_biUnion_join (ℓ := oLoc0 d) (q := fullShare) (Val := Elt F) Finset.univ tset (fun g => outArr (ids d) (ss g)) (outArr (ids d) (ss (0, 0))) tset_disjoint) $$ H
  icases H' with ⟨%r, %hr, Hr⟩
  rw [tset_cover]
  iexists r
  isplitr
  · ipureintro
    intro n
    obtain ⟨g, _, hg⟩ := Finset.mem_biUnion.mp (tset_cover.symm ▸ Finset.mem_univ n)
    exact ⟨ss g, hs g (Finset.mem_univ _), hr g (Finset.mem_univ _) n hg⟩
  · iexact Hr

theorem oPts_tiles1 (d : Dev nD) (f : Buf (Elt F) (oLoc1 d)) :
    (oLoc1 d ↦{fullShare} f : sProp 𝕄) = bigSep Finset.univ fun g : Tl => oLoc1 d ↦[tset g]{fullShare} f := by
  rw [← pointsTo_biUnion Finset.univ (ℓ := oLoc1 d) tset tset_disjoint, tset_cover]

theorem dealOne1 (d : Dev nD) (g : Tl) (s f : S800000.Idx → F .f32) (h : Scored k0_pay3 (u d) (xT d) s) :
    iprop((sLoc1 d ↦{tq g} s) ∗ (oLoc1 d ↦[tset g]{fullShare} f)) ⊢ (G1 u xT d g : sProp 𝕄) := by
  unfold G1
  iintro ⟨S, O⟩
  iexists s; iexists f
  isplitr; · ipureintro; exact h
  isplitl [S]; · iexact S
  iexact O

theorem deal1 (d : Dev nD) (s f : S800000.Idx → F .f32) (h : Scored k0_pay3 (u d) (xT d) s) :
    iprop((sLoc1 d ↦{fullShare} s) ∗ (oLoc1 d ↦{fullShare} f)) ⊢ (bigSep Finset.univ fun g : Tl => G1 u xT d g : sProp 𝕄) := by
  rw [pointsTo_tiles, oPts_tiles1, ← bigSep_sep']
  exact BI.bigSep_mono fun g _ => dealOne1 u xT d g s f h

theorem gather1 (d : Dev nD) : (bigSep Finset.univ fun g : Tl => R1 ids u xT d g : sProp 𝕄)
    ⊢ iprop(∃ r : S800000.Idx → F .f32, ⌜Result k0_pay3 (u d) (xT d) (ids d) r⌝ ∗ oLoc1 d ↦{fullShare} r) := by
  unfold R1
  haveI : Nonempty (S800000.Idx → F .f32) := ⟨fun _ => Classical.choice (inferInstanceAs (Nonempty (Elt F .f32)))⟩
  refine (BI.bigSep_exists_pi Finset.univ (fun (g : Tl) (s : S800000.Idx → F .f32) => (iprop(⌜Scored k0_pay3 (u d) (xT d) s⌝ ∗ oLoc1 d ↦[tset g]{fullShare} (outArr (ids d) s : Buf (Elt F) (oLoc1 d))) : sProp 𝕄))).trans ?_
  iintro ⟨%ss, H⟩
  ihave H' := (BI.bigSep_pure_sep Finset.univ (fun g : Tl => Scored k0_pay3 (u d) (xT d) (ss g)) (fun g : Tl => (oLoc1 d ↦[tset g]{fullShare} outArr (ids d) (ss g) : sProp 𝕄))) $$ H
  icases H' with ⟨%hs, H⟩
  ihave H' := (pointsTo_biUnion_join (ℓ := oLoc1 d) (q := fullShare) (Val := Elt F) Finset.univ tset (fun g => outArr (ids d) (ss g)) (outArr (ids d) (ss (0, 0))) tset_disjoint) $$ H
  icases H' with ⟨%r, %hr, Hr⟩
  rw [tset_cover]
  iexists r
  isplitr
  · ipureintro
    intro n
    obtain ⟨g, _, hg⟩ := Finset.mem_biUnion.mp (tset_cover.symm ▸ Finset.mem_univ n)
    exact ⟨ss g, hs g (Finset.mem_univ _), hr g (Finset.mem_univ _) n hg⟩
  · iexact Hr

theorem oPts_tiles2 (d : Dev nD) (f : Buf (Elt F) (oLoc2 d)) :
    (oLoc2 d ↦{fullShare} f : sProp 𝕄) = bigSep Finset.univ fun g : Tl => oLoc2 d ↦[tset g]{fullShare} f := by
  rw [← pointsTo_biUnion Finset.univ (ℓ := oLoc2 d) tset tset_disjoint, tset_cover]

theorem dealOne2 (d : Dev nD) (g : Tl) (s f : S800000.Idx → F .f32) (h : Scored k0_pay4 (u d) (xT d) s) :
    iprop((sLoc2 d ↦{tq g} s) ∗ (oLoc2 d ↦[tset g]{fullShare} f)) ⊢ (G2 u xT d g : sProp 𝕄) := by
  unfold G2
  iintro ⟨S, O⟩
  iexists s; iexists f
  isplitr; · ipureintro; exact h
  isplitl [S]; · iexact S
  iexact O

theorem deal2 (d : Dev nD) (s f : S800000.Idx → F .f32) (h : Scored k0_pay4 (u d) (xT d) s) :
    iprop((sLoc2 d ↦{fullShare} s) ∗ (oLoc2 d ↦{fullShare} f)) ⊢ (bigSep Finset.univ fun g : Tl => G2 u xT d g : sProp 𝕄) := by
  rw [pointsTo_tiles, oPts_tiles2, ← bigSep_sep']
  exact BI.bigSep_mono fun g _ => dealOne2 u xT d g s f h

theorem gather2 (d : Dev nD) : (bigSep Finset.univ fun g : Tl => R2 ids u xT d g : sProp 𝕄)
    ⊢ iprop(∃ r : S800000.Idx → F .f32, ⌜Result k0_pay4 (u d) (xT d) (ids d) r⌝ ∗ oLoc2 d ↦{fullShare} r) := by
  unfold R2
  haveI : Nonempty (S800000.Idx → F .f32) := ⟨fun _ => Classical.choice (inferInstanceAs (Nonempty (Elt F .f32)))⟩
  refine (BI.bigSep_exists_pi Finset.univ (fun (g : Tl) (s : S800000.Idx → F .f32) => (iprop(⌜Scored k0_pay4 (u d) (xT d) s⌝ ∗ oLoc2 d ↦[tset g]{fullShare} (outArr (ids d) s : Buf (Elt F) (oLoc2 d))) : sProp 𝕄))).trans ?_
  iintro ⟨%ss, H⟩
  ihave H' := (BI.bigSep_pure_sep Finset.univ (fun g : Tl => Scored k0_pay4 (u d) (xT d) (ss g)) (fun g : Tl => (oLoc2 d ↦[tset g]{fullShare} outArr (ids d) (ss g) : sProp 𝕄))) $$ H
  icases H' with ⟨%hs, H⟩
  ihave H' := (pointsTo_biUnion_join (ℓ := oLoc2 d) (q := fullShare) (Val := Elt F) Finset.univ tset (fun g => outArr (ids d) (ss g)) (outArr (ids d) (ss (0, 0))) tset_disjoint) $$ H
  icases H' with ⟨%r, %hr, Hr⟩
  rw [tset_cover]
  iexists r
  isplitr
  · ipureintro
    intro n
    obtain ⟨g, _, hg⟩ := Finset.mem_biUnion.mp (tset_cover.symm ▸ Finset.mem_univ n)
    exact ⟨ss g, hs g (Finset.mem_univ _), hr g (Finset.mem_univ _) n hg⟩
  · iexact Hr

theorem oPts_tiles3 (d : Dev nD) (f : Buf (Elt F) (oLoc3 d)) :
    (oLoc3 d ↦{fullShare} f : sProp 𝕄) = bigSep Finset.univ fun g : Tl => oLoc3 d ↦[tset g]{fullShare} f := by
  rw [← pointsTo_biUnion Finset.univ (ℓ := oLoc3 d) tset tset_disjoint, tset_cover]

theorem dealOne3 (d : Dev nD) (g : Tl) (s f : S800000.Idx → F .f32) (h : Scored k0_pay5 (u d) (xT d) s) :
    iprop((sLoc3 d ↦{tq g} s) ∗ (oLoc3 d ↦[tset g]{fullShare} f)) ⊢ (G3 u xT d g : sProp 𝕄) := by
  unfold G3
  iintro ⟨S, O⟩
  iexists s; iexists f
  isplitr; · ipureintro; exact h
  isplitl [S]; · iexact S
  iexact O

theorem deal3 (d : Dev nD) (s f : S800000.Idx → F .f32) (h : Scored k0_pay5 (u d) (xT d) s) :
    iprop((sLoc3 d ↦{fullShare} s) ∗ (oLoc3 d ↦{fullShare} f)) ⊢ (bigSep Finset.univ fun g : Tl => G3 u xT d g : sProp 𝕄) := by
  rw [pointsTo_tiles, oPts_tiles3, ← bigSep_sep']
  exact BI.bigSep_mono fun g _ => dealOne3 u xT d g s f h

theorem gather3 (d : Dev nD) : (bigSep Finset.univ fun g : Tl => R3 ids u xT d g : sProp 𝕄)
    ⊢ iprop(∃ r : S800000.Idx → F .f32, ⌜Result k0_pay5 (u d) (xT d) (ids d) r⌝ ∗ oLoc3 d ↦{fullShare} r) := by
  unfold R3
  haveI : Nonempty (S800000.Idx → F .f32) := ⟨fun _ => Classical.choice (inferInstanceAs (Nonempty (Elt F .f32)))⟩
  refine (BI.bigSep_exists_pi Finset.univ (fun (g : Tl) (s : S800000.Idx → F .f32) => (iprop(⌜Scored k0_pay5 (u d) (xT d) s⌝ ∗ oLoc3 d ↦[tset g]{fullShare} (outArr (ids d) s : Buf (Elt F) (oLoc3 d))) : sProp 𝕄))).trans ?_
  iintro ⟨%ss, H⟩
  ihave H' := (BI.bigSep_pure_sep Finset.univ (fun g : Tl => Scored k0_pay5 (u d) (xT d) (ss g)) (fun g : Tl => (oLoc3 d ↦[tset g]{fullShare} outArr (ids d) (ss g) : sProp 𝕄))) $$ H
  icases H' with ⟨%hs, H⟩
  ihave H' := (pointsTo_biUnion_join (ℓ := oLoc3 d) (q := fullShare) (Val := Elt F) Finset.univ tset (fun g => outArr (ids d) (ss g)) (outArr (ids d) (ss (0, 0))) tset_disjoint) $$ H
  icases H' with ⟨%r, %hr, Hr⟩
  rw [tset_cover]
  iexists r
  isplitr
  · ipureintro
    intro n
    obtain ⟨g, _, hg⟩ := Finset.mem_biUnion.mp (tset_cover.symm ▸ Finset.mem_univ n)
    exact ⟨ss g, hs g (Finset.mem_univ _), hr g (Finset.mem_univ _) n hg⟩
  · iexact Hr

/-! ## All of them -/

theorem deal (d : Dev nD) (s0 f0 s1 f1 s2 f2 s3 f3 : S800000.Idx → F .f32) (h0 : Scored k0_pay2 (u d) (xT d) s0) (h1 : Scored k0_pay3 (u d) (xT d) s1) (h2 : Scored k0_pay4 (u d) (xT d) s2) (h3 : Scored k0_pay5 (u d) (xT d) s3) :
    iprop((iLoc d ↦{fullShare} ids d) ∗ ((sLoc0 d ↦{fullShare} s0) ∗ (oLoc0 d ↦{fullShare} f0)) ∗ ((sLoc1 d ↦{fullShare} s1) ∗ (oLoc1 d ↦{fullShare} f1)) ∗ ((sLoc2 d ↦{fullShare} s2) ∗ (oLoc2 d ↦{fullShare} f2)) ∗ ((sLoc3 d ↦{fullShare} s3) ∗ (oLoc3 d ↦{fullShare} f3)))
      ⊢ (bigSep Finset.univ fun c : Fin ((K (F := F)).nCore 0) => (P ids u xT).st 0 d c : sProp 𝕄) := by
  rw [st_eq]
  unfold goT
  rw [bigSep_sep', bigSep_sep', bigSep_sep', bigSep_sep', pointsTo_tiles (ℓ := iLoc d)]
  iintro ⟨HI, H0, H1, H2, H3⟩
  isplitl [HI]; · iexact HI
  isplitl [H0]; · iapply (deal0 u xT d s0 f0 h0); iexact H0
  isplitl [H1]; · iapply (deal1 u xT d s1 f1 h1); iexact H1
  isplitl [H2]; · iapply (deal2 u xT d s2 f2 h2); iexact H2
  iapply (deal3 u xT d s3 f3 h3); iexact H3

theorem gather (d : Dev nD) : (bigSep Finset.univ fun c : Fin ((K (F := F)).nCore 0) => (P ids u xT).dn 0 d c : sProp 𝕄)
    ⊢ iprop((iLoc d ↦{fullShare} ids d) ∗ (∃ r : S800000.Idx → F .f32, ⌜Result k0_pay2 (u d) (xT d) (ids d) r⌝ ∗ oLoc0 d ↦{fullShare} r) ∗ (∃ r : S800000.Idx → F .f32, ⌜Result k0_pay3 (u d) (xT d) (ids d) r⌝ ∗ oLoc1 d ↦{fullShare} r) ∗ (∃ r : S800000.Idx → F .f32, ⌜Result k0_pay4 (u d) (xT d) (ids d) r⌝ ∗ oLoc2 d ↦{fullShare} r) ∗ (∃ r : S800000.Idx → F .f32, ⌜Result k0_pay5 (u d) (xT d) (ids d) r⌝ ∗ oLoc3 d ↦{fullShare} r)) := by
  rw [dn_eq]
  unfold tdT
  rw [bigSep_sep', bigSep_sep', bigSep_sep', bigSep_sep', pointsTo_tiles (ℓ := iLoc d)]
  iintro ⟨HI, H0, H1, H2, H3⟩
  isplitl [HI]; · iexact HI
  isplitl [H0]; · iapply (gather0 ids u xT d); iexact H0
  isplitl [H1]; · iapply (gather1 ids u xT d); iexact H1
  isplitl [H2]; · iapply (gather2 ids u xT d); iexact H2
  iapply (gather3 ids u xT d); iexact H3

end Cert.Proof

end
-- ==== Proof.Host.lean ====
/-
  The TensorCore's operations around the two kernels, and what they leave.
-/
module

public import proofs.«01_k».proof.Proof.Deal
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type} [FloatOps F]

local notation "𝕄" => MT nD τ sig (HIx 1) (Elt F) ℕ UU ℕ

variable [∀ e, Nonempty (Elt F e)]
variable (m : (ℓ : Loc nD τ sig) → Buf (Elt F) ℓ)

abbrev op1 : HloOp τ sig (Elt F) := StableHlo.unary main_arg9 main_v0 ((extractStridedSlice S32x128 ![0, 0] · slices_S96x128_S32x128_0_0) : (⟨S96x128, .f32⟩ : BufTy).Contents (Elt F) → (⟨S32x128, .f32⟩ : BufTy).Contents (Elt F))
abbrev op2 : HloOp τ sig (Elt F) := StableHlo.reshape main_v0 main_v1 (rfl : (.f32 : EltTy) = .f32) shapeCasts_S32x128_S32x4x32
abbrev op3 : HloOp τ sig (Elt F) := StableHlo.binary main_v1 main_arg10 main_v2 ((fun l r => Host.dotGeneral dot_S32x4x32_S4x32_S4x32_2_1_0_n_1_0 none l r) : (⟨S32x4x32, .f32⟩ : BufTy).Contents (Elt F) → (⟨S4x32, .f32⟩ : BufTy).Contents (Elt F) → (⟨S4x32, .f32⟩ : BufTy).Contents (Elt F))
abbrev op4 : HloOp τ sig (Elt F) := StableHlo.nullary main_cst (constant S_ .f32 0x42000000#32)
abbrev op5 : HloOp τ sig (Elt F) := StableHlo.unary main_cst main_v3 (Host.sqrt : (⟨S_, .f32⟩ : BufTy).Contents (Elt F) → (⟨S_, .f32⟩ : BufTy).Contents (Elt F))
abbrev op6 : HloOp τ sig (Elt F) := StableHlo.unary main_v3 main_v4 (broadcastInDim S4x32 ![] bcast_S_S4x32 : (⟨S_, .f32⟩ : BufTy).Contents (Elt F) → (⟨S4x32, .f32⟩ : BufTy).Contents (Elt F))
abbrev op7 : HloOp τ sig (Elt F) := StableHlo.binary main_v2 main_v4 main_v5 (Host.divf : (⟨S4x32, .f32⟩ : BufTy).Contents (Elt F) → (⟨S4x32, .f32⟩ : BufTy).Contents (Elt F) → (⟨S4x32, .f32⟩ : BufTy).Contents (Elt F))
abbrev op8 : HloOp τ sig (Elt F) := StableHlo.unary main_arg0 main_v6 ((transpose S32x800000 [1, 0] · transposes_S800000x32_S32x800000_1_0) : (⟨S800000x32, .f32⟩ : BufTy).Contents (Elt F) → (⟨S32x800000, .f32⟩ : BufTy).Contents (Elt F))
abbrev opR0 : HloOp τ sig (Elt F) := StableHlo.reshape main_v8_0 main_v9 (rfl : (.f32 : EltTy) = .f32) shapeCasts_S800000_S800000x1
abbrev opR1 : HloOp τ sig (Elt F) := StableHlo.reshape main_v8_1 main_v10 (rfl : (.f32 : EltTy) = .f32) shapeCasts_S800000_S800000x1
abbrev opR2 : HloOp τ sig (Elt F) := StableHlo.reshape main_v8_2 main_v11 (rfl : (.f32 : EltTy) = .f32) shapeCasts_S800000_S800000x1
abbrev opR3 : HloOp τ sig (Elt F) := StableHlo.reshape main_v8_3 main_v12 (rfl : (.f32 : EltTy) = .f32) shapeCasts_S800000_S800000x1

def V0 (d : Dev nD) : Valuation τ sig (Elt F) := fun b => m (d, b)
def V1 (d : Dev nD) : Valuation τ sig (Elt F) := (op1 (F := F)).result (V0 m d)
def V2 (d : Dev nD) : Valuation τ sig (Elt F) := (op2 (F := F)).result (V1 m d)
def V3 (d : Dev nD) : Valuation τ sig (Elt F) := (op3 (F := F)).result (V2 m d)
def V4 (d : Dev nD) : Valuation τ sig (Elt F) := (op4 (F := F)).result (V3 m d)
def V5 (d : Dev nD) : Valuation τ sig (Elt F) := (op5 (F := F)).result (V4 m d)
def V6 (d : Dev nD) : Valuation τ sig (Elt F) := (op6 (F := F)).result (V5 m d)
def V7 (d : Dev nD) : Valuation τ sig (Elt F) := (op7 (F := F)).result (V6 m d)
def V8 (d : Dev nD) : Valuation τ sig (Elt F) := (op8 (F := F)).result (V7 m d)

/-- What the operations before the kernels do not write keeps its contents. -/
theorem V8_of_not_mem (d : Dev nD) (b : Ref sig .tc) (h : b ∉ ({main_v0, main_v1, main_v2, main_cst, main_v3, main_v4, main_v5, main_v6} : Finset (Ref sig .tc))) :
    V8 m d (Proc.devRef .tc b) = m ((SparseCore.T d : Thread nD τ).loc b) := by
  simp only [Finset.mem_insert, Finset.mem_singleton, not_or] at h
  obtain ⟨h1, h2, h3, h4, h5, h6, h7, h8⟩ := h
  unfold V8; refine (HloOp.result_of_not_mem _ _ (fun hm => h8 ?_)).trans ?_
  · exact Proc.devRef_injective _ (Finset.mem_singleton.mp hm)
  unfold V7; refine (HloOp.result_of_not_mem _ _ (fun hm => h7 ?_)).trans ?_
  · exact Proc.devRef_injective _ (Finset.mem_singleton.mp hm)
  unfold V6; refine (HloOp.result_of_not_mem _ _ (fun hm => h6 ?_)).trans ?_
  · exact Proc.devRef_injective _ (Finset.mem_singleton.mp hm)
  unfold V5; refine (HloOp.result_of_not_mem _ _ (fun hm => h5 ?_)).trans ?_
  · exact Proc.devRef_injective _ (Finset.mem_singleton.mp hm)
  unfold V4; refine (HloOp.result_of_not_mem _ _ (fun hm => h4 ?_)).trans ?_
  · exact Proc.devRef_injective _ (Finset.mem_singleton.mp hm)
  unfold V3; refine (HloOp.result_of_not_mem _ _ (fun hm => h3 ?_)).trans ?_
  · exact Proc.devRef_injective _ (Finset.mem_singleton.mp hm)
  unfold V2; refine (HloOp.result_of_not_mem _ _ (fun hm => h2 ?_)).trans ?_
  · exact Proc.devRef_injective _ (Finset.mem_singleton.mp hm)
  unfold V1; refine (HloOp.result_of_not_mem _ _ (fun hm => h1 ?_)).trans ?_
  · exact Proc.devRef_injective _ (Finset.mem_singleton.mp hm)
  rfl

/-- The valuation before the kernels, by reference. -/
abbrev Vr : (c : Dev nD) → (b : Ref sig .tc) → Buf (Elt F) ((c.tc : Thread nD τ).loc b) := fun c b => V8 m c (Proc.devRef .tc b)

/-- The queries, the transposed inputs and the ids, as the kernels read them. -/
def uq (d : Dev nD) : Vec F S4x32 .f32 := Vr m d main_v5
def xq (d : Dev nD) : Vec F S32x800000 .f32 := Vr m d main_v6
def idq (d : Dev nD) : S800000.Idx → BitVec 32 := m (iLoc d)

/-! ## What the tiles' call is given, out of the unscoped buffers -/

/-- The arguments but the ids. -/
abbrev argset : Finset (Ref sig .tc) := {main_arg0, main_arg1, main_arg2, main_arg3, main_arg4, main_arg5, main_arg6, main_arg7, main_arg8, main_arg9, main_arg10, main_arg12}
abbrev useset : Finset (Ref sig .tc) :=
  insert main_arg11 (insert main_v7_0 (insert main_v8_0 (insert main_v7_1 (insert main_v8_1 (insert main_v7_2 (insert main_v8_2 (insert main_v7_3 (insert main_v8_3
    (insert main_v9 (insert main_v10 (insert main_v11 (insert main_v12 argset))))))))))))

theorem carve (d : Dev nD) (W : (b : Ref sig .tc) → Buf (Elt F) ((d.tc : Thread nD τ).loc b)) :
    (unscopedBufs d W : sProp 𝕄) ⊢ iprop((iLoc d ↦{fullShare} W main_arg11) ∗ (sLoc0 d ↦{fullShare} W main_v7_0) ∗ (oLoc0 d ↦{fullShare} W main_v8_0)
      ∗ (sLoc1 d ↦{fullShare} W main_v7_1) ∗ (oLoc1 d ↦{fullShare} W main_v8_1) ∗ (sLoc2 d ↦{fullShare} W main_v7_2) ∗ (oLoc2 d ↦{fullShare} W main_v8_2)
      ∗ (sLoc3 d ↦{fullShare} W main_v7_3) ∗ (oLoc3 d ↦{fullShare} W main_v8_3)
      ∗ ((SparseCore.T d : Thread nD τ).loc main_v9 ↦{fullShare} W main_v9) ∗ ((SparseCore.T d : Thread nD τ).loc main_v10 ↦{fullShare} W main_v10)
      ∗ ((SparseCore.T d : Thread nD τ).loc main_v11 ↦{fullShare} W main_v11) ∗ ((SparseCore.T d : Thread nD τ).loc main_v12 ↦{fullShare} W main_v12)
      ∗ bigSep argset fun b => (SparseCore.T d : Thread nD τ).loc b ↦{fullShare} W b) := by
  unfold unscopedBufs
  refine (BI.bigSep_subset (show useset ⊆ Finset.univ.filter fun b : Ref sig .tc => ¬ b.isScoped by decide)).trans ?_
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide)]
  exact BI.Entails.refl _

/-! ## The reshapes after the kernels -/

def outv0 (r : S800000.Idx → F .f32) : S800000x1.Idx → F .f32 := shapeCast S800000x1 r shapeCasts_S800000_S800000x1
theorem tail0 (W0 : Valuation τ sig (Elt F)) (d : Dev nD) (r : S800000.Idx → F .f32) (x : Buf (Elt F) ((SparseCore.T d : Thread nD τ).loc main_v9)) (Φ : PUnit → sProp 𝕄) :
    iprop((boundary (SparseCore.T d) ∗ (oLoc0 d ↦{fullShare} r) ∗ (SparseCore.T d : Thread nD τ).loc main_v9 ↦{fullShare} x)
        ∗ ((boundary (SparseCore.T d) ∗ (SparseCore.T d : Thread nD τ).loc main_v9 ↦{fullShare} outv0 r) -∗ Φ ⟨⟩))
      ⊢ wp frame (wpE ((K (F := F)).defs (D (F := F))) 𝒱 (SparseCore.T d) none) Set.univ (hlo rfl opR0 (fun _ => .ret ⟨⟩)) Φ := by
  let a : DevRef τ sig := Proc.devRef .tc (main_v8_0 : Ref sig .tc)
  let b : DevRef τ sig := Proc.devRef .tc (main_v9 : Ref sig .tc)
  let W : Valuation τ sig (Elt F) := Function.update (Function.update W0 a r) b x
  have hab : a ≠ b := by decide
  have hWa : W a = r := (Function.update_of_ne hab _ _).trans (Function.update_self _ _ _)
  have hWb : W b = x := Function.update_self _ _ _
  have hheld : ∀ W' : Valuation τ sig (Elt F), (held (SparseCore.T d) {a, b} W' : sProp 𝕄)
      = iprop((oLoc0 d ↦{fullShare} W' a) ∗ (SparseCore.T d : Thread nD τ).loc main_v9 ↦{fullShare} W' b) := fun W' => by
    unfold held; rw [SparseCore.bigSep_insert' (by decide), bigSep_singleton]
  have hres : (opR0 (F := F)).result W b = outv0 r := by
    rw [← hWa]; exact StableHlo.reshape_result _ _ _ _ _ _ _
  iintro ⟨⟨Hb, Ho, Hx⟩, Hk⟩
  iapply (wp_hlo_within 𝒱 (SparseCore.T d) none Set.univ (op := opR0) (S := {a, b}) (show ({a, b} : Finset (DevRef τ sig)) ⊆ {a, b} from fun _ h => h) (V := W)) $$ [Hb Ho Hx]
  · isplitl [Hb]; · iexact Hb
    rw [hheld, hWa, hWb]
    isplitl [Ho]; · iexact Ho
    iexact Hx
  iintro ⟨Hb, Hheld⟩
  ihave Hh := (Entails.of_eq (hheld ((opR0 (F := F)).result W))) $$ Hheld
  icases Hh with ⟨-, Hx⟩
  rw [hres, wp_ret]; imodintro
  iapply Hk
  isplitl [Hb]; · iexact Hb
  iexact Hx

def outv1 (r : S800000.Idx → F .f32) : S800000x1.Idx → F .f32 := shapeCast S800000x1 r shapeCasts_S800000_S800000x1
theorem tail1 (W0 : Valuation τ sig (Elt F)) (d : Dev nD) (r : S800000.Idx → F .f32) (x : Buf (Elt F) ((SparseCore.T d : Thread nD τ).loc main_v10)) (Φ : PUnit → sProp 𝕄) :
    iprop((boundary (SparseCore.T d) ∗ (oLoc1 d ↦{fullShare} r) ∗ (SparseCore.T d : Thread nD τ).loc main_v10 ↦{fullShare} x)
        ∗ ((boundary (SparseCore.T d) ∗ (SparseCore.T d : Thread nD τ).loc main_v10 ↦{fullShare} outv1 r) -∗ Φ ⟨⟩))
      ⊢ wp frame (wpE ((K (F := F)).defs (D (F := F))) 𝒱 (SparseCore.T d) none) Set.univ (hlo rfl opR1 (fun _ => .ret ⟨⟩)) Φ := by
  let a : DevRef τ sig := Proc.devRef .tc (main_v8_1 : Ref sig .tc)
  let b : DevRef τ sig := Proc.devRef .tc (main_v10 : Ref sig .tc)
  let W : Valuation τ sig (Elt F) := Function.update (Function.update W0 a r) b x
  have hab : a ≠ b := by decide
  have hWa : W a = r := (Function.update_of_ne hab _ _).trans (Function.update_self _ _ _)
  have hWb : W b = x := Function.update_self _ _ _
  have hheld : ∀ W' : Valuation τ sig (Elt F), (held (SparseCore.T d) {a, b} W' : sProp 𝕄)
      = iprop((oLoc1 d ↦{fullShare} W' a) ∗ (SparseCore.T d : Thread nD τ).loc main_v10 ↦{fullShare} W' b) := fun W' => by
    unfold held; rw [SparseCore.bigSep_insert' (by decide), bigSep_singleton]
  have hres : (opR1 (F := F)).result W b = outv1 r := by
    rw [← hWa]; exact StableHlo.reshape_result _ _ _ _ _ _ _
  iintro ⟨⟨Hb, Ho, Hx⟩, Hk⟩
  iapply (wp_hlo_within 𝒱 (SparseCore.T d) none Set.univ (op := opR1) (S := {a, b}) (show ({a, b} : Finset (DevRef τ sig)) ⊆ {a, b} from fun _ h => h) (V := W)) $$ [Hb Ho Hx]
  · isplitl [Hb]; · iexact Hb
    rw [hheld, hWa, hWb]
    isplitl [Ho]; · iexact Ho
    iexact Hx
  iintro ⟨Hb, Hheld⟩
  ihave Hh := (Entails.of_eq (hheld ((opR1 (F := F)).result W))) $$ Hheld
  icases Hh with ⟨-, Hx⟩
  rw [hres, wp_ret]; imodintro
  iapply Hk
  isplitl [Hb]; · iexact Hb
  iexact Hx

def outv2 (r : S800000.Idx → F .f32) : S800000x1.Idx → F .f32 := shapeCast S800000x1 r shapeCasts_S800000_S800000x1
theorem tail2 (W0 : Valuation τ sig (Elt F)) (d : Dev nD) (r : S800000.Idx → F .f32) (x : Buf (Elt F) ((SparseCore.T d : Thread nD τ).loc main_v11)) (Φ : PUnit → sProp 𝕄) :
    iprop((boundary (SparseCore.T d) ∗ (oLoc2 d ↦{fullShare} r) ∗ (SparseCore.T d : Thread nD τ).loc main_v11 ↦{fullShare} x)
        ∗ ((boundary (SparseCore.T d) ∗ (SparseCore.T d : Thread nD τ).loc main_v11 ↦{fullShare} outv2 r) -∗ Φ ⟨⟩))
      ⊢ wp frame (wpE ((K (F := F)).defs (D (F := F))) 𝒱 (SparseCore.T d) none) Set.univ (hlo rfl opR2 (fun _ => .ret ⟨⟩)) Φ := by
  let a : DevRef τ sig := Proc.devRef .tc (main_v8_2 : Ref sig .tc)
  let b : DevRef τ sig := Proc.devRef .tc (main_v11 : Ref sig .tc)
  let W : Valuation τ sig (Elt F) := Function.update (Function.update W0 a r) b x
  have hab : a ≠ b := by decide
  have hWa : W a = r := (Function.update_of_ne hab _ _).trans (Function.update_self _ _ _)
  have hWb : W b = x := Function.update_self _ _ _
  have hheld : ∀ W' : Valuation τ sig (Elt F), (held (SparseCore.T d) {a, b} W' : sProp 𝕄)
      = iprop((oLoc2 d ↦{fullShare} W' a) ∗ (SparseCore.T d : Thread nD τ).loc main_v11 ↦{fullShare} W' b) := fun W' => by
    unfold held; rw [SparseCore.bigSep_insert' (by decide), bigSep_singleton]
  have hres : (opR2 (F := F)).result W b = outv2 r := by
    rw [← hWa]; exact StableHlo.reshape_result _ _ _ _ _ _ _
  iintro ⟨⟨Hb, Ho, Hx⟩, Hk⟩
  iapply (wp_hlo_within 𝒱 (SparseCore.T d) none Set.univ (op := opR2) (S := {a, b}) (show ({a, b} : Finset (DevRef τ sig)) ⊆ {a, b} from fun _ h => h) (V := W)) $$ [Hb Ho Hx]
  · isplitl [Hb]; · iexact Hb
    rw [hheld, hWa, hWb]
    isplitl [Ho]; · iexact Ho
    iexact Hx
  iintro ⟨Hb, Hheld⟩
  ihave Hh := (Entails.of_eq (hheld ((opR2 (F := F)).result W))) $$ Hheld
  icases Hh with ⟨-, Hx⟩
  rw [hres, wp_ret]; imodintro
  iapply Hk
  isplitl [Hb]; · iexact Hb
  iexact Hx

def outv3 (r : S800000.Idx → F .f32) : S800000x1.Idx → F .f32 := shapeCast S800000x1 r shapeCasts_S800000_S800000x1
theorem tail3 (W0 : Valuation τ sig (Elt F)) (d : Dev nD) (r : S800000.Idx → F .f32) (x : Buf (Elt F) ((SparseCore.T d : Thread nD τ).loc main_v12)) (Φ : PUnit → sProp 𝕄) :
    iprop((boundary (SparseCore.T d) ∗ (oLoc3 d ↦{fullShare} r) ∗ (SparseCore.T d : Thread nD τ).loc main_v12 ↦{fullShare} x)
        ∗ ((boundary (SparseCore.T d) ∗ (SparseCore.T d : Thread nD τ).loc main_v12 ↦{fullShare} outv3 r) -∗ Φ ⟨⟩))
      ⊢ wp frame (wpE ((K (F := F)).defs (D (F := F))) 𝒱 (SparseCore.T d) none) Set.univ (hlo rfl opR3 (fun _ => .ret ⟨⟩)) Φ := by
  let a : DevRef τ sig := Proc.devRef .tc (main_v8_3 : Ref sig .tc)
  let b : DevRef τ sig := Proc.devRef .tc (main_v12 : Ref sig .tc)
  let W : Valuation τ sig (Elt F) := Function.update (Function.update W0 a r) b x
  have hab : a ≠ b := by decide
  have hWa : W a = r := (Function.update_of_ne hab _ _).trans (Function.update_self _ _ _)
  have hWb : W b = x := Function.update_self _ _ _
  have hheld : ∀ W' : Valuation τ sig (Elt F), (held (SparseCore.T d) {a, b} W' : sProp 𝕄)
      = iprop((oLoc3 d ↦{fullShare} W' a) ∗ (SparseCore.T d : Thread nD τ).loc main_v12 ↦{fullShare} W' b) := fun W' => by
    unfold held; rw [SparseCore.bigSep_insert' (by decide), bigSep_singleton]
  have hres : (opR3 (F := F)).result W b = outv3 r := by
    rw [← hWa]; exact StableHlo.reshape_result _ _ _ _ _ _ _
  iintro ⟨⟨Hb, Ho, Hx⟩, Hk⟩
  iapply (wp_hlo_within 𝒱 (SparseCore.T d) none Set.univ (op := opR3) (S := {a, b}) (show ({a, b} : Finset (DevRef τ sig)) ⊆ {a, b} from fun _ h => h) (V := W)) $$ [Hb Ho Hx]
  · isplitl [Hb]; · iexact Hb
    rw [hheld, hWa, hWb]
    isplitl [Ho]; · iexact Ho
    iexact Hx
  iintro ⟨Hb, Hheld⟩
  ihave Hh := (Entails.of_eq (hheld ((opR3 (F := F)).result W))) $$ Hheld
  icases Hh with ⟨-, Hx⟩
  rw [hres, wp_ret]; imodintro
  iapply Hk
  isplitl [Hb]; · iexact Hb
  iexact Hx

end Cert.Proof

end
-- ==== Proof.Launch.lean ====
/-
  The program's run: the launch's ghost state, @main on the TensorCore, and what the run leaves.
-/
module

public import proofs.«01_k».proof.Proof.Host
public import Idealize.ShloMosaic.Lib.SparseCore.Quiescent
public import Idealize.ShloMosaic.Lib.Pipeline.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.ShareLeaves (leaf pointsTo_leaves)

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-! ## The ghost state of the launch -/

abbrev pins : Dev nD → (p : Fin 1) → Pipeline.Cfg sig Λ₀ := Pipeline.pinD (pcfgs (F := F)) tabs

theorem pins_inj : Function.Injective (Pipeline.PerCore.cellOf (nD := nD) (τ := τ) (pins (F := F))) := cellOf_inj

def u₀ : UU := (initOf (K (F := F)).hsCells (K (F := F)).hsToks,
  (initOf (Pipeline.PerCore.cells (pins (F := F)) pins_inj) (Pipeline.PerCore.launchToks (pins (F := F)) pins_inj), 1))

/-- What @main's proof starts from: the ghost state of the region's transfers. -/
def GG (d : Dev nD) : sProp 𝕄 :=
  iprop(Pipeline.PerCore.cellsGhost (pins (F := F)) EP 0 d ∗ Pipeline.PerCore.toksInit (pins (F := F)) EP 0 d)

abbrev Pm : (K (F := F)).Pay (nD := nD) (Val := Elt F) (Name := ℕ) (U := UU) := P (idq m) (uq m) (xq m)

theorem Px (thr : Thread nD τ) (q : Fin 1) : (Pm m).x q thr = iprop(emp) := rfl

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.PerCore.cells (pins (F := F)) pins_inj) (Pipeline.PerCore.launchToks (pins (F := F)) pins_inj), 1) : UP × Counters)) $$ Hu
  icases H with ⟨HH, HR⟩
  ihave H := (own_pair_emb embR (initOf (Pipeline.PerCore.cells (pins (F := F)) pins_inj) (Pipeline.PerCore.launchToks (pins (F := F)) pins_inj)) (1 : Counters)) $$ HR
  icases H with ⟨HP, -⟩
  imod (Pipeline.PerCore.fund_ghost (pins (F := F)) EP pins_inj) $$ HP with ⟨Hg, Ht⟩
  imodintro
  isplitl [HH]; · iexact HH
  isplitl [Hg Ht]
  · unfold GG
    rw [bigSep_sep']
    isplitl [Hg]
    · iapply (Entails.of_eq (show (bigSep Finset.univ fun c : Dev nD => bigSep Finset.univ fun p : Fin 1 => (Pipeline.PerCore.cellsGhost (pins (F := F)) EP p c : sProp 𝕄))
          = bigSep Finset.univ fun c : Dev nD => Pipeline.PerCore.cellsGhost (pins (F := F)) EP 0 c from bigSep_congr fun c _ => bigSep_univ_of_subsingleton (0 : Fin 1)))
      iexact Hg
    · iapply (Entails.of_eq (show (bigSep Finset.univ fun c : Dev nD => bigSep Finset.univ fun p : Fin 1 => (Pipeline.PerCore.toksInit (pins (F := F)) EP p c : sProp 𝕄))
          = bigSep Finset.univ fun c : Dev nD => Pipeline.PerCore.toksInit (pins (F := F)) EP 0 c from bigSep_congr fun c _ => bigSep_univ_of_subsingleton (0 : Fin 1)))
      iexact Ht
  rw [bigSep_congr fun thr _ => (bigSep_congr fun q _ => Px m thr q).trans (bigSep_emp' _), bigSep_emp']
  iempintro

/-! ## The region -/

theorem Otc_none (d : Dev nD) (n : ℕ) (g : GSem nD τ sig) : (K (F := F)).Otc (N := 1) d n g none = 0 := by
  unfold SparseCore.Cfg.Otc
  rw [Finset.sum_apply, Finsupp.finset_sum_apply]
  refine Finset.sum_eq_zero fun q _ => ?_
  split
  · rw [Finset.sum_apply, Finsupp.finset_sum_apply]
    exact Finset.sum_eq_zero fun c _ => by rw [tallyAt_apply, if_neg (fun h => nomatch h.2)]
  · rfl

/-- The waits a TensorCore may have recorded before the tiles' call. -/
def Rec (c : Dev nD) : Set (SemLoc sig × HIx 1) := {p | (K (F := F)).lev (SparseCore.T c, p.1) p.2 ≤ 8 * (inferInstance : SparseCore.Cfg.Blocks 1 1).fst 0}

abbrev Oc : Dev nD → CellTallies nD τ sig (HIx 1) := fun c => (K (F := F)).Otc c 0

abbrev AfterM (d : Dev nD) := After (Vr m) (Oc (F := F)) (Rec (F := F)) d

theorem Rec_none (c : Dev nD) (p : SemLoc sig × HIx 1) (hp : p.2 = none) : p ∈ Rec (F := F) c := by
  show (K (F := F)).lev _ _ ≤ _; rw [hp]; exact Nat.zero_le _

/-- The region at the launch. -/
def regM := reg (Vr m) (Oc (F := F)) (Rec (F := F)) (fun c g => Otc_none (F := F) c 0 g) Rec_none

theorem regM_pre (d : Dev nD) : (regM m).pre d
    = iprop(unscopedBufs d (Vr m d) ∗ ∃ W, ⌜∀ p ∈ W, p ∈ Rec (F := F) d⌝ ∗ owes (SparseCore.T d) (Oc (F := F) d) W) := rfl
theorem regM_post (d : Dev nD) : (regM m).post d
    = iprop((∃ Vp, ⌜AfterM m d Vp⌝ ∗ unscopedBufs d Vp) ∗ ∃ W, ⌜∀ p ∈ W, p ∈ Rec (F := F) d⌝ ∗ owes (SparseCore.T d) (Oc (F := F) d) W) := rfl

set_option backward.isDefEq.respectTransparency.types false in
theorem region_run (d : Dev nD) (Φ : PUnit → sProp 𝕄) :
    iprop((((K (F := F)).tcSt EH d 0 ∗ boundary (SparseCore.T d) ∗ ∃ Vp, ⌜AfterM m d Vp⌝ ∗ unscopedBufs d Vp) -∗ Φ ⟨⟩)
        ∗ levAts (K (F := F)).L (K (F := F)).lev ∗ (K (F := F)).tcSt EH d 0 ∗ boundary (SparseCore.T d) ∗ unscopedBufs d (Vr m d) ∗ GG d)
      ⊢ wp frame (wpE ((K (F := F)).defs (D (F := F))) 𝒱 (SparseCore.T d) none) Set.univ
          (Prog.lift (.customCall (SparseCore.inner (Pipeline.entry 0)) ())) Φ := by
  unfold SparseCore.Cfg.tcSt GG
  iintro ⟨Hk, Hlev, ⟨⟨%W, %hW, HO⟩, Hrest⟩, Hb, Hu, Hg, Ht⟩
  iapply ((K (F := F)).wp_liftProg (D (F := F)) 𝒱 (SparseCore.T d) Set.univ none (.op (.customCall (Pipeline.entry 0) ()) .ret) Φ)
  iapply (Pipeline.PerCore.RDat.RegionSeg.wp (pcfgs (F := F)) tabs (rdats (Vr m) (Oc (F := F)) (Rec (F := F))) none pins_inj EP defs₀ 𝒱₀ (K (F := F)).L (K (F := F)).lev
    (regM m) d none (fun u h => nomatch h) .ret Φ) $$ [Hk Hlev HO Hrest Hb Hu Hg Ht]
  isplitl [Hk Hrest]
  · iintro ⟨Hb, Hpost⟩
    ihave Hp := (Entails.of_eq (regM_post m d)) $$ Hpost
    icases Hp with ⟨⟨%Vp, %hVp, Hu⟩, %W', %hW', HO⟩
    rw [wp_ret]; imodintro
    iapply Hk
    isplitl [HO Hrest]
    · isplitl [HO]
      · iexists W'
        isplitr; · ipureintro; exact hW'
        iexact HO
      · iexact Hrest
    isplitl [Hb]; · iexact Hb
    iexists Vp
    isplitr; · ipureintro; exact hVp
    iexact Hu
  isplitl [Hb]; · iexact Hb
  isplitl [Hu HO]
  · iapply (Entails.of_eq (regM_pre m d).symm)
    isplitl [Hu]; · iexact Hu
    iexists W
    isplitr; · ipureintro; exact hW
    iexact HO
  isplitl [Hlev]; · iexact Hlev
  isplitl [Hg]; · iexact Hg
  iexact Ht

/-! ## @main on the TensorCore -/

theorem hop1 : (op1 (F := F)).bufs ⊆ Pipeline.ucRefs τ sig := Pipeline.sub_ucRefs _ (show (op1 (F := F)).bufs ⊆ StableHlo.tcRefs τ sig from StableHlo.unary_bufs_sub ..)
theorem hop2 : (op2 (F := F)).bufs ⊆ Pipeline.ucRefs τ sig := Pipeline.sub_ucRefs _ (show (op2 (F := F)).bufs ⊆ StableHlo.tcRefs τ sig from StableHlo.reshape_bufs_sub ..)
theorem hop3 : (op3 (F := F)).bufs ⊆ Pipeline.ucRefs τ sig := Pipeline.sub_ucRefs _ (show (op3 (F := F)).bufs ⊆ StableHlo.tcRefs τ sig from StableHlo.binary_bufs_sub ..)
theorem hop4 : (op4 (F := F)).bufs ⊆ Pipeline.ucRefs τ sig := Pipeline.sub_ucRefs _ (show (op4 (F := F)).bufs ⊆ StableHlo.tcRefs τ sig from StableHlo.nullary_bufs_sub ..)
theorem hop5 : (op5 (F := F)).bufs ⊆ Pipeline.ucRefs τ sig := Pipeline.sub_ucRefs _ (show (op5 (F := F)).bufs ⊆ StableHlo.tcRefs τ sig from StableHlo.unary_bufs_sub ..)
theorem hop6 : (op6 (F := F)).bufs ⊆ Pipeline.ucRefs τ sig := Pipeline.sub_ucRefs _ (show (op6 (F := F)).bufs ⊆ StableHlo.tcRefs τ sig from StableHlo.unary_bufs_sub ..)
theorem hop7 : (op7 (F := F)).bufs ⊆ Pipeline.ucRefs τ sig := Pipeline.sub_ucRefs _ (show (op7 (F := F)).bufs ⊆ StableHlo.tcRefs τ sig from StableHlo.binary_bufs_sub ..)
theorem hop8 : (op8 (F := F)).bufs ⊆ Pipeline.ucRefs τ sig := Pipeline.sub_ucRefs _ (show (op8 (F := F)).bufs ⊆ StableHlo.tcRefs τ sig from StableHlo.unary_bufs_sub ..)

/-- What @main leaves: the arguments as they were, the four results reshaped. -/
def FIN (d : Dev nD) : sProp 𝕄 :=
  iprop((∃ r0 : S800000.Idx → F .f32, ∃ r1 : S800000.Idx → F .f32, ∃ r2 : S800000.Idx → F .f32, ∃ r3 : S800000.Idx → F .f32,
      ⌜Result k0_pay2 (uq m d) (xq m d) (idq m d) r0 ∧ Result k0_pay3 (uq m d) (xq m d) (idq m d) r1 ∧ Result k0_pay4 (uq m d) (xq m d) (idq m d) r2 ∧ Result k0_pay5 (uq m d) (xq m d) (idq m d) r3⌝
      ∗ ((SparseCore.T d : Thread nD τ).loc main_v9 ↦{fullShare} outv0 r0) ∗ ((SparseCore.T d : Thread nD τ).loc main_v10 ↦{fullShare} outv1 r1) ∗ ((SparseCore.T d : Thread nD τ).loc main_v11 ↦{fullShare} outv2 r2) ∗ ((SparseCore.T d : Thread nD τ).loc main_v12 ↦{fullShare} outv3 r3))
    ∗ (iLoc d ↦{fullShare} m (iLoc d)) ∗ bigSep argset fun b => (SparseCore.T d : Thread nD τ).loc b ↦{fullShare} m ((SparseCore.T d : Thread nD τ).loc b))

theorem after_arg (d : Dev nD) (Vp) (h : AfterM m d Vp) (b : Ref sig .tc) (hb : b ∈ insert main_arg11 argset) :
    Vp b = m ((SparseCore.T d : Thread nD τ).loc b) := by
  have h1 : ∀ b ∈ insert main_arg11 argset, b ∉ Finset.univ.image (Pipeline.arrRef spec0) := by decide
  have h2 : ∀ b ∈ insert main_arg11 argset, b ∉ ({main_v0, main_v1, main_v2, main_cst, main_v3, main_v4, main_v5, main_v6} : Finset (Ref sig .tc)) := by decide
  exact (h.2 b (h1 b hb)).trans (V8_of_not_mem m d b (h2 b hb))

set_option maxRecDepth 16384 in
theorem hmain (κ : GSem nD τ sig → ℕ) (d : Dev nD) :
    iprop((K (F := F)).ctx EH (Pm m) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hheld0 : (unscopedBufs d (fun b => m ((SparseCore.T d : Thread nD τ).loc b)) : sProp 𝕄) = held (SparseCore.T d) (Pipeline.ucRefs τ sig) (V0 m d) :=
    Pipeline.unscopedBufs_held d (V0 m d)
  have hheld8 : (held (SparseCore.T d) (Pipeline.ucRefs τ sig) ((op8 (F := F)).result (V7 m d)) : sProp 𝕄) = unscopedBufs d (Vr m d) :=
    (Pipeline.unscopedBufs_held d (V8 m d)).symm
  unfold SparseCore.Cfg.tcRes SparseCore.Cfg.tcEnd
  rw [hheld0]
  simp only [main, wp_bind, wp_pure]
  iintro ⟨#Hctx, Hst, ⟨Hb, Hheld, Hts, -⟩, HG⟩
  iapply (wp_hlo_within 𝒱 (SparseCore.T d) none Set.univ (op := op1) (S := Pipeline.ucRefs τ sig) (hop1 (F := F)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := Pipeline.ucRefs τ sig) (hop2 (F := F)) (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := Pipeline.ucRefs τ sig) (hop3 (F := F)) (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op4) (S := Pipeline.ucRefs τ sig) (hop4 (F := F)) (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := Pipeline.ucRefs τ sig) (hop5 (F := F)) (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op6) (S := Pipeline.ucRefs τ sig) (hop6 (F := F)) (V := V5 m d)) $$ [Hb Hheld]
  · isplitl [Hb]; · iexact Hb
    iexact Hheld
  iintro ⟨Hb, Hheld⟩
  rw [wp_ret]; imodintro
  iapply (wp_hlo_within 𝒱 (SparseCore.T d) none Set.univ (op := op7) (S := Pipeline.ucRefs τ sig) (hop7 (F := F)) (V := V6 m d)) $$ [Hb Hheld]
  · isplitl [Hb]; · iexact Hb
    iexact Hheld
  iintro ⟨Hb, Hheld⟩
  rw [wp_ret]; imodintro
  iapply (wp_hlo_within 𝒱 (SparseCore.T d) none Set.univ (op := op8) (S := Pipeline.ucRefs τ sig) (hop8 (F := F)) (V := V7 m d)) $$ [Hb Hheld]
  · isplitl [Hb]; · iexact Hb
    iexact Hheld
  iintro ⟨Hb, Hheld⟩
  rw [wp_ret]; imodintro
  ihave Hu := (Entails.of_eq hheld8) $$ Hheld
  ihave Hlev := (SparseCore.Cfg.ctx_levAts κ) $$ Hctx
  iapply (region_run m d _) $$ [Hst Hb Hu Hts HG Hlev]
  isplitr [Hst Hb Hu HG Hlev]
  · iintro ⟨Hst, Hb, %Vp, %hVp, Hu⟩
    ihave Hc := (carve d Vp) $$ Hu
    icases Hc with ⟨Hi, S0, O0, S1, O1, S2, O2, S3, O3, X0, X1, X2, X3, Hargs⟩
    iapply ((K (F := F)).wp_run (D (F := F)) 𝒱 (EH := EH) (P := Pm m) κ d 0) $$ [Hst Hi S0 O0 S1 O1 S2 O2 S3 O3 X0 X1 X2 X3 Hargs Hb Hts]
    isplitr; · iexact Hctx
    isplitl [Hst]; · iexact Hst
    isplitl [Hi S0 O0 S1 O1 S2 O2 S3 O3]
    · rw [after_arg m d Vp hVp main_arg11 (Finset.mem_insert_self _ _)]
      iapply (deal (idq m) (uq m) (xq m) d (Vp main_v7_0) (Vp main_v8_0) (Vp main_v7_1) (Vp main_v8_1) (Vp main_v7_2) (Vp main_v8_2) (Vp main_v7_3) (Vp main_v8_3)
        (scored2 (Vr m) (Oc (F := F)) (Rec (F := F)) d _ (hVp.1 2)) (scored3 (Vr m) (Oc (F := F)) (Rec (F := F)) d _ (hVp.1 3)) (scored4 (Vr m) (Oc (F := F)) (Rec (F := F)) d _ (hVp.1 4)) (scored5 (Vr m) (Oc (F := F)) (Rec (F := F)) d _ (hVp.1 5)))
      isplitl [Hi]; · iexact Hi
      isplitl [S0 O0]; · isplitl [S0] <;> iassumption
      isplitl [S1 O1]; · isplitl [S1] <;> iassumption
      isplitl [S2 O2]; · isplitl [S2] <;> iassumption
      isplitl [S3] <;> iassumption
    iintro ⟨Hst, Hdn⟩
    ihave Hdn' := (gather (idq m) (uq m) (xq m) d) $$ Hdn
    icases Hdn' with ⟨Hi, ⟨%r0, %h0, O0⟩, ⟨%r1, %h1, O1⟩, ⟨%r2, %h2, O2⟩, %r3, %h3, O3⟩
    iapply (tail0 (V0 m d) d r0 _ _)
    isplitl [Hb O0 X0]
    · isplitl [Hb]; · iexact Hb
      isplitl [O0] <;> iassumption
    iintro ⟨Hb, Y0⟩
    iapply (tail1 (V0 m d) d r1 _ _)
    isplitl [Hb O1 X1]
    · isplitl [Hb]; · iexact Hb
      isplitl [O1] <;> iassumption
    iintro ⟨Hb, Y1⟩
    iapply (tail2 (V0 m d) d r2 _ _)
    isplitl [Hb O2 X2]
    · isplitl [Hb]; · iexact Hb
      isplitl [O2] <;> iassumption
    iintro ⟨Hb, Y2⟩
    iapply (tail3 (V0 m d) d r3 _ _)
    isplitl [Hb O3 X3]
    · isplitl [Hb]; · iexact Hb
      isplitl [O3] <;> iassumption
    iintro ⟨Hb, Y3⟩
    imodintro
    isplitl [Hst]; · iexact Hst
    isplitr [Hb Hts]
    · unfold FIN
      isplitl [Y0 Y1 Y2 Y3]
      · iexists r0; iexists r1; iexists r2; iexists r3
        isplitr; · ipureintro; exact ⟨h0, h1, h2, h3⟩
        isplitl [Y0]; · iexact Y0
        isplitl [Y1]; · iexact Y1
        isplitl [Y2]; · iexact Y2
        iexact Y3
      isplitl [Hi]; · iexact Hi
      iapply (Entails.of_eq (bigSep_congr fun b hb => congrArg (fun f => ((SparseCore.T d : Thread nD τ).loc b ↦{fullShare} f : sProp 𝕄)) (after_arg m d Vp hVp b (Finset.mem_insert_of_mem hb))))
      iexact Hargs
    isplitl [Hb] <;> iassumption
  isplitl [Hlev]; · iexact Hlev
  isplitl [Hst]; · iexact Hst
  isplitl [Hb]; · iexact Hb
  isplitl [Hu]; · iexact Hu
  iexact HG

/-! ## What is read of the final state -/

/-- What the run leaves on device `d`: the arguments as they were, each result a reshaped row of `Result`s. -/
def Left (d : Dev nD) (mem : (ℓ : Loc nD τ sig) → Buf (Elt F) ℓ) : Prop :=
  (∃ r0 r1 r2 r3 : S800000.Idx → F .f32, (Result k0_pay2 (uq m d) (xq m d) (idq m d) r0 ∧ Result k0_pay3 (uq m d) (xq m d) (idq m d) r1 ∧ Result k0_pay4 (uq m d) (xq m d) (idq m d) r2 ∧ Result k0_pay5 (uq m d) (xq m d) (idq m d) r3)
    ∧ mem ((SparseCore.T d : Thread nD τ).loc main_v9) = outv0 r0 ∧ mem ((SparseCore.T d : Thread nD τ).loc main_v10) = outv1 r1 ∧ mem ((SparseCore.T d : Thread nD τ).loc main_v11) = outv2 r2 ∧ mem ((SparseCore.T d : Thread nD τ).loc main_v12) = outv3 r3)
  ∧ ∀ b ∈ insert main_arg11 argset, mem ((SparseCore.T d : Thread nD τ).loc b) = m ((SparseCore.T d : Thread nD τ).loc b)

theorem read1 {ℓ : Loc nD τ sig} {f : Buf (Elt F) ℓ} (s' : Phys nD τ sig (Elt F)) :
    iprop((ℓ ↦{fullShare} f : sProp 𝕄) ∗ SI s') ⊢ iprop(⌜s'.mem.mem ℓ = f⌝ ∗ SI s') := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜Left m d s'.mem.mem⌝ : sProp 𝕄) := by
  unfold FIN
  iintro ⟨⟨⟨%r0, %r1, %r2, %r3, %hr, Y0, Y1, Y2, Y3⟩, Hi, Hargs⟩, HSI⟩
  ihave H := (read1 s') $$ [Y0 HSI]
  · isplitl [Y0]; · iexact Y0
    iexact HSI
  icases H with ⟨%e0, HSI⟩
  ihave H := (read1 s') $$ [Y1 HSI]
  · isplitl [Y1]; · iexact Y1
    iexact HSI
  icases H with ⟨%e1, HSI⟩
  ihave H := (read1 s') $$ [Y2 HSI]
  · isplitl [Y2]; · iexact Y2
    iexact HSI
  icases H with ⟨%e2, HSI⟩
  ihave H := (read1 s') $$ [Y3 HSI]
  · isplitl [Y3]; · iexact Y3
    iexact HSI
  icases H with ⟨%e3, HSI⟩
  ihave H := (read1 s') $$ [Hi HSI]
  · isplitl [Hi]; · iexact Hi
    iexact HSI
  icases H with ⟨%ei, HSI⟩
  ihave H := (pointsTo_read_all argset (fun b => (SparseCore.T d : Thread nD τ).loc b) (fun b => m ((SparseCore.T d : Thread nD τ).loc b)) s') $$ [Hargs HSI]
  · isplitl [Hargs]; · iexact Hargs
    iexact HSI
  icases H with ⟨%ea, -⟩
  ipureintro
  refine ⟨⟨r0, r1, r2, r3, hr, e0, e1, e2, e3⟩, fun b hb => ?_⟩
  rcases Finset.mem_insert.mp hb with rfl | hb
  · exact ei
  · exact ea b hb

/-! ## The run -/

def QC : PUnit × MemSt nD τ sig (Elt F) → Prop := fun r => (∀ c : Dev nD, Left m c r.2.mem) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (idq m) (uq m) (xq m) facts)
    (fun q _ => match q with | 0 => SparseCore.Cfg.VecSplit.of_plain (vecSplit (idq m) (uq m) (xq m)))
    m ρ main GG (FIN m) (u₀ (F := F)) (sep_elim_left.trans (hu₀ m)) (hmain m ρ) (fun d s' => Left m d s'.mem.mem) (hfin m) (QC m) (fun _ h hz => ⟨h, hz⟩)

end Cert.Proof

end
-- ==== Proof.Frames.lean ====
/-
  The frames: each program terminates without fault, its arguments unchanged and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Proof

open Idealize.ShloMosaic Idealize.SL.Sem

variable {F : FTy → Type} [FloatOps F] [∀ e, Nonempty (Elt F e)]

/-- The arguments that the kernel's run leaves as they were. -/
theorem Left.args {m : (ℓ : Loc Cert.KernelIdeal.nD Cert.KernelIdeal.τ Cert.KernelIdeal.sig) → Buf (Elt F) ℓ} {c : Dev Cert.KernelIdeal.nD}
    {mem : (ℓ : Loc Cert.KernelIdeal.nD Cert.KernelIdeal.τ Cert.KernelIdeal.sig) → Buf (Elt F) ℓ} (h : Left m c mem) (b : Ref Cert.KernelIdeal.sig .tc) (hb : b ∈ insert Cert.KernelIdeal.main_arg11 argset) :
    mem ((c.tc : Thread Cert.KernelIdeal.nD Cert.KernelIdeal.τ).loc b) = m ((c.tc : Thread Cert.KernelIdeal.nD Cert.KernelIdeal.τ).loc b) := h.2 b hb

theorem bodies_eq : (Cert.Kernel.defs₀ (F := F)) = Cert.KernelIdeal.defs₀ (F := F) := by
  funext p ℓ a
  unfold Cert.Kernel.defs₀ Cert.KernelIdeal.defs₀
  match p, ℓ, a with
  | .tc, 0, _ => rfl
  | .tc, 1, _ => rfl
  | .scScalar _, 0, _ => rfl
  | .scScalar _, 1, _ => rfl
  | .scVector _ _, 0, _ => rfl
  | .scVector _ _, 1, _ => rfl

/-- The two texts declare the same bodies. -/
theorem defs_eq : (Cert.Kernel.defs (F := F)) = Cert.KernelIdeal.defs (F := F) := by
  unfold Cert.Kernel.defs Cert.KernelIdeal.defs
  rw [bodies_eq]
  rfl

/-- The kernel's frame. -/
theorem frame_kernel : Cert.quiescent_Kernel (hKernel := Cert.Kernel.Gen.facts) := fun m ρ _ => defs_eq (F := Bits) ▸
  (θ_run Cert.KernelIdeal.defs _ _).mono (fun _ h => ⟨fun c => ⟨(h.1 c).args _ (by decide), (h.1 c).args _ (by decide), (h.1 c).args _ (by decide),
    (h.1 c).args _ (by decide), (h.1 c).args _ (by decide), (h.1 c).args _ (by decide), (h.1 c).args _ (by decide), (h.1 c).args _ (by decide),
    (h.1 c).args _ (by decide), (h.1 c).args _ (by decide), (h.1 c).args _ (by decide), (h.1 c).args _ (by decide), (h.1 c).args _ (by decide)⟩, h.2⟩)
    (run_main (F := Bits) m ρ)

/-- The ideal kernel's frame. -/
theorem frame_ideal : Cert.quiescent_KernelIdeal (hKernelIdeal := Cert.KernelIdeal.Gen.facts) := fun m ρ _ =>
  (θ_run Cert.KernelIdeal.defs _ _).mono (fun _ h => ⟨fun c => ⟨(h.1 c).args _ (by decide), (h.1 c).args _ (by decide), (h.1 c).args _ (by decide),
    (h.1 c).args _ (by decide), (h.1 c).args _ (by decide), (h.1 c).args _ (by decide), (h.1 c).args _ (by decide), (h.1 c).args _ (by decide),
    (h.1 c).args _ (by decide), (h.1 c).args _ (by decide), (h.1 c).args _ (by decide), (h.1 c).args _ (by decide), (h.1 c).args _ (by decide)⟩, h.2⟩)
    (run_main (F := Ideal) m ρ)

/-- The reference's frame: it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

end Cert.Proof

end
-- ==== Proof.Sums.lean ====
/-
  The kernel's result over the extended reals: for ids in order whose segments are short, and for real scores, each
  element is the exponential of its score over the sum of the exponentials of its segment.
-/
module

public import Idealize.ShloMosaic.PureOps.Ideal
public import Idealize.ShloMosaic.Lib.IdealHost
public import proofs.«01_k».proof.Proof.Model

@[expose] public section

noncomputable section

namespace Cert.Proof

open Cert.KernelIdeal Cert.KernelIdeal.Gen
open Idealize.ShloMosaic
open Finset

/-! ## One masked adding store, read at a cell -/

/-- A fold that adds to one element per step, read at an element: what was there and the sum of what hit it. -/
theorem foldl_hits {κ β : Type} (P : κ → Prop) [DecidablePred P] (at' : κ → β) (hit : κ → β → Prop) [∀ k j, Decidable (hit k j)]
    (hh : ∀ k j, hit k j → at' k = j) (v : κ → EReal) (j : β) : ∀ (l : List κ) (f : β → EReal),
    (l.foldl (fun g k => if P k then (fun j => if hit k j then g (at' k) + v k else g j) else g) f) j
      = f j + (l.map fun k => if P k ∧ hit k j then v k else 0).sum
  | [], f => by simp
  | k :: l, f => by
    rw [List.foldl_cons, foldl_hits P at' hit hh v j l, List.map_cons, List.sum_cons, ← add_assoc]
    congr 1
    by_cases hp : P k
    · by_cases hj : hit k j
      · simp [hp, hj, hh k j hj]
      · simp [hp, hj]
    · simp [hp]

/-- What position `n` of the window brings to cell `j`. -/
def brings (lo hi : BitVec 32) (wid : ℕ → BitVec 32) (X : ℕ → EReal) (j n : ℕ) : EReal :=
  if isIn lo hi (wid n) = 1 ∧ (cell lo (wid n)).toNat = j then Ideal.exp (X n) else 0

theorem zStep_apply (lo hi : BitVec 32) (wid : ℕ → BitVec 32) (X : ℕ → EReal) (t : ℕ) (z : S2048.Idx → EReal) (j : S2048.Idx) :
    zStep (F := Ideal) lo hi wid X t z j = z j + ∑ x : Fin 16, brings lo hi wid X (j 0).val (814 * x.val + t) := by
  have hh : ∀ (k : Fin 16) (j : S2048.Idx),
      (∀ a, (j a).val = ((idxAt ![tripCell lo wid t] (tripCell_inb lo wid t) (Shape.ofLane (d := ![16]) k)) a).val) →
        idxAt ![tripCell lo wid t] (tripCell_inb lo wid t) (Shape.ofLane (d := ![16]) k) = j :=
    fun k j h => funext fun a => Fin.ext (h a).symm
  have h := foldl_hits (κ := Fin 16) (β := S2048.Idx)
    (fun k => tripMask lo hi wid t (Shape.ofLane (d := ![16]) k) = 1)
    (fun k => idxAt ![tripCell lo wid t] (tripCell_inb lo wid t) (Shape.ofLane (d := ![16]) k))
    (fun k j => ∀ a, (j a).val = ((idxAt ![tripCell lo wid t] (tripCell_inb lo wid t) (Shape.ofLane (d := ![16]) k)) a).val)
    hh (fun k => exp (F := Ideal) (tripX (F := Ideal) X t) (Shape.ofLane (d := ![16]) k)) j (List.finRange 16) z
  unfold zStep storeIdx
  simp only [if_true, Elt.idxAdd_f32, Ideal.idxAddf_def]
  refine Eq.trans h ?_
  rw [← List.ofFn_eq_map, List.sum_ofFn]
  congr 1
  refine Finset.sum_congr rfl fun k _ => ?_
  unfold brings
  refine if_congr (and_congr Iff.rfl ⟨fun h => (h 0).symm, fun h a => ?_⟩) rfl rfl
  match a with | 0 => exact h.symm

theorem sum_blocks (w : ℕ → EReal) (m : ℕ) : ∀ b, ∑ n ∈ range (m * b), w n = ∑ x ∈ range b, ∑ t ∈ range m, w (m * x + t)
  | 0 => by simp
  | b + 1 => by rw [Nat.mul_succ, Finset.sum_range_add, Finset.sum_range_succ, sum_blocks w m b]

theorem zIter_apply (lo hi : BitVec 32) (wid : ℕ → BitVec 32) (X : ℕ → EReal) (j : S2048.Idx) : ∀ k,
    zIter (F := Ideal) lo hi wid X k j = ∑ t ∈ range k, ∑ x : Fin 16, brings lo hi wid X (j 0).val (814 * x.val + t)
  | 0 => by show Ideal.ofBits .f32 0x00000000#32 = _; rw [Ideal.ofBits_zero_f32]; simp
  | k + 1 => by rw [Finset.sum_range_succ, ← zIter_apply lo hi wid X j k]; exact zStep_apply ..

theorem zIter_all (lo hi : BitVec 32) (wid : ℕ → BitVec 32) (X : ℕ → EReal) (j : S2048.Idx) :
    zIter (F := Ideal) lo hi wid X 814 j = ∑ n ∈ range 13024, brings lo hi wid X (j 0).val n := by
  rw [zIter_apply, Finset.sum_comm, show (13024 : ℕ) = 814 * 16 from rfl, sum_blocks, Finset.sum_range]

/-! ## The words of a chunk -/

theorem cell_of {lo w : BitVec 32} (hlo : lo.toNat ≤ w.toNat) (hw : w.toNat < 50000) (hn : w.toNat < lo.toNat + 2048) :
    (cell lo w).toNat = w.toNat - lo.toNat := by
  have h1 : (w - lo).toNat = w.toNat - lo.toNat := by rw [BitVec.toNat_sub]; omega
  have h2 : (w - lo).toInt = (w.toNat : ℤ) - lo.toNat := by rw [BitVec.toInt_eq_toNat_cond, h1]; split <;> omega
  have h3 : (2047#32 : BitVec 32).toInt = 2047 := by decide
  have h4 : (0#32 : BitVec 32).toInt = 0 := by decide
  have h5 : (2047#32 : BitVec 32).toNat = 2047 := by decide
  have h6 : (0#32 : BitVec 32).toNat = 0 := by decide
  unfold cell IntOp.minsi IntOp.maxsi
  split_ifs <;> simp only [BitVec.slt, BitVec.sle, decide_eq_true_eq, not_lt, not_le] at * <;> omega

theorem isIn_iff {lo hi w : BitVec 32} (hl : lo.toNat < 50000) (hh : hi.toNat < 50000) (hw : w.toNat < 50000) :
    isIn lo hi w = 1 ↔ lo.toNat ≤ w.toNat ∧ w.toNat ≤ hi.toNat := by
  have e1 : lo.toInt = lo.toNat := by rw [BitVec.toInt_eq_toNat_cond]; split <;> omega
  have e2 : hi.toInt = hi.toNat := by rw [BitVec.toInt_eq_toNat_cond]; split <;> omega
  have e3 : w.toInt = w.toNat := by rw [BitVec.toInt_eq_toNat_cond]; split <;> omega
  have a : ∀ p q : Bool, IntOp.andi (BitVec.ofBool p) (BitVec.ofBool q) = 1 ↔ p = true ∧ q = true := by decide
  unfold isIn IntOp.cmpi
  refine (a _ _).trans ?_
  simp only [BitVec.sle, decide_eq_true_eq, e1, e2, e3]
  omega

/-- The ids the kernel is right for: in range, in order, no segment of more than 256 elements, no chunk over more than
    2048 ids. -/
structure IdsOk (ids : ℕ → BitVec 32) : Prop where
  lt : ∀ n, n < 800000 → (ids n).toNat < 50000
  mono : ∀ a b, a ≤ b → b < 800000 → (ids a).toNat ≤ (ids b).toNat
  short : ∀ n, n + 256 < 800000 → (ids n).toNat < (ids (n + 256)).toNat
  near : ∀ n, n + 12503 < 800000 → (ids (n + 12503)).toNat < (ids n).toNat + 2048

namespace IdsOk

variable {ids : ℕ → BitVec 32}

theorem close (h : IdsOk ids) {a b : ℕ} (hb : b < 800000) (e : ids a = ids b) : b ≤ a + 255 := by
  by_contra hc
  have h1 := h.short a (by omega)
  have h2 := h.mono (a + 256) b (by omega) hb
  rw [e] at h1
  omega

theorem span (h : IdsOk ids) {a b : ℕ} (hab : a ≤ b) (hb : b < 800000) (hd : b ≤ a + 12503) :
    (ids b).toNat < (ids a).toNat + 2048 := by
  by_cases hc : 12503 ≤ b
  · have h1 := h.near (b - 12503) (by omega)
    rw [Nat.sub_add_cancel hc] at h1
    have h2 := h.mono (b - 12503) a (by omega) (by omega)
    omega
  · have h1 := h.near 0 (by omega)
    have h2 := h.mono b 12503 (by omega) (by omega)
    have h3 := h.mono 0 a (by omega) (by omega)
    simp only [Nat.zero_add] at h1
    omega

end IdsOk

/-! ## A chunk -/

/-- The sum of the exponentials of a segment. -/
def segSum (ids : ℕ → BitVec 32) (x : ℕ → ℝ) (w : BitVec 32) : ℝ := ∑ k ∈ range 800000, if ids k = w then Real.exp (x k) else 0

theorem segSum_pos (ids : ℕ → BitVec 32) (x : ℕ → ℝ) {n : ℕ} (hn : n < 800000) : 0 < segSum ids x (ids n) := by
  refine Finset.sum_pos' (fun k _ => ?_) ⟨n, Finset.mem_range.2 hn, ?_⟩
  · split
    · exact (Real.exp_pos _).le
    · exact le_rfl
  · rw [if_pos rfl]; exact Real.exp_pos _

theorem coe_sum_range (f : ℕ → ℝ) (n : ℕ) : ∑ k ∈ range n, (f k : EReal) = ((∑ k ∈ range n, f k : ℝ) : EReal) := by
  induction n with
  | zero => simp
  | succ n ih => rw [Finset.sum_range_succ, Finset.sum_range_succ, ih, EReal.coe_add]

/-- A sum over a window is the sum over all when nothing is outside. -/
theorem sum_window (f : ℕ → ℝ) (a m n : ℕ) (h : a + m ≤ n) (h0 : ∀ k, k < n → (k < a ∨ a + m ≤ k) → f k = 0) :
    ∑ k ∈ range m, f (a + k) = ∑ k ∈ range n, f k := by
  obtain ⟨r, rfl⟩ := Nat.exists_eq_add_of_le h
  rw [Finset.sum_range_add, Finset.sum_range_add, Finset.sum_eq_zero (s := range a), Finset.sum_eq_zero (s := range r)]
  · simp
  · intro k hk; exact h0 _ (by have := Finset.mem_range.1 hk; omega) (Or.inr (by omega))
  · intro k hk; exact h0 _ (by have := Finset.mem_range.1 hk; omega) (Or.inl (Finset.mem_range.1 hk))

theorem chunk_value {ids : ℕ → BitVec 32} (h : IdsOk ids) (x : ℕ → ℝ) {base c2 n : ℕ} (hc : c2 ≤ 12504) (hb : base + c2 ≤ 800000)
    (h1 : base ≤ n) (h2 : n < base + c2) :
    chunk (F := Ideal) ids (fun k => (x k : EReal)) base c2 n = ((Real.exp (x n) / segSum ids x (ids n) : ℝ) : EReal) := by
  have hws : winStart base ≤ base ∧ winStart base + 13024 ≤ 800000 ∧ winStart base ≤ n := by unfold winStart; omega
  have hn : winStart base + (n - winStart base) = n := by omega
  have hlo := h.mono base n h1 (by omega)
  have hhi := h.mono n (base + c2 - 1) (by omega) (by omega)
  have hsp := h.span (a := base) (b := base + c2 - 1) (by omega) (by omega) (by omega)
  have hz : zIter (F := Ideal) (ids base) (ids (base + c2 - 1)) (fun j => ids (winStart base + j))
      (fun j => ((x (winStart base + j) : ℝ) : EReal)) 814 (cellIx (ids base) (ids n)) = (segSum ids x (ids n) : EReal) := by
    rw [zIter_all]
    have e : ∀ k ∈ range 13024, brings (ids base) (ids (base + c2 - 1)) (fun j => ids (winStart base + j))
        (fun j => ((x (winStart base + j) : ℝ) : EReal)) ((cellIx (ids base) (ids n)) 0).val k
        = (((fun q => if ids q = ids n then Real.exp (x q) else 0) (winStart base + k) : ℝ) : EReal) := by
      intro k hk
      have hk := Finset.mem_range.1 hk
      have hw := h.lt (winStart base + k) (by omega)
      have hcn : ((cellIx (ids base) (ids n)) 0).val = (ids n).toNat - (ids base).toNat :=
        cell_of hlo (h.lt n (by omega)) (by omega)
      have hiff : (isIn (ids base) (ids (base + c2 - 1)) (ids (winStart base + k)) = 1
          ∧ (cell (ids base) (ids (winStart base + k))).toNat = ((cellIx (ids base) (ids n)) 0).val)
          ↔ ids (winStart base + k) = ids n := by
        rw [isIn_iff (h.lt _ (by omega)) (h.lt _ (by omega)) hw, hcn]
        constructor
        · rintro ⟨⟨g1, g2⟩, g3⟩
          rw [cell_of g1 hw (by omega)] at g3
          exact BitVec.eq_of_toNat_eq (by omega)
        · intro g
          rw [g, cell_of hlo (h.lt n (by omega)) (by omega)]
          exact ⟨⟨hlo, hhi⟩, rfl⟩
      unfold brings
      by_cases hq : ids (winStart base + k) = ids n
      · rw [if_pos (hiff.2 hq), Ideal.exp_coe]; simp only [if_pos hq]
      · rw [if_neg fun g => hq (hiff.1 g)]; simp only [if_neg hq]; rfl
    rw [Finset.sum_congr rfl e, coe_sum_range (fun k => (fun q => if ids q = ids n then Real.exp (x q) else 0) (winStart base + k))]
    rw [sum_window (fun q => if ids q = ids n then Real.exp (x q) else 0) (winStart base) 13024 800000 hws.2.1]
    · rfl
    · intro k hk ho
      refine if_neg fun e => ?_
      have g1 := h.close hk e.symm
      have g2 := h.close (by omega) e
      unfold winStart at ho
      omega
  have hp := segSum_pos ids x (n := n) (by omega)
  unfold chunk fin zInv
  simp only [hn]
  rw [hz]
  show Ideal.exp (x n : EReal) * Ideal.div (Ideal.ofBits .f32 0x3F800000#32) (segSum ids x (ids n) : EReal) = _
  rw [Ideal.ofBits_one_f32, Ideal.div_coe hp.ne', Ideal.exp_coe, one_mul, ← EReal.coe_mul, mul_one_div]

/-- The kernel's result. -/
theorem outAt_value {ids : ℕ → BitVec 32} (h : IdsOk ids) (x : ℕ → ℝ) {n : ℕ} (hn : n < 800000) :
    outAt (F := Ideal) ids (fun k => (x k : EReal)) n = ((Real.exp (x n) / segSum ids x (ids n) : ℝ) : EReal) := by
  unfold outAt
  split
  · exact chunk_value h x (by omega) (by omega) (by omega) (by omega)
  · exact chunk_value h x (by omega) (by omega) (by omega) (by omega)

end Cert.Proof

end
-- ==== Proof.Pre.lean ====
/-
  What the precondition says of the arguments: every float is a real number, and the ids are in range, in order, with
  short segments.
-/
module

public import Idealize.ShloMosaic.Lib.ReduceAll
public import Idealize.ShloMosaic.Lib.StableHlo.Predicate
public import proofs.«01_k».proof.Proof.Gen.Pre_windows
public import proofs.«01_k».proof.Proof.Sums

@[expose] public section

noncomputable section

namespace Cert.Proof

open Idealize.ShloMosaic

/-- An extended real that is a real. -/
def IsR (x : EReal) : Prop := ∃ r : ℝ, x = (r : EReal)

theorem isR_of_abs {x : EReal} (h : max x (-x) < ⊤) : IsR x := by
  induction x using EReal.rec with
  | bot => simp at h
  | top => simp at h
  | coe r => exact ⟨r, rfl⟩

theorem inf_f32 : Ideal.ofBits .f32 0x7F800000#32 = ⊤ := by simp [Ideal.ofBits, Ideal.ieee]

theorem ninf_f32 : Ideal.ofBits .f32 0xFF800000#32 = ⊥ := by simp [Ideal.ofBits, Ideal.ieee]

theorem isR_of_cmp {x : EReal} (h : Ideal.cmp .olt (max x (-x)) (Ideal.ofBits .f32 0x7F800000#32) = 1#1) : IsR x := by
  rw [inf_f32] at h
  exact isR_of_abs (of_decide_eq_true ((StableHlo.Predicate.ofBool_eq_one_iff _).1 h))

instance : Subsingleton Cert.Pre_windows.S_.Idx := ⟨fun a b => funext fun i => i.elim0⟩

section
open Cert.Pre_windows

theorem and_split {x y : IVec S_ 1} {j : S_.Idx} (h : andi x y j = 1#1) : x j = 1#1 ∧ y j = 1#1 := IntOp.andi_eq_one.1 h

theorem real_all {s : Shape} {axes : List (Fin s.rank)} (x : FVec Ideal s .f32) (b : S_.BroadcastsInDim s (![] : Fin 0 → Fin s.rank))
    (init : IVec S_ 1) (hr : s.ReducesTo axes S_) (hu : 0 < S_.numel) (j : S_.Idx)
    (h : Host.reduce IntOp.andi (cmpf .olt (Host.absf x) (broadcastInDim s ![] b (constant (F := Ideal) S_ .f32 0x7F800000#32))) init hr hu j = 1#1)
    (i : s.Idx) : IsR (x i) :=
  isR_of_cmp (Host.reduce_andi_all _ _ _ _ _ h i)

/-- What the precondition gives. -/
structure Given (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32) (a7 : FVec Ideal S64x64 .f32)
    (a8 : FVec Ideal S64 .f32) (a9 : FVec Ideal S96x128 .f32) (a10 : FVec Ideal S4x32 .f32) (ids : IVec S800000 32) : Prop where
  r0 : ∀ i, IsR (a0 i)
  r1 : ∀ i, IsR (a1 i)
  r2 : ∀ i, IsR (a2 i)
  r3 : ∀ i, IsR (a3 i)
  r4 : ∀ i, IsR (a4 i)
  r5 : ∀ i, IsR (a5 i)
  r6 : ∀ i, IsR (a6 i)
  r7 : ∀ i, IsR (a7 i)
  r8 : ∀ i, IsR (a8 i)
  r9 : ∀ i, IsR (a9 i)
  r10 : ∀ i, IsR (a10 i)
  ok : IdsOk (rd ids)

/-! ## The ids -/

theorem ixN_of {n : ℕ} (hn : n < 800000) (j : S800000.Idx) (h : (j 0).val = n) : ixN n = j := by
  subst h; exact ixN_val j

theorem ids_ok (ids : IVec S800000 32)
    (h0 : ∀ i, IntOp.cmpi .sge (ids i) 0#32 = 1#1) (h1 : ∀ i, IntOp.cmpi .slt (ids i) 50000#32 = 1#1)
    (h2 : ∀ i : S799999.Idx, IntOp.cmpi .sge (rd ids (1 + (i 0).val)) (rd ids (0 + (i 0).val)) = 1#1)
    (h3 : ∀ i : S799744.Idx, IntOp.cmpi .sgt (rd ids (256 + (i 0).val)) (rd ids (0 + (i 0).val)) = 1#1)
    (h4 : ∀ i : S787497.Idx, IntOp.cmpi .slt (rd ids (12503 + (i 0).val) - rd ids (0 + (i 0).val)) 2048#32 = 1#1) :
    IdsOk (rd ids) := by
  have hlt : ∀ n, (rd ids n).toNat < 50000 := by
    intro n
    have g0 := (StableHlo.Predicate.ofBool_eq_one_iff _).1 (h0 (ixN n))
    have g1 := (StableHlo.Predicate.ofBool_eq_one_iff _).1 (h1 (ixN n))
    simp only [BitVec.sle, BitVec.slt, decide_eq_true_eq] at g0 g1
    have e0 : (0#32 : BitVec 32).toInt = 0 := by decide
    have e1 : (50000#32 : BitVec 32).toInt = 50000 := by decide
    show (ids (ixN n)).toNat < 50000
    rw [e0] at g0
    rw [e1] at g1
    have e2 := BitVec.toInt_eq_toNat_cond (x := ids (ixN n))
    split at e2 <;> omega
  have h31 : ∀ n, (rd ids n).toNat < 2 ^ 31 := fun n => lt_trans (hlt n) (by decide)
  have step : ∀ n, n + 1 < 800000 → (rd ids n).toNat ≤ (rd ids (n + 1)).toNat := by
    intro n hn
    have g := h2 (fun a => ⟨n, by match a with | 0 => show n < 799999; omega⟩)
    have g : IntOp.cmpi .sge (rd ids (1 + n)) (rd ids (0 + n)) = 1#1 := g
    rw [Nat.add_comm 1, Nat.zero_add] at g
    exact (StableHlo.Predicate.sge_iff_toNat (h31 _) (h31 _)).1 g
  have mono : ∀ a b, a ≤ b → b < 800000 → (rd ids a).toNat ≤ (rd ids b).toNat := by
    intro a b hab
    induction hab with
    | refl => intro _; exact le_rfl
    | step hab ih => intro hb; exact (ih (by omega)).trans (step _ hb)
  refine ⟨fun n _ => hlt n, mono, ?_, ?_⟩
  · intro n hn
    have g := h3 (fun a => ⟨n, by match a with | 0 => show n < 799744; omega⟩)
    have g : IntOp.cmpi .sgt (rd ids (256 + n)) (rd ids (0 + n)) = 1#1 := g
    rw [Nat.add_comm 256, Nat.zero_add] at g
    exact (StableHlo.Predicate.sgt_iff_toNat (h31 _) (h31 _)).1 g
  · intro n hn
    have g := h4 (fun a => ⟨n, by match a with | 0 => show n < 787497; omega⟩)
    have g : IntOp.cmpi .slt (rd ids (12503 + n) - rd ids (0 + n)) 2048#32 = 1#1 := g
    rw [Nat.add_comm 12503, Nat.zero_add] at g
    have hm := mono n (n + 12503) (by omega) hn
    have ha := hlt n
    have hb := hlt (n + 12503)
    have hs : (rd ids (n + 12503) - rd ids n).toNat = (rd ids (n + 12503)).toNat - (rd ids n).toNat := by
      rw [BitVec.toNat_sub]; omega
    have g := (StableHlo.Predicate.slt_iff_toNat (by rw [hs]; omega) (by decide)).1 g
    rw [hs] at g
    have e : (2048#32 : BitVec 32).toNat = 2048 := by decide
    omega

theorem slice_rd {m k : ℕ} (ids : IVec S800000 32) (h : S800000.Slices ![k] ⟨1, ![m]⟩) (hk : k + m ≤ 800000) (i : (⟨1, ![m]⟩ : Shape).Idx) :
    extractStridedSlice ⟨1, ![m]⟩ ![k] ids h i = rd ids (k + (i 0).val) := by
  have hi : (i 0).val < m := (i 0).isLt
  have hn : k + (i 0).val < 800000 := by omega
  exact congrArg ids (ixN_of hn _ rfl).symm

theorem given (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32) (a7 : FVec Ideal S64x64 .f32)
    (a8 : FVec Ideal S64 .f32) (a9 : FVec Ideal S96x128 .f32) (a10 : FVec Ideal S4x32 .f32) (ids : IVec S800000 32) (a12 : IVec S50000 32)
    (h : Cert.Pre_windows.fn (F := Ideal) a0 a1 a2 a3 a4 a5 a6 a7 a8 a9 a10 ids a12 = fun _ => 1#1) :
    Given a0 a1 a2 a3 a4 a5 a6 a7 a8 a9 a10 ids := by
  have e := congrFun h (Shape.Idx.first Cert.Pre_windows.Gen.h_S_)
  unfold fn fn_part1 fn_part2 fn_part3 fn_part4 at e
  dsimp only at e
  obtain ⟨e, q4⟩ := and_split e
  obtain ⟨e, q3⟩ := and_split e
  obtain ⟨e, q2⟩ := and_split e
  obtain ⟨e, q01⟩ := and_split e
  obtain ⟨q0, q1⟩ := and_split q01
  obtain ⟨e, p10⟩ := and_split e
  obtain ⟨e, p9⟩ := and_split e
  obtain ⟨e, p8⟩ := and_split e
  obtain ⟨e, p7⟩ := and_split e
  obtain ⟨e, p6⟩ := and_split e
  obtain ⟨e, p5⟩ := and_split e
  obtain ⟨e, p4⟩ := and_split e
  obtain ⟨e, p3⟩ := and_split e
  obtain ⟨e, p2⟩ := and_split e
  obtain ⟨p0, p1⟩ := and_split e
  refine ⟨real_all _ _ _ _ _ _ p0, real_all _ _ _ _ _ _ p1, real_all _ _ _ _ _ _ p2, real_all _ _ _ _ _ _ p3, real_all _ _ _ _ _ _ p4,
    real_all _ _ _ _ _ _ p5, real_all _ _ _ _ _ _ p6, real_all _ _ _ _ _ _ p7, real_all _ _ _ _ _ _ p8, real_all _ _ _ _ _ _ p9,
    real_all _ _ _ _ _ _ p10, ids_ok ids ?_ ?_ ?_ ?_ ?_⟩
  · intro i; exact Host.reduce_andi_all _ _ _ _ _ q0 i
  · intro i; exact Host.reduce_andi_all _ _ _ _ _ q1 i
  · intro i
    have g := Host.reduce_andi_all _ _ _ _ _ q2 i
    rw [← slice_rd (k := 1) ids Cert.Pre_windows.Gen.slices_S800000_S799999_1 (by decide) i,
      ← slice_rd (k := 0) ids Cert.Pre_windows.Gen.slices_S800000_S799999_0 (by decide) i]
    exact g
  · intro i
    have g := Host.reduce_andi_all _ _ _ _ _ q3 i
    rw [← slice_rd (k := 256) ids Cert.Pre_windows.Gen.slices_S800000_S799744_256 (by decide) i,
      ← slice_rd (k := 0) ids Cert.Pre_windows.Gen.slices_S800000_S799744_0 (by decide) i]
    exact g
  · intro i
    have g := Host.reduce_andi_all _ _ _ _ _ q4 i
    rw [← slice_rd (k := 12503) ids Cert.Pre_windows.Gen.slices_S800000_S787497_12503 (by decide) i,
      ← slice_rd (k := 0) ids Cert.Pre_windows.Gen.slices_S800000_S787497_0 (by decide) i]
    exact g

end

end Cert.Proof

end
-- ==== Proof.Parts.lean ====
/-
  The two parts of a score as real numbers: one from an element's own inputs, one from its segment's features.
-/
module

public import proofs.«01_k».proof.Proof.Pre

@[expose] public section

noncomputable section

namespace Cert.Proof

open Idealize.ShloMosaic

/-- A finite sum of reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sqrt32 : Ideal.sqrt (Ideal.ofBits .f32 0x42000000#32) = ((Real.sqrt 32 : ℝ) : EReal) := by
  have e : Ideal.ofBits .f32 0x42000000#32 = ((32 : ℝ) : EReal) := by
    simp [Ideal.ofBits, Ideal.ieee, -EReal.coe_mul]; norm_num
  rw [e, Ideal.sqrt_coe, if_neg (by norm_num)]

theorem sqrt32_ne : Real.sqrt 32 ≠ 0 := (Real.sqrt_pos.2 (by norm_num)).ne'

/-- Row `k` of the keys' weights, of the rows for the inputs. -/
def rowX (k : Fin 32) : Fin 96 := ⟨k.val, by omega⟩

/-- Row `k` of the keys' weights, of the rows for the segment features. -/
def rowG (k : Fin 64) : Fin 96 := ⟨32 + k.val, by omega⟩

/-- Column `d` of head `h`. -/
def colH (h : Fin 4) (d : Fin 32) : Fin 128 := ⟨h.val * 32 + d.val, by omega⟩

/-- The part of a score from an element's own inputs. -/
def partA (x : Fin 800000 → Fin 32 → ℝ) (w : Fin 96 → Fin 128 → ℝ) (q : Fin 4 → Fin 32 → ℝ) (h : Fin 4) (n : Fin 800000) : ℝ :=
  (∑ d : Fin 32, (∑ k : Fin 32, x n k * w (rowX k) (colH h d)) * q h d) * (1 / Real.sqrt 32)

/-- The part of a score from the features of the element's segment. -/
def partB (g : Fin 64 → ℝ) (w : Fin 96 → Fin 128 → ℝ) (q : Fin 4 → Fin 32 → ℝ) (h : Fin 4) : ℝ :=
  (∑ d : Fin 32, (∑ k : Fin 64, g k * w (rowG k) (colH h d)) * q h d) * (1 / Real.sqrt 32)

/-- The inputs' part with the queries folded into the weights first. -/
theorem partA_fold (x : Fin 800000 → Fin 32 → ℝ) (w : Fin 96 → Fin 128 → ℝ) (q : Fin 4 → Fin 32 → ℝ) (h : Fin 4) (n : Fin 800000) :
    ∑ k : Fin 32, ((∑ d : Fin 32, w (rowX k) (colH h d) * q h d) * (1 / Real.sqrt 32)) * x n k = partA x w q h n := by
  unfold partA
  simp only [Finset.sum_mul]
  rw [Finset.sum_comm]
  refine Finset.sum_congr rfl fun d _ => Finset.sum_congr rfl fun k _ => ?_
  ring

/-- A score is the two parts together. -/
theorem parts_add (x : Fin 800000 → Fin 32 → ℝ) (g : Fin 64 → ℝ) (w : Fin 96 → Fin 128 → ℝ) (q : Fin 4 → Fin 32 → ℝ) (h : Fin 4) (n : Fin 800000) :
    (∑ d : Fin 32, (∑ k : Fin 32, x n k * w (rowX k) (colH h d) + ∑ k : Fin 64, g k * w (rowG k) (colH h d)) * q h d) * (1 / Real.sqrt 32)
      = partA x w q h n + partB g w q h := by
  unfold partA partB
  rw [← add_mul, ← Finset.sum_add_distrib]
  simp only [add_mul]

end Cert.Proof

end
-- ==== Proof.KScore.lean ====
/-
  The kernel's scores over the extended reals: the queries folded with the keys' weights, times the transposed inputs.
-/
module

public import Idealize.ShloMosaic.Lib.Pointwise.Tactic
public import Idealize.ShloMosaic.Lib.Pointwise
public import Idealize.ShloMosaic.Lib.Pointwise.Contract
public import Idealize.ShloMosaic.Lib.Pointwise.Reshape
public import proofs.«01_k».proof.Proof.Host
public import proofs.«01_k».proof.Proof.Parts

@[expose] public section

noncomputable section

namespace Cert.Proof

open Cert.KernelIdeal Cert.KernelIdeal.Gen
open Idealize.ShloMosaic

theorem pay1_apply (u : Vec Ideal S4x32 .f32) (x : Vec Ideal S32x65536 .f32) (h : Fin 4) (j : Fin 65536) :
    k0_pay1 (F := Ideal) u x (ix2 h j) = ∑ k : Fin 32, u (ix2 h k) * x (ix2 k j) := by
  pointwise [k0_pay1]

theorem pay2_apply (u : Vec Ideal S4x32 .f32) (x : Vec Ideal S32x65536 .f32) (j : Fin 65536) :
    k0_pay2 (F := Ideal) u x (ix1 j) = ∑ k : Fin 32, u (ix2 (0 : Fin 4) k) * x (ix2 k j) := by
  pointwise [k0_pay2, k0_pay1]

theorem pay3_apply (u : Vec Ideal S4x32 .f32) (x : Vec Ideal S32x65536 .f32) (j : Fin 65536) :
    k0_pay3 (F := Ideal) u x (ix1 j) = ∑ k : Fin 32, u (ix2 (1 : Fin 4) k) * x (ix2 k j) := by
  pointwise [k0_pay3, k0_pay1]

theorem pay4_apply (u : Vec Ideal S4x32 .f32) (x : Vec Ideal S32x65536 .f32) (j : Fin 65536) :
    k0_pay4 (F := Ideal) u x (ix1 j) = ∑ k : Fin 32, u (ix2 (2 : Fin 4) k) * x (ix2 k j) := by
  pointwise [k0_pay4, k0_pay1]

theorem pay5_apply (u : Vec Ideal S4x32 .f32) (x : Vec Ideal S32x65536 .f32) (j : Fin 65536) :
    k0_pay5 (F := Ideal) u x (ix1 j) = ∑ k : Fin 32, u (ix2 (3 : Fin 4) k) * x (ix2 k j) := by
  pointwise [k0_pay5, k0_pay1]

/-- The queries folded with the keys' weights, of the two arguments. -/
def foldU (wk : FVec Ideal S96x128 .f32) (q : FVec Ideal S4x32 .f32) : FVec Ideal S4x32 .f32 :=
  Host.divf (Host.dotGeneral dot_S32x4x32_S4x32_S4x32_2_1_0_n_1_0 none
    (shapeCast S32x4x32 (extractStridedSlice S32x128 ![0, 0] wk slices_S96x128_S32x128_0_0) shapeCasts_S32x128_S32x4x32) q)
    (broadcastInDim S4x32 ![] bcast_S_S4x32 (Host.sqrt (constant S_ .f32 0x42000000#32)))

theorem foldU_apply (wk : FVec Ideal S96x128 .f32) (q : FVec Ideal S4x32 .f32) (h : Fin 4) (k : Fin 32) :
    foldU wk q (ix2 h k) = Ideal.div (∑ d : Fin 32, wk (ix2 (rowX k) (colH h d)) * q (ix2 h d)) (Ideal.sqrt (Ideal.ofBits .f32 0x42000000#32)) := by
  pointwise [foldU]
  rfl

theorem foldU_real (wk : FVec Ideal S96x128 .f32) (q : FVec Ideal S4x32 .f32) (w' : Fin 96 → Fin 128 → ℝ) (q' : Fin 4 → Fin 32 → ℝ)
    (hw : ∀ i j, wk (ix2 i j) = (w' i j : EReal)) (hq : ∀ h d, q (ix2 h d) = (q' h d : EReal)) (h : Fin 4) (k : Fin 32) :
    foldU wk q (ix2 h k) = (((∑ d : Fin 32, w' (rowX k) (colH h d) * q' h d) * (1 / Real.sqrt 32) : ℝ) : EReal) := by
  rw [foldU_apply, sqrt32, Ideal.div_coe sqrt32_ne]
  simp only [hw, hq, ← EReal.coe_mul, coe_sum]

/-- A head's payload that is the head's row of the weights against a column. -/
def IsHead (h : Fin 4) (pay : Vec Ideal S4x32 .f32 → Vec Ideal S32x65536 .f32 → Vec Ideal S65536 .f32) : Prop :=
  ∀ u x j, pay u x (ix1 j) = ∑ k : Fin 32, u (ix2 h k) * x (ix2 k j)

/-- The kernel's scores. -/
theorem scored_real (h : Fin 4) (pay : Vec Ideal S4x32 .f32 → Vec Ideal S32x65536 .f32 → Vec Ideal S65536 .f32) (hp : IsHead h pay)
    (u : Vec Ideal S4x32 .f32) (xT : Vec Ideal S32x800000 .f32) (s : S800000.Idx → EReal) (hs : Scored pay u xT s)
    (x' : Fin 800000 → Fin 32 → ℝ) (w' : Fin 96 → Fin 128 → ℝ) (q' : Fin 4 → Fin 32 → ℝ)
    (hu : ∀ k, u (ix2 h k) = (((∑ d : Fin 32, w' (rowX k) (colH h d) * q' h d) * (1 / Real.sqrt 32) : ℝ) : EReal))
    (hx : ∀ k n, xT (ix2 k n) = (x' n k : EReal)) (n : S800000.Idx) : s n = (partA x' w' q' h (n 0) : EReal) := by
  obtain ⟨x, j, hj, e⟩ := hs n
  rw [e, hp u x j]
  refine Eq.trans ?_ (congrArg (fun r : ℝ => (r : EReal)) (partA_fold x' w' q' h (n 0)))
  rw [← coe_sum]
  refine Finset.sum_congr rfl fun k _ => ?_
  rw [hu, (hj k).trans (hx k (n 0)), ← EReal.coe_mul]

/-- A result of the kernel. -/
theorem result_real (h : Fin 4) (pay : Vec Ideal S4x32 .f32 → Vec Ideal S32x65536 .f32 → Vec Ideal S65536 .f32) (hp : IsHead h pay)
    (u : Vec Ideal S4x32 .f32) (xT : Vec Ideal S32x800000 .f32) (ids : S800000.Idx → BitVec 32) (r : S800000.Idx → EReal) (hr : Result pay u xT ids r)
    (ok : IdsOk (rd ids))
    (x' : Fin 800000 → Fin 32 → ℝ) (w' : Fin 96 → Fin 128 → ℝ) (q' : Fin 4 → Fin 32 → ℝ)
    (hu : ∀ k, u (ix2 h k) = (((∑ d : Fin 32, w' (rowX k) (colH h d) * q' h d) * (1 / Real.sqrt 32) : ℝ) : EReal))
    (hx : ∀ k n, xT (ix2 k n) = (x' n k : EReal)) (n : S800000.Idx) :
    r n = ((Real.exp (partA x' w' q' h (n 0)) / segSum (rd ids) (fun k => partA x' w' q' h (ixN k 0)) (ids n) : ℝ) : EReal) := by
  obtain ⟨s, hs, e⟩ := hr n
  have es : rd s = fun k => ((partA x' w' q' h (ixN k 0) : ℝ) : EReal) := funext fun k => scored_real h pay hp u xT s hs x' w' q' hu hx (ixN k)
  rw [e, outArr, es, outAt_value ok _ (n 0).isLt, rd_val, ixN_val]

/-! ## What the kernels are given -/

section
variable (m : (ℓ : Loc nD τ sig) → Buf (Elt Ideal) ℓ) (d : Dev nD)

theorem uq_eq : uq m d = foldU (m ((d.tc : Thread nD τ).loc main_arg9)) (m ((d.tc : Thread nD τ).loc main_arg10)) := by
  have e1 : V1 m d (Proc.devRef .tc main_v0) = extractStridedSlice S32x128 ![0, 0] (m ((d.tc : Thread nD τ).loc main_arg9)) slices_S96x128_S32x128_0_0 :=
    StableHlo.unary_result _ _ _ _ _ _
  have e2 : V2 m d (Proc.devRef .tc main_v1) = shapeCast S32x4x32 (V1 m d (Proc.devRef .tc main_v0)) shapeCasts_S32x128_S32x4x32 :=
    StableHlo.reshape_result _ _ _ _ _ _ _
  have a2 : V2 m d (Proc.devRef .tc main_arg10) = m ((d.tc : Thread nD τ).loc main_arg10) :=
    (show V2 m d (Proc.devRef .tc main_arg10) = V1 m d (Proc.devRef .tc main_arg10) by
      unfold V2; exact StableHlo.reshape_result_ne _ _ _ _ _ _ _ (by decide)).trans
    (show V1 m d (Proc.devRef .tc main_arg10) = V0 m d (Proc.devRef .tc main_arg10) by
      unfold V1; exact StableHlo.unary_result_ne _ _ _ _ _ _ (by decide))
  have e3 : (V3 m d (Proc.devRef .tc main_v2) : FVec Ideal S4x32 .f32) = Host.dotGeneral (F := Ideal) dot_S32x4x32_S4x32_S4x32_2_1_0_n_1_0 none
      (V2 m d (Proc.devRef .tc main_v1) : FVec Ideal S32x4x32 .f32) (V2 m d (Proc.devRef .tc main_arg10) : FVec Ideal S4x32 .f32) := StableHlo.binary_result _ _ _ _ _ _ _ _
  have e4 : (V4 m d (Proc.devRef .tc main_cst) : FVec Ideal S_ .f32) = constant (F := Ideal) S_ .f32 0x42000000#32 := StableHlo.nullary_result _ _ _ _
  have e5 : (V5 m d (Proc.devRef .tc main_v3) : FVec Ideal S_ .f32) = Host.sqrt (F := Ideal) (V4 m d (Proc.devRef .tc main_cst) : FVec Ideal S_ .f32) := StableHlo.unary_result _ _ _ _ _ _
  have e6 : V6 m d (Proc.devRef .tc main_v4) = broadcastInDim S4x32 ![] bcast_S_S4x32 (V5 m d (Proc.devRef .tc main_v3)) := StableHlo.unary_result _ _ _ _ _ _
  have k6 : V6 m d (Proc.devRef .tc main_v2) = V3 m d (Proc.devRef .tc main_v2) :=
    (show V6 m d (Proc.devRef .tc main_v2) = V5 m d (Proc.devRef .tc main_v2) by
      unfold V6; exact StableHlo.unary_result_ne _ _ _ _ _ _ (by decide)).trans
    ((show V5 m d (Proc.devRef .tc main_v2) = V4 m d (Proc.devRef .tc main_v2) by
      unfold V5; exact StableHlo.unary_result_ne _ _ _ _ _ _ (by decide)).trans
    (show V4 m d (Proc.devRef .tc main_v2) = V3 m d (Proc.devRef .tc main_v2) by
      unfold V4; exact StableHlo.nullary_result_ne _ _ _ _ (by decide)))
  have e7 : (V7 m d (Proc.devRef .tc main_v5) : FVec Ideal S4x32 .f32) = Host.divf (F := Ideal) (V6 m d (Proc.devRef .tc main_v2) : FVec Ideal S4x32 .f32)
      (V6 m d (Proc.devRef .tc main_v4) : FVec Ideal S4x32 .f32) :=
    StableHlo.binary_result _ _ _ _ _ _ _ _
  have e8 : V8 m d (Proc.devRef .tc main_v5) = V7 m d (Proc.devRef .tc main_v5) := by
    unfold V8; exact StableHlo.unary_result_ne _ _ _ _ _ _ (by decide)
  show V8 m d (Proc.devRef .tc main_v5) = _
  rw [e8, e7, k6, e3, e2, a2, e1, e6, e5, e4]
  rfl

theorem xq_apply (k : Fin 32) (n : Fin 800000) : xq m d (ix2 k n) = m ((d.tc : Thread nD τ).loc main_arg0) (ix2 n k) := by
  have e8 : V8 m d (Proc.devRef .tc main_v6) = transpose S32x800000 [1, 0] (V7 m d (Proc.devRef .tc main_arg0)) transposes_S800000x32_S32x800000_1_0 :=
    StableHlo.unary_result _ _ _ _ _ _
  have e7 : V7 m d (Proc.devRef .tc main_arg0) = m ((d.tc : Thread nD τ).loc main_arg0) :=
    (show V8 m d (Proc.devRef .tc main_arg0) = V7 m d (Proc.devRef .tc main_arg0) by
      unfold V8; exact StableHlo.unary_result_ne _ _ _ _ _ _ (by decide)).symm.trans (V8_of_not_mem m d main_arg0 (by decide))
  show V8 m d (Proc.devRef .tc main_v6) (ix2 k n) = _
  rw [e8, e7]
  generalize m ((d.tc : Thread nD τ).loc main_arg0) = a
  have g : ∀ a : FVec Ideal S800000x32 .f32, transpose S32x800000 [1, 0] a transposes_S800000x32_S32x800000_1_0 (ix2 k n) = a (ix2 n k) := by
    intro a
    pointwise
  exact g a

end

end Cert.Proof

end
-- ==== Proof.RScore.lean ====
/-
  The reference's scores over the extended reals: a part from an element's own inputs and a part from its segment.
-/
module

public import Idealize.ShloMosaic.Lib.Pointwise
public import Idealize.ShloMosaic.Lib.Pointwise.Tactic
public import Idealize.ShloMosaic.Lib.Pointwise.Contract
public import Idealize.ShloMosaic.Lib.Pointwise.Reshape
public import proofs.«01_k».proof.Proof.Gen.ReferenceIdeal
public import proofs.«01_k».proof.Proof.Gen.ReferenceIdeal.Run
public import proofs.«01_k».proof.Proof.Parts

@[expose] public section

noncomputable section

namespace Cert.Proof.Ref

open Cert.ReferenceIdeal Cert.ReferenceIdeal.Facts₀ Cert.ReferenceIdeal.Facts
open Idealize.ShloMosaic

/-! ## The reference's pieces -/

/-- The encoder. -/
def enc (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32) : FVec Ideal S800000x64 .f32 :=
  addf (Host.dotGeneral dot_S800000x64_S64x64_S800000x64_1_0_0_1_n_n none (maximumf (addf (Host.dotGeneral dot_S800000x64_S64x64_S800000x64_1_0_0_1_n_n none (maximumf (addf (Host.dotGeneral dot_S800000x32_S32x64_S800000x64_1_0_0_1_n_n none a0 a1) (broadcastInDim S800000x64 ![0, 1] bcast_S1x64_S800000x64_0_1 (broadcastInDim S1x64 ![1] bcast_S64_S1x64_1 a2))) (broadcastInDim S800000x64 ![] bcast_S_S800000x64 (constant S_ .f32 0x00000000#32))) a3) (broadcastInDim S800000x64 ![0, 1] bcast_S1x64_S800000x64_0_1 (broadcastInDim S1x64 ![1] bcast_S64_S1x64_1 a4))) (broadcastInDim S800000x64 ![] bcast_S_S800000x64 (constant S_ .f32 0x00000000#32))) a5) (broadcastInDim S800000x64 ![0, 1] bcast_S1x64_S800000x64_0_1 (broadcastInDim S1x64 ![1] bcast_S64_S1x64_1 a6))

/-- The ids as a column. -/
def idCol (ids : IVec S800000 32) : IVec S800000x1 32 := broadcastInDim S800000x1 ![0] bcast_S800000_S800000x1_0 ids

/-- The ids as a gather takes them: a negative one counts from the end. -/
def idWrap (ids : IVec S800000 32) : IVec S800000x1 32 :=
  broadcastInDim S800000x1 ![0] bcast_S800000_S800000x1_0 (select (cmpi .slt ids (broadcastInDim S800000 ![] bcast_S_S800000 (constantI S_ 32 0#32))) (addi ids (broadcastInDim S800000 ![] bcast_S_S800000 (constantI S_ 32 50000#32))) ids)

/-- How many elements a segment has, at least one. -/
def cnt (ids : IVec S800000 32) : FVec Ideal S50000x1 .f32 :=
  maximumf (Host.scatterAdd scatter_S50000x1_S800000x1_S800000x1_1_0_0_1 (broadcastInDim S50000x1 ![] bcast_S_S50000x1 (constant S_ .f32 0x00000000#32)) (idCol ids) (broadcastInDim S800000x1 ![] bcast_S_S800000x1 (constant S_ .f32 0x3F800000#32))) (broadcastInDim S50000x1 ![] bcast_S_S50000x1 (constant S_ .f32 0x3F800000#32))

/-- The segments' features. -/
def agg (e : FVec Ideal S800000x64 .f32) (a7 : FVec Ideal S64x64 .f32) (a8 : FVec Ideal S64 .f32) (ids : IVec S800000 32) : FVec Ideal S50000x64 .f32 :=
  addf (Host.dotGeneral dot_S50000x64_S64x64_S50000x64_1_0_0_1_n_n none (Host.divf (Host.scatterAdd scatter_S50000x64_S800000x1_S800000x64_1_0_0_1 (broadcastInDim S50000x64 ![] bcast_S_S50000x64 (constant S_ .f32 0x00000000#32)) (idCol ids) e) (broadcastInDim S50000x64 ![0, 1] bcast_S50000x1_S50000x64_0_1 (cnt ids))) a7) (broadcastInDim S50000x64 ![0, 1] bcast_S1x64_S50000x64_0_1 (broadcastInDim S1x64 ![1] bcast_S64_S1x64_1 a8))

/-- The scores of an array of inputs and an array of segment features. -/
def score (a0 : FVec Ideal S800000x32 .f32) (g : FVec Ideal S800000x64 .f32) (wk : FVec Ideal S96x128 .f32) (q : FVec Ideal S4x32 .f32) : FVec Ideal S800000x4x1 .f32 :=
  shapeCast _ (Host.divf (transpose S800000x4x1x1 [1, 0, 2, 3] (Host.dotGeneral dot_S800000x4x1x32_S4x32x1_S4x800000x1x1_3_1_02_2_1_0 none (shapeCast _ (Host.dotGeneral dot_S800000x96_S96x128_S800000x128_1_0_0_1_n_n none (concatenate S800000x96 1 [⟨S800000x32, a0⟩, ⟨S800000x64, g⟩] concatenates_S800000x32_S800000x64_S800000x96_d1) wk) shapeCasts_S800000x128_S800000x4x1x32) (shapeCast _ (broadcastInDim S1x4x32x1 ![1, 2] bcast_S4x32_S1x4x32x1_1_2 q) shapeCasts_S1x4x32x1_S4x32x1)) transposes_S4x800000x1x1_S800000x4x1x1_1_0_2_3) (broadcastInDim S800000x4x1x1 ![] bcast_S_S800000x4x1x1 (Host.sqrt (constant S_ .f32 0x42000000#32)))) shapeCasts_S800000x4x1x1_S800000x4x1

theorem v48_eq (V : Valuation τ sig (Elt Ideal)) :
    Cert.ReferenceIdeal.Value.res_main_v48 V = score (V (Proc.devRef .tc main_arg0))
      (Host.gather gather_S50000x64_S800000x1_S800000x64_1_0_n_n_0_1_164
        (agg (enc (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)))
          (V (Proc.devRef .tc main_arg7)) (V (Proc.devRef .tc main_arg8)) (V (Proc.devRef .tc main_arg11))) (idWrap (V (Proc.devRef .tc main_arg11))))
      (V (Proc.devRef .tc main_arg9)) (V (Proc.devRef .tc main_arg10)) := rfl

theorem score_apply (a0 : FVec Ideal S800000x32 .f32) (g : FVec Ideal S800000x64 .f32) (wk : FVec Ideal S96x128 .f32) (q : FVec Ideal S4x32 .f32)
    (n : Fin 800000) (h : Fin 4) : score a0 g wk q (ix3 n h (0 : Fin 1))
      = Ideal.div (∑ d : Fin 32, (∑ k : Fin 32, a0 (ix2 n k) * wk (ix2 (rowX k) (colH h d)) + ∑ k : Fin 64, g (ix2 n k) * wk (ix2 (rowG k) (colH h d))) * q (ix2 h d))
        (Ideal.sqrt (Ideal.ofBits .f32 0x42000000#32)) := by
  pointwise [score]
  rfl

/-- The reference's scores of reals. -/
theorem score_real (a0 : FVec Ideal S800000x32 .f32) (g : FVec Ideal S800000x64 .f32) (wk : FVec Ideal S96x128 .f32) (q : FVec Ideal S4x32 .f32)
    (x' : Fin 800000 → Fin 32 → ℝ) (w' : Fin 96 → Fin 128 → ℝ) (q' : Fin 4 → Fin 32 → ℝ) (g' : Fin 64 → ℝ)
    (hw : ∀ i j, wk (ix2 i j) = (w' i j : EReal)) (hq : ∀ h d, q (ix2 h d) = (q' h d : EReal)) (hx : ∀ n k, a0 (ix2 n k) = (x' n k : EReal))
    (n : Fin 800000) (hg : ∀ k, g (ix2 n k) = (g' k : EReal)) (h : Fin 4) :
    score a0 g wk q (ix3 n h (0 : Fin 1)) = ((partA x' w' q' h n + partB g' w' q' h : ℝ) : EReal) := by
  rw [score_apply, sqrt32, Ideal.div_coe sqrt32_ne, ← parts_add]
  simp only [hw, hq, hx, hg, ← EReal.coe_mul, coe_sum, ← EReal.coe_add]

/-! ## The segments' features are reals -/

theorem isR_add {x y : EReal} (hx : IsR x) (hy : IsR y) : IsR (x + y) := by
  obtain ⟨a, rfl⟩ := hx
  obtain ⟨b, rfl⟩ := hy
  exact ⟨a + b, (EReal.coe_add a b).symm⟩

theorem isR_mul {x y : EReal} (hx : IsR x) (hy : IsR y) : IsR (x * y) := by
  obtain ⟨a, rfl⟩ := hx
  obtain ⟨b, rfl⟩ := hy
  exact ⟨a * b, (EReal.coe_mul a b).symm⟩

theorem isR_max {x y : EReal} (hx : IsR x) (hy : IsR y) : IsR (max x y) := by
  rcases max_choice x y with e | e <;> rw [e] <;> assumption

theorem isR_zero : IsR 0 := ⟨0, rfl⟩

theorem isR_sum {ι : Type*} (s : Finset ι) (f : ι → EReal) (h : ∀ i, IsR (f i)) : IsR (∑ i ∈ s, f i) := by
  choose g hg using h
  refine ⟨∑ i ∈ s, g i, ?_⟩
  rw [← coe_sum]
  exact Finset.sum_congr rfl fun i _ => hg i

theorem isR_div {x y : EReal} (hx : IsR x) (hy : IsR y) (h : 0 < y) : IsR (Ideal.div x y) := by
  obtain ⟨b, rfl⟩ := hy
  rw [Ideal.div_coe (EReal.coe_pos.1 h).ne']
  exact isR_mul hx ⟨_, rfl⟩

theorem isR_scatter {s si su : Shape} (d : ScatterDims s si su) {w : ℕ} (v : FVec Ideal s .f32) (idx : IVec si w) (u : FVec Ideal su .f32)
    (hv : ∀ i, IsR (v i)) (hu : ∀ i, IsR (u i)) (i : s.Idx) : IsR (Host.scatterAdd (F := Ideal) d v idx u i) := by
  rw [show Host.scatterAdd (F := Ideal) d v idx u i = Ideal.hostScatterAdd d v idx u i from rfl]
  exact isR_add (hv i) (isR_sum _ _ hu)

theorem isR_one : IsR (Ideal.ofBits .f32 0x3F800000#32) := by rw [Ideal.ofBits_one_f32]; exact ⟨1, rfl⟩

theorem isR_zeroBits : IsR (Ideal.ofBits .f32 0x00000000#32) := by rw [Ideal.ofBits_zero_f32]; exact isR_zero

/-- A constant broadcast is the constant. -/
theorem splat_apply {s : Shape} (b : S_.BroadcastsInDim s (![] : Fin 0 → Fin s.rank)) (c : BitVec 32) (i : s.Idx) :
    broadcastInDim s ![] b (constant (F := Ideal) S_ .f32 c) i = Ideal.ofBits .f32 c := rfl

theorem cnt_at (ids : IVec S800000 32) (i : S50000x1.Idx) : cnt ids i = max (Host.scatterAdd (F := Ideal) scatter_S50000x1_S800000x1_S800000x1_1_0_0_1
    (broadcastInDim S50000x1 ![] bcast_S_S50000x1 (constant S_ .f32 0x00000000#32)) (idCol ids) (broadcastInDim S800000x1 ![] bcast_S_S800000x1 (constant S_ .f32 0x3F800000#32)) i)
    (Ideal.ofBits .f32 0x3F800000#32) := by
  unfold cnt
  rw [maximumf_apply, splat_apply]
  rfl

theorem cnt_real (ids : IVec S800000 32) (i : S50000x1.Idx) : IsR (cnt ids i) := by
  rw [cnt_at]
  refine isR_max (isR_scatter _ _ _ _ (fun j => ?_) (fun j => ?_) i) isR_one
  · rw [splat_apply]; exact isR_zeroBits
  · rw [splat_apply]; exact isR_one

theorem cnt_pos (ids : IVec S800000 32) (i : S50000x1.Idx) : 0 < cnt ids i := by
  rw [cnt_at]
  refine lt_of_lt_of_le ?_ (le_max_right _ (Ideal.ofBits .f32 0x3F800000#32))
  rw [Ideal.ofBits_one_f32]
  exact zero_lt_one

theorem enc_real (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32)
    (h0 : ∀ i, IsR (a0 i)) (h1 : ∀ i, IsR (a1 i)) (h2 : ∀ i, IsR (a2 i)) (h3 : ∀ i, IsR (a3 i)) (h4 : ∀ i, IsR (a4 i)) (h5 : ∀ i, IsR (a5 i))
    (h6 : ∀ i, IsR (a6 i)) (n : Fin 800000) (k : Fin 64) : IsR (enc a0 a1 a2 a3 a4 a5 a6 (ix2 n k)) := by
  have e : enc a0 a1 a2 a3 a4 a5 a6 (ix2 n k)
      = ∑ x : Fin 64, max (∑ y : Fin 64, max (∑ z : Fin 32, a0 (ix2 n z) * a1 (ix2 z y) + a2 (ix1 y)) 0 * a3 (ix2 y x) + a4 (ix1 x)) 0 * a5 (ix2 x k) + a6 (ix1 k) := by
    pointwise [enc]
  rw [e]
  exact isR_add (isR_sum _ _ fun x => isR_mul (isR_max (isR_add (isR_sum _ _ fun y => isR_mul (isR_max (isR_add
    (isR_sum _ _ fun z => isR_mul (h0 _) (h1 _)) (h2 _)) isR_zero) (h3 _)) (h4 _)) isR_zero) (h5 _)) (h6 _)

theorem agg_real (e : FVec Ideal S800000x64 .f32) (a7 : FVec Ideal S64x64 .f32) (a8 : FVec Ideal S64 .f32) (ids : IVec S800000 32)
    (he : ∀ i, IsR (e i)) (h7 : ∀ i, IsR (a7 i)) (h8 : ∀ i, IsR (a8 i)) (n : Fin 50000) (k : Fin 64) : IsR (agg e a7 a8 ids (ix2 n k)) := by
  have e' : agg e a7 a8 ids (ix2 n k) = ∑ x : Fin 64, Ideal.div
            (Host.scatterAdd scatter_S50000x64_S800000x1_S800000x64_1_0_0_1
              (broadcastInDim S50000x64 ![] bcast_S_S50000x64 (constant S_ .f32 0#32)) (idCol ids) e (ix2 n x))
            (cnt ids (ix2 n (0 : Fin 1))) * a7 (ix2 x k) + a8 (ix1 k) := by
    pointwise [agg]
  rw [e']
  refine isR_add (isR_sum _ _ fun x => isR_mul (isR_div (isR_scatter _ _ _ _ (fun j => ?_) he _) (cnt_real ids _) (cnt_pos ids _)) (h7 _)) (h8 _)
  rw [splat_apply]; exact isR_zeroBits

end Cert.Proof.Ref

end
-- ==== Proof.RSoft.lean ====
/-
  The reference's softmax within segments: the maximum over a segment, the exponentials, their sum, and the quotient.
-/
module

public import Idealize.ShloMosaic.Lib.Routing.OpsPair
public import Idealize.ShloMosaic.Lib.Routing.Ops
public import proofs.«01_k».proof.Proof.RScore

@[expose] public section

noncomputable section

namespace Cert.Proof.Ref

open Cert.ReferenceIdeal Cert.ReferenceIdeal.Facts₀ Cert.ReferenceIdeal.Facts
open Idealize.ShloMosaic Idealize.ShloMosaic.Routing

/-! ## A sum scattered into rows -/

/-- Row `n` of the updates lands at row `w` of the operand exactly when its index is `w`. -/
theorem row_lands {R N C w : Nat} (d : ScatterDims (shape2 R C) (shape2 N 1) (shape2 N C)) (huw : d.updateWindowDims = [1])
    (hiw : d.insertedWindowDims = [0]) (hsd : d.scatterDimsToOperandDims = [0]) (hivd : d.indexVectorDim = 1)
    (idx : IVec (shape2 N 1) w) (n : Fin N) (c : Fin C) (r : Fin R) (c' : Fin C) :
    d.resultIdx? (ix2 n c) idx = some (ix2 r c') ↔ (idx (ix2 n (0 : Fin 1))).toInt = (r.val : Int) ∧ c = c' := by
  have hm : (0 : Fin 2) ∈ d.scatterDimsToOperandDims := by rw [hsd]; exact List.mem_singleton.2 rfl
  have hw0 : d.window (ix2 n c) 0 = 0 := by
    unfold ScatterDims.window
    rw [dif_neg fun h => (of_decide_eq_true (List.mem_filter.1 h).2) (by rw [hiw]; exact List.mem_singleton.2 rfl)]
  have hk : d.sKept = [1] := by
    show (shape2 R C).kept d.insertedWindowDims = _
    rw [hiw]; rfl
  have hw1 : d.window (ix2 n c) 1 = c.val := by
    unfold ScatterDims.window
    rw [dif_pos (by rw [hk]; simp)]
    have e : ∀ (q : Fin 2), q = 1 → ((ix2 n c : (shape2 N C).Idx) q).val = c.val := by rintro q rfl; rfl
    refine e _ ?_
    simp [huw]
  have hs1 : d.start (ix2 n c) idx 1 = 0 := by
    unfold ScatterDims.start
    rw [dif_neg (by rw [hsd]; simp)]
  have hs0 : d.start (ix2 n c) idx 0 = (idx (ix2 n (0 : Fin 1))).toInt := by
    unfold ScatterDims.start
    rw [dif_pos hm]
    have hsi : d.siIdx (ix2 n c) ⟨d.scatterDimsToOperandDims.idxOf 0, List.idxOf_lt_length_iff.2 hm⟩ = ix2 n (0 : Fin 1) := by
      funext b
      apply Fin.ext
      match b with
      | ⟨0, _⟩ =>
        unfold ScatterDims.siIdx
        rw [dif_neg (by rw [hivd]; exact Nat.zero_ne_one)]
        unfold ScatterDims.siCoord
        simp only [Fin.val_cast]
        have e : ∀ (q : Fin 2), q = 0 → ((ix2 n c : (shape2 N C).Idx) q).val = n.val := by rintro q rfl; rfl
        refine e _ ?_
        have hu : d.uScatter = [0] := by
          show (shape2 N C).kept d.updateWindowDims = _
          rw [huw]; rfl
        have g : ∀ (l : List (Fin 2)) (i : ℕ) (hi : i < l.length), l = [0] → l[i] = 0 := by
          rintro l i hi rfl
          have : i = 0 := by simpa using hi
          subst this; rfl
        exact g _ _ _ hu
      | ⟨1, _⟩ =>
        unfold ScatterDims.siIdx
        rw [dif_pos (by rw [hivd])]
        show List.idxOf (0 : Fin 2) d.scatterDimsToOperandDims = 0
        rw [hsd]; simp
    rw [hsi]
  refine (resultIdx?_ix2 d (ix2 n c) idx r c').trans ?_
  rw [hs0, hs1, hw0, hw1]
  constructor
  · rintro ⟨h, h'⟩; exact ⟨by omega, Fin.ext (by omega)⟩
  · rintro ⟨h, rfl⟩; exact ⟨by omega, by omega⟩

/-- Updates of one column summed into the rows their ids name, read at a row. -/
theorem scatter_rows (x : FVec Ideal S50000x1 .f32) (idx : IVec S800000x1 32) (u : FVec Ideal S800000x1 .f32) (w : Fin 50000) :
    Host.scatterAdd (F := Ideal) scatter_S50000x1_S800000x1_S800000x1_1_0_0_1 x idx u (ix2 w (0 : Fin 1))
      = x (ix2 w (0 : Fin 1)) + ∑ n : Fin 800000, if (idx (ix2 n (0 : Fin 1))).toInt = (w.val : Int) then u (ix2 n (0 : Fin 1)) else 0 := by
  refine (congrFun (Ideal.hostScatterAdd_def scatter_S50000x1_S800000x1_S800000x1_1_0_0_1 _ x idx u) _).trans ?_
  unfold Ideal.hostScatterAdd
  refine congrArg (_ + ·) ?_
  rw [Finset.sum_filter]
  rw [← (Equiv.sum_comp (e := (⟨fun n => ix2 n (0 : Fin 1), fun j => j 0, fun n => rfl, fun j => by
    funext a
    match a with
    | ⟨0, _⟩ => rfl
    | ⟨1, _⟩ => exact Subsingleton.elim (α := Fin 1) _ _⟩ : Fin 800000 ≃ S800000x1.Idx)))]
  refine Finset.sum_congr rfl fun n _ => ?_
  have h := row_lands scatter_S50000x1_S800000x1_S800000x1_1_0_0_1 rfl rfl rfl rfl idx n (0 : Fin 1) w (0 : Fin 1)
  refine if_congr ?_ rfl rfl
  exact h.trans (and_iff_left rfl)

/-! ## The pieces of the softmax -/

/-- A segment's largest score. -/
def mx (s : FVec Ideal S800000x1 .f32) (ids : IVec S800000 32) : FVec Ideal S50000x1 .f32 :=
  broadcastInDim S50000x1 ![0] bcast_S50000_S50000x1_0 (Host.reduce FloatOps.maximumf
    (select (cmpi .eq (broadcastInDim S50000x800000 ![0, 1] bcast_S1x800000_S50000x800000_0_1 (broadcastInDim S1x800000 ![1] bcast_S800000_S1x800000_1 ids))
        (broadcastInDim S50000x800000 ![0, 1] bcast_S50000x1_S50000x800000_0_1 (broadcastInDim S50000x1 ![0] bcast_S50000_S50000x1_0 (iotaInDim S50000 32 0))))
      (broadcastInDim S50000x800000 ![0, 1] bcast_S1x800000_S50000x800000_0_1 (transpose S1x800000 [1, 0] s transposes_S800000x1_S1x800000_1_0))
      (broadcastInDim S50000x800000 ![] bcast_S_S50000x800000 (id (constant S_ .f32 0xFF800000#32))))
    (constant S_ .f32 0xFF800000#32) reducesTo_S50000x800000_S50000_d1 h_S_)

/-- The exponentials, each less its segment's largest. -/
def ex (s : FVec Ideal S800000x1 .f32) (ids : IVec S800000 32) : FVec Ideal S800000x1 .f32 :=
  Host.exp (subf s (Host.gather gather_S50000x1_S800000x1_S800000x1_1_0_n_n_0_1_11 (mx s ids) (idWrap ids)))

/-- The softmax. -/
def soft (s : FVec Ideal S800000x1 .f32) (ids : IVec S800000 32) : FVec Ideal S800000x1 .f32 :=
  Host.divf (ex s ids) (Host.gather gather_S50000x1_S800000x1_S800000x1_1_0_n_n_0_1_11
    (Host.scatterAdd scatter_S50000x1_S800000x1_S800000x1_1_0_0_1 (broadcastInDim S50000x1 ![] bcast_S_S50000x1 (constant S_ .f32 0x00000000#32)) (idCol ids) (ex s ids)) (idWrap ids))

theorem v69_eq (V : Valuation τ sig (Elt Ideal)) :
    Cert.ReferenceIdeal.Value.res_main_v69 V = ex (Cert.ReferenceIdeal.Value.res_main_v56 V) (V (Proc.devRef .tc main_arg11)) := rfl

theorem v95_eq (V : Valuation τ sig (Elt Ideal)) :
    Cert.ReferenceIdeal.Value.res_main_v95 V = ex (Cert.ReferenceIdeal.Value.res_main_v82 V) (V (Proc.devRef .tc main_arg11)) := rfl

theorem v121_eq (V : Valuation τ sig (Elt Ideal)) :
    Cert.ReferenceIdeal.Value.res_main_v121 V = ex (Cert.ReferenceIdeal.Value.res_main_v108 V) (V (Proc.devRef .tc main_arg11)) := rfl

theorem v147_eq (V : Valuation τ sig (Elt Ideal)) :
    Cert.ReferenceIdeal.Value.res_main_v147 V = ex (Cert.ReferenceIdeal.Value.res_main_v134 V) (V (Proc.devRef .tc main_arg11)) := rfl

theorem idCol_apply (ids : IVec S800000 32) (n : Fin 800000) : idCol ids (ix2 n (0 : Fin 1)) = ids (ix1 n) := by
  pointwise [idCol]

theorem idWrap_apply (ids : IVec S800000 32) (n : Fin 800000) (h : (ids (ix1 n)).toNat < 50000) : idWrap ids (ix2 n (0 : Fin 1)) = ids (ix1 n) := by
  have e : idWrap ids (ix2 n (0 : Fin 1)) = Scalar.select (IntOp.cmpi .slt (ids (ix1 n)) 0#32) (IntOp.addi (ids (ix1 n)) 50000#32) (ids (ix1 n)) := by
    pointwise [idWrap]
  rw [e]
  exact wrap_of_lt _ _ (Nat.lt_trans h (by norm_num))

/-- The row an id names. -/
def rowOf (w : BitVec 32) : Fin 50000 := ⟨w.toNat % 50000, Nat.mod_lt _ (by norm_num)⟩

theorem rowOf_val {w : BitVec 32} (h : w.toNat < 50000) : (rowOf w).val = w.toNat := Nat.mod_eq_of_lt h

theorem ofNat_rowOf {w : BitVec 32} (h : w.toNat < 50000) : BitVec.ofNat 32 (rowOf w).val = w := by
  rw [rowOf_val h, BitVec.ofNat_toNat, BitVec.setWidth_eq]

/-- A column read at the rows the ids name. -/
theorem gather1 (x : FVec Ideal S50000x1 .f32) (ids : IVec S800000 32) (n : Fin 800000) (h : (ids (ix1 n)).toNat < 50000) :
    Host.gather gather_S50000x1_S800000x1_S800000x1_1_0_n_n_0_1_11 x (idWrap ids) (ix2 n (0 : Fin 1)) = x (ix2 (rowOf (ids (ix1 n))) (0 : Fin 1)) :=
  gather_row gather_S50000x1_S800000x1_S800000x1_1_0_n_n_0_1_11 rfl rfl rfl rfl rfl x (idWrap ids) n (0 : Fin 1) (rowOf (ids (ix1 n)))
    ((idWrap_apply ids n h).trans (ofNat_rowOf h).symm) (by norm_num)

/-- Segment features read at the rows the ids name. -/
theorem gather64 (x : FVec Ideal S50000x64 .f32) (ids : IVec S800000 32) (n : Fin 800000) (k : Fin 64) (h : (ids (ix1 n)).toNat < 50000) :
    Host.gather gather_S50000x64_S800000x1_S800000x64_1_0_n_n_0_1_164 x (idWrap ids) (ix2 n k) = x (ix2 (rowOf (ids (ix1 n))) k) :=
  gather_row gather_S50000x64_S800000x1_S800000x64_1_0_n_n_0_1_164 rfl rfl rfl rfl rfl x (idWrap ids) n k (rowOf (ids (ix1 n)))
    ((idWrap_apply ids n h).trans (ofNat_rowOf h).symm) (by norm_num)

theorem select_eq (a b : BitVec 32) (x y : EReal) : Scalar.select (IntOp.cmpi .eq a b) x y = if a = b then x else y := by
  by_cases h : a = b
  · rw [if_pos h, StableHlo.Predicate.cmpi_eq_iff.2 h]; rfl
  · rw [if_neg h]
    have e : IntOp.cmpi .eq a b ≠ 1#1 := fun e => h (StableHlo.Predicate.cmpi_eq_iff.1 e)
    exact if_neg e

theorem mx_apply (s : FVec Ideal S800000x1 .f32) (ids : IVec S800000 32) (w : Fin 50000) :
    mx s ids (ix2 w (0 : Fin 1)) = Finset.fold max ⊥ (fun n : Fin 800000 => if ids (ix1 n) = BitVec.ofNat 32 w.val then s (ix2 n (0 : Fin 1)) else ⊥) Finset.univ := by
  have e : mx s ids (ix2 w (0 : Fin 1)) = Finset.fold max (Ideal.ofBits .f32 0xFF800000#32)
      (fun n : Fin 800000 => Scalar.select (IntOp.cmpi .eq (ids (ix1 n)) (BitVec.ofNat 32 w.val)) (s (ix2 n (0 : Fin 1)))
        (Ideal.ofBits .f32 0xFF800000#32)) Finset.univ := by
    pointwise [mx]
    rfl
  rw [e, ninf_f32]
  simp only [select_eq]

/-- The largest score of a segment that has an element is a real. -/
theorem mx_real (s : FVec Ideal S800000x1 .f32) (ids : IVec S800000 32) (hs : ∀ n : Fin 800000, IsR (s (ix2 n (0 : Fin 1)))) (n : Fin 800000)
    (h : (ids (ix1 n)).toNat < 50000) : IsR (mx s ids (ix2 (rowOf (ids (ix1 n))) (0 : Fin 1))) := by
  rw [mx_apply, ofNat_rowOf h]
  have h1 : Finset.fold max ⊥ (fun k : Fin 800000 => if ids (ix1 k) = ids (ix1 n) then s (ix2 k (0 : Fin 1)) else ⊥) Finset.univ < ⊤ := by
    rw [Finset.fold_max_lt]
    refine ⟨bot_lt_top, fun k _ => ?_⟩
    split
    · obtain ⟨r, e⟩ := hs k
      rw [e]; exact EReal.coe_lt_top r
    · exact bot_lt_top
  have h2 : ⊥ < Finset.fold max ⊥ (fun k : Fin 800000 => if ids (ix1 k) = ids (ix1 n) then s (ix2 k (0 : Fin 1)) else ⊥) Finset.univ := by
    obtain ⟨r, e⟩ := hs n
    rw [Finset.lt_fold_max]
    refine Or.inr ⟨n, Finset.mem_univ n, ?_⟩
    rw [if_pos rfl, e]; exact EReal.bot_lt_coe r
  exact ⟨_, (EReal.coe_toReal h1.ne h2.ne').symm⟩

theorem toInt_eq_row {a w : BitVec 32} (ha : a.toNat < 50000) (hw : w.toNat < 50000) : a.toInt = ((rowOf w).val : Int) ↔ a = w := by
  rw [rowOf_val hw, BitVec.toInt_eq_toNat_cond, if_pos (by omega)]
  constructor
  · intro h; exact BitVec.eq_of_toNat_eq (by exact_mod_cast h)
  · rintro rfl; rfl

/-- The softmax of scores that are a real of the element plus a real of its segment. -/
theorem soft_value (s : FVec Ideal S800000x1 .f32) (ids : IVec S800000 32) (hlt : ∀ n : Fin 800000, (ids (ix1 n)).toNat < 50000)
    (A : ℕ → ℝ) (B : BitVec 32 → ℝ) (hs : ∀ n : Fin 800000, s (ix2 n (0 : Fin 1)) = ((A n.val + B (ids (ix1 n)) : ℝ) : EReal)) (n : Fin 800000) :
    soft s ids (ix2 n (0 : Fin 1)) = ((Real.exp (A n.val) / segSum (rd ids) A (ids (ix1 n)) : ℝ) : EReal) := by
  have hm : ∀ n : Fin 800000, IsR (mx s ids (ix2 (rowOf (ids (ix1 n))) (0 : Fin 1))) := fun n => mx_real s ids (fun k => ⟨_, hs k⟩) n (hlt n)
  obtain ⟨M, hM⟩ : ∃ M : BitVec 32 → ℝ, ∀ n : Fin 800000, mx s ids (ix2 (rowOf (ids (ix1 n))) (0 : Fin 1)) = (M (ids (ix1 n)) : EReal) :=
    ⟨fun w => (mx s ids (ix2 (rowOf w) (0 : Fin 1))).toReal, fun n => by
      obtain ⟨r, e⟩ := hm n
      simp only [e, EReal.toReal_coe]⟩
  have he : ∀ k : Fin 800000, ex s ids (ix2 k (0 : Fin 1)) = ((Real.exp (A k.val) * Real.exp (B (ids (ix1 k)) - M (ids (ix1 k))) : ℝ) : EReal) := by
    intro k
    show Ideal.exp (s (ix2 k (0 : Fin 1)) - Host.gather gather_S50000x1_S800000x1_S800000x1_1_0_n_n_0_1_11 (mx s ids) (idWrap ids) (ix2 k (0 : Fin 1))) = _
    rw [gather1 _ _ _ (hlt k), hM k, hs k, ← EReal.coe_sub, Ideal.exp_coe, ← Real.exp_add, add_sub_assoc]
  have hz : Host.scatterAdd (F := Ideal) scatter_S50000x1_S800000x1_S800000x1_1_0_0_1 (broadcastInDim S50000x1 ![] bcast_S_S50000x1 (constant S_ .f32 0x00000000#32))
      (idCol ids) (ex s ids) (ix2 (rowOf (ids (ix1 n))) (0 : Fin 1))
        = ((segSum (rd ids) A (ids (ix1 n)) * Real.exp (B (ids (ix1 n)) - M (ids (ix1 n))) : ℝ) : EReal) := by
    rw [scatter_rows]
    have z : (broadcastInDim S50000x1 ![] bcast_S_S50000x1 (constant (F := Ideal) S_ .f32 0x00000000#32)) (ix2 (rowOf (ids (ix1 n))) (0 : Fin 1)) = (0 : EReal) :=
      Ideal.ofBits_zero_f32
    rw [z, zero_add]
    have e : ∀ k : Fin 800000, (if (idCol ids (ix2 k (0 : Fin 1))).toInt = ((rowOf (ids (ix1 n))).val : Int) then ex s ids (ix2 k (0 : Fin 1)) else 0)
        = ((if rd ids k.val = ids (ix1 n) then Real.exp (A k.val) * Real.exp (B (ids (ix1 n)) - M (ids (ix1 n))) else 0 : ℝ) : EReal) := by
      intro k
      have r : rd ids k.val = ids (ix1 k) := rd_val ids (ix1 k)
      rw [idCol_apply, r]
      by_cases hk : ids (ix1 k) = ids (ix1 n)
      · rw [if_pos ((toInt_eq_row (hlt k) (hlt n)).2 hk), if_pos hk, he k, hk]
      · rw [if_neg (fun h => hk ((toInt_eq_row (hlt k) (hlt n)).1 h)), if_neg hk]; rfl
    rw [Finset.sum_congr rfl fun k _ => e k]
    rw [Fin.sum_univ_eq_sum_range (fun k => ((if rd ids k = ids (ix1 n) then Real.exp (A k) * Real.exp (B (ids (ix1 n)) - M (ids (ix1 n))) else 0 : ℝ) : EReal)) 800000,
      coe_sum_range]
    unfold segSum
    rw [Finset.sum_mul]
    simp only [ite_mul, zero_mul]
  unfold soft
  rw [Host.divf_apply, gather1 _ _ _ (hlt n), hz, he n, Ideal.hostDivf_def]
  have hp : 0 < segSum (rd ids) A (ids (ix1 n)) := by
    have := segSum_pos (rd ids) A n.isLt
    rwa [show rd ids n.val = ids (ix1 n) from rd_val ids (ix1 n)] at this
  have hc := Real.exp_pos (B (ids (ix1 n)) - M (ids (ix1 n)))
  rw [Ideal.div_coe (mul_pos hp hc).ne', ← EReal.coe_mul, mul_one_div, mul_div_mul_right _ _ hc.ne']

end Cert.Proof.Ref

end
-- ==== Proof.Final.lean ====
/-
  The kernel and the reference compute the same four columns.
-/
module

public import proofs.«01_k».proof.Proof.KScore
public import proofs.«01_k».proof.Proof.RSoft

@[expose] public section

noncomputable section

namespace Cert.Proof.Ref

open Cert.ReferenceIdeal Cert.ReferenceIdeal.Facts₀ Cert.ReferenceIdeal.Facts
open Idealize.ShloMosaic

theorem col0 (s : FVec Ideal S800000x4x1 .f32) (n : Fin 800000) :
    shapeCast S800000x1 (extractStridedSlice S800000x1x1 ![0, 0, 0] s slices_S800000x4x1_S800000x1x1_0_0_0) shapeCasts_S800000x1x1_S800000x1 (ix2 n (0 : Fin 1))
      = s (ix3 n (0 : Fin 4) (0 : Fin 1)) := by
  pointwise

theorem col1 (s : FVec Ideal S800000x4x1 .f32) (n : Fin 800000) :
    shapeCast S800000x1 (extractStridedSlice S800000x1x1 ![0, 1, 0] s slices_S800000x4x1_S800000x1x1_0_1_0) shapeCasts_S800000x1x1_S800000x1 (ix2 n (0 : Fin 1))
      = s (ix3 n (1 : Fin 4) (0 : Fin 1)) := by
  pointwise

theorem col2 (s : FVec Ideal S800000x4x1 .f32) (n : Fin 800000) :
    shapeCast S800000x1 (extractStridedSlice S800000x1x1 ![0, 2, 0] s slices_S800000x4x1_S800000x1x1_0_2_0) shapeCasts_S800000x1x1_S800000x1 (ix2 n (0 : Fin 1))
      = s (ix3 n (2 : Fin 4) (0 : Fin 1)) := by
  pointwise

theorem col3 (s : FVec Ideal S800000x4x1 .f32) (n : Fin 800000) :
    shapeCast S800000x1 (extractStridedSlice S800000x1x1 ![0, 3, 0] s slices_S800000x4x1_S800000x1x1_0_3_0) shapeCasts_S800000x1x1_S800000x1 (ix2 n (0 : Fin 1))
      = s (ix3 n (3 : Fin 4) (0 : Fin 1)) := by
  pointwise

theorem column_apply (r : S800000.Idx → EReal) (hc : S800000.ShapeCasts S800000x1) (n : Fin 800000) :
    shapeCast S800000x1 r hc (ix2 n (0 : Fin 1)) = r (ix1 n) := by
  pointwise

/-- The reference's scores, from the arguments. -/
def scoreOf (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32) (a7 : FVec Ideal S64x64 .f32) (a8 : FVec Ideal S64 .f32)
    (a9 : FVec Ideal S96x128 .f32) (a10 : FVec Ideal S4x32 .f32) (ids : IVec S800000 32) : FVec Ideal S800000x4x1 .f32 :=
  score a0 (Host.gather gather_S50000x64_S800000x1_S800000x64_1_0_n_n_0_1_164 (agg (enc a0 a1 a2 a3 a4 a5 a6) a7 a8 ids) (idWrap ids)) a9 a10

/-- The kernel's column for a head is the reference's softmax of that head's scores. -/
theorem head_agrees (h : Fin 4) (pay : Vec Ideal Cert.KernelIdeal.S4x32 .f32 → Vec Ideal Cert.KernelIdeal.S32x65536 .f32 → Vec Ideal Cert.KernelIdeal.S65536 .f32)
    (hp : IsHead h pay) (a0 : FVec Ideal S800000x32 .f32) (a1 : FVec Ideal S32x64 .f32) (a2 : FVec Ideal S64 .f32) (a3 : FVec Ideal S64x64 .f32)
    (a4 : FVec Ideal S64 .f32) (a5 : FVec Ideal S64x64 .f32) (a6 : FVec Ideal S64 .f32) (a7 : FVec Ideal S64x64 .f32) (a8 : FVec Ideal S64 .f32)
    (a9 : FVec Ideal S96x128 .f32) (a10 : FVec Ideal S4x32 .f32) (ids : IVec S800000 32) (G : Given a0 a1 a2 a3 a4 a5 a6 a7 a8 a9 a10 ids)
    (u : Vec Ideal Cert.KernelIdeal.S4x32 .f32) (xT : Vec Ideal Cert.KernelIdeal.S32x800000 .f32) (hu : u = foldU a9 a10)
    (hx : ∀ (k : Fin 32) (n : Fin 800000), xT (ix2 k n) = a0 (ix2 n k)) (r : S800000.Idx → EReal) (hr : Result pay u xT ids r)
    (s : FVec Ideal S800000x1 .f32) (hs : ∀ n : Fin 800000, s (ix2 n (0 : Fin 1)) = scoreOf a0 a1 a2 a3 a4 a5 a6 a7 a8 a9 a10 ids (ix3 n h (0 : Fin 1)))
    (hc : S800000.ShapeCasts S800000x1) : shapeCast S800000x1 r hc = soft s ids := by
  choose x' hx' using fun (n : Fin 800000) (k : Fin 32) => G.r0 (ix2 n k)
  choose w' hw' using fun (i : Fin 96) (j : Fin 128) => G.r9 (ix2 i j)
  choose q' hq' using fun (i : Fin 4) (j : Fin 32) => G.r10 (ix2 i j)
  have hid : ∀ n : Fin 800000, rd ids n.val = ids (ix1 n) := fun n => rd_val ids (ix1 n)
  have hlt : ∀ n : Fin 800000, (ids (ix1 n)).toNat < 50000 := fun n => hid n ▸ G.ok.lt n.val n.isLt
  have hN : ∀ n : Fin 800000, ixN n.val 0 = n := fun n => congrFun (ixN_val (ix1 n)) 0
  have henc : ∀ i, IsR (enc a0 a1 a2 a3 a4 a5 a6 i) := fun i => by
    rw [eq_ix2 i]
    exact enc_real _ _ _ _ _ _ _ G.r0 G.r1 G.r2 G.r3 G.r4 G.r5 G.r6 _ _
  have hagg : ∀ (w : Fin 50000) (k : Fin 64), IsR (agg (enc a0 a1 a2 a3 a4 a5 a6) a7 a8 ids (ix2 w k)) :=
    fun w k => agg_real _ _ _ _ henc G.r7 G.r8 w k
  choose g' hg' using hagg
  funext j
  obtain ⟨n, rfl⟩ : ∃ n : Fin 800000, j = ix2 n (0 : Fin 1) := ⟨j 0, by
    funext a
    match a with
    | ⟨0, _⟩ => rfl
    | ⟨1, _⟩ => exact Subsingleton.elim (α := Fin 1) _ _⟩
  rw [column_apply]
  refine (result_real h pay hp u xT ids r hr G.ok x' w' q' (fun k => hu ▸ foldU_real a9 a10 w' q' hw' hq' h k) (fun k n => (hx k n).trans (hx' n k)) (ix1 n)).trans ?_
  refine Eq.trans ?_ (soft_value s ids hlt (fun k => partA x' w' q' h (ixN k 0)) (fun w => partB (g' (rowOf w)) w' q' h) (fun n => ?_) n).symm
  · simp only [hN]; rfl
  · rw [hs n, hN]
    exact score_real a0 _ a9 a10 x' w' q' (g' (rowOf (ids (ix1 n)))) hw' hq' hx' n (fun k => (gather64 _ ids n k (hlt n)).trans (hg' _ _)) h

end Cert.Proof.Ref

end
-- ==== Proof.Algebra.lean ====
/-
  The kernel and the reference, run from the same arguments, end with the same four columns.
-/
module

public import proofs.«01_k».proof.Proof.Frames
public import proofs.«01_k».proof.Proof.Final

@[expose] public section

noncomputable section

namespace Cert.Proof

open Idealize.ShloMosaic Idealize.SL.Sem

theorem frame_ideal_pre : Cert.quiescent_KernelIdeal_pre_windows (hKernelIdeal := Cert.KernelIdeal.Gen.facts) (hPre_windows := Cert.Pre_windows.Gen.facts) :=
  fun m ρ _ => frame_ideal m ρ trivial

theorem frame_reference_pre : Cert.quiescent_ReferenceIdeal_pre_windows (hReferenceIdeal := Cert.ReferenceIdeal.Gen.facts) (hPre_windows := Cert.Pre_windows.Gen.facts) :=
  fun m ρ _ => frame_reference m ρ trivial

section
variable (m : (ℓ : Loc Cert.KernelIdeal.nD Cert.KernelIdeal.τ Cert.KernelIdeal.sig) → Buf (Elt Ideal) ℓ) (c : Dev Cert.KernelIdeal.nD)

/-- The scores that the reference makes of the kernel's arguments. -/
def scoresAt : FVec Ideal Cert.ReferenceIdeal.S800000x4x1 .f32 :=
  Ref.scoreOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- A head's column, given the column's slice of the scores. -/
def column (s : FVec Ideal Cert.ReferenceIdeal.S800000x1 .f32) : FVec Ideal Cert.ReferenceIdeal.S800000x1 .f32 :=
  Ref.soft s (m ((c.tc : Thread Cert.KernelIdeal.nD Cert.KernelIdeal.τ).loc Cert.KernelIdeal.main_arg11))

section
open Cert.ReferenceIdeal Cert.ReferenceIdeal.Facts₀ Cert.ReferenceIdeal.Facts

def s0 : FVec Ideal S800000x1 .f32 := shapeCast S800000x1 (extractStridedSlice S800000x1x1 ![0, 0, 0] (scoresAt m c) slices_S800000x4x1_S800000x1x1_0_0_0) shapeCasts_S800000x1x1_S800000x1
def s1 : FVec Ideal S800000x1 .f32 := shapeCast S800000x1 (extractStridedSlice S800000x1x1 ![0, 1, 0] (scoresAt m c) slices_S800000x4x1_S800000x1x1_0_1_0) shapeCasts_S800000x1x1_S800000x1
def s2 : FVec Ideal S800000x1 .f32 := shapeCast S800000x1 (extractStridedSlice S800000x1x1 ![0, 2, 0] (scoresAt m c) slices_S800000x4x1_S800000x1x1_0_2_0) shapeCasts_S800000x1x1_S800000x1
def s3 : FVec Ideal S800000x1 .f32 := shapeCast S800000x1 (extractStridedSlice S800000x1x1 ![0, 3, 0] (scoresAt m c) slices_S800000x4x1_S800000x1x1_0_3_0) shapeCasts_S800000x1x1_S800000x1

end

/-- A head of the kernel, run from arguments the precondition admits. -/
theorem kernel_column (hpre : Cert.Pre_KernelIdeal_windows (hPre_windows := Cert.Pre_windows.Gen.facts) m) (h : Fin 4)
    (pay : Vec Ideal Cert.KernelIdeal.S4x32 .f32 → Vec Ideal Cert.KernelIdeal.S32x65536 .f32 → Vec Ideal Cert.KernelIdeal.S65536 .f32)
    (hp : IsHead h pay) (r : Cert.KernelIdeal.S800000.Idx → EReal) (hr : Result pay (uq m c) (xq m c) (idq m c) r)
    (s : FVec Ideal Cert.ReferenceIdeal.S800000x1 .f32) (hs : ∀ n : Fin 800000, s (ix2 n (0 : Fin 1)) = scoresAt m c (ix3 n h (0 : Fin 1)))
    (hc : Cert.KernelIdeal.S800000.ShapeCasts Cert.KernelIdeal.S800000x1) : shapeCast Cert.KernelIdeal.S800000x1 r hc = column m c s :=
  Ref.head_agrees h pay hp _ _ _ _ _ _ _ _ _ _ _ _ (given _ _ _ _ _ _ _ _ _ _ _ _ _ (hpre c)) _ _ (uq_eq m c) (xq_apply m c) r hr s hs hc

end

/-- The two programs at the ideal instance. -/
theorem algebraic : Cert.algebraic_KernelIdeal_ReferenceIdeal_pre_windows (hKernelIdeal := Cert.KernelIdeal.Gen.facts)
    (hReferenceIdeal := Cert.ReferenceIdeal.Gen.facts) (hPre_windows := Cert.Pre_windows.Gen.facts) := by
  intro m g m' g' hpre hargs
  refine ⟨fun c => column m c (s0 m c), fun c => column m c (s1 m c), fun c => column m c (s2 m c), fun c => column m c (s3 m c), ?_, ?_⟩
  · refine (θ_run Cert.KernelIdeal.defs _ _).mono (fun _ h c => ?_) (run_main (F := Ideal) m g)
    have hl := h.1 c
    obtain ⟨⟨r0, r1, r2, r3, ⟨q0, q1, q2, q3⟩, e0, e1, e2, e3⟩, -⟩ := hl
    refine ⟨e0.trans ?_, e1.trans ?_, e2.trans ?_, e3.trans ?_, (h.1 c).args _ (by decide), (h.1 c).args _ (by decide), (h.1 c).args _ (by decide),
      (h.1 c).args _ (by decide), (h.1 c).args _ (by decide), (h.1 c).args _ (by decide), (h.1 c).args _ (by decide), (h.1 c).args _ (by decide),
      (h.1 c).args _ (by decide), (h.1 c).args _ (by decide), (h.1 c).args _ (by decide), (h.1 c).args _ (by decide), (h.1 c).args _ (by decide)⟩
    · exact kernel_column m c hpre 0 _ pay2_apply r0 q0 _ (Ref.col0 _) _
    · exact kernel_column m c hpre 1 _ pay3_apply r1 q1 _ (Ref.col1 _) _
    · exact kernel_column m c hpre 2 _ pay4_apply r2 q2 _ (Ref.col2 _) _
    · exact kernel_column m c hpre 3 _ pay5_apply r3 q3 _ (Ref.col3 _) _
  · refine (θ_run Cert.ReferenceIdeal.defs _ _).mono (fun r h c => ?_) (Cert.ReferenceIdeal.Value.run (F := Ideal) m' g')
    obtain ⟨b0, b1, b2, b3, b4, b5, b6, b7, b8, b9, b10, b11, -⟩ := hargs c
    have hs : Cert.ReferenceIdeal.Value.res_main_v48 (StableHlo.launchContents m' c) = scoresAt m c := by
      rw [Ref.v48_eq]
      unfold scoresAt Ref.scoreOf
      rw [← b0, ← b1, ← b2, ← b3, ← b4, ← b5, ← b6, ← b7, ← b8, ← b9, ← b10, ← b11]
    have hi : StableHlo.launchContents m' c (Proc.devRef .tc Cert.ReferenceIdeal.main_arg11)
        = m ((c.tc : Thread Cert.KernelIdeal.nD Cert.KernelIdeal.τ).loc Cert.KernelIdeal.main_arg11) := b11
    have h0 : Cert.ReferenceIdeal.Value.res_main_v56 (StableHlo.launchContents m' c) = s0 m c := by
      unfold Cert.ReferenceIdeal.Value.res_main_v56 s0
      rw [hs]; rfl
    have h1 : Cert.ReferenceIdeal.Value.res_main_v82 (StableHlo.launchContents m' c) = s1 m c := by
      unfold Cert.ReferenceIdeal.Value.res_main_v82 s1
      rw [hs]; rfl
    have h2 : Cert.ReferenceIdeal.Value.res_main_v108 (StableHlo.launchContents m' c) = s2 m c := by
      unfold Cert.ReferenceIdeal.Value.res_main_v108 s2
      rw [hs]; rfl
    have h3 : Cert.ReferenceIdeal.Value.res_main_v134 (StableHlo.launchContents m' c) = s3 m c := by
      unfold Cert.ReferenceIdeal.Value.res_main_v134 s3
      rw [hs]; rfl
    refine ⟨(h c).1.trans ?_, (h c).2.1.trans ?_, (h c).2.2.1.trans ?_, (h c).2.2.2.1.trans ?_, (h c).2.2.2.2⟩
    · rw [Ref.v69_eq]
      exact (congr (congrArg Ref.soft h0) hi : Ref.soft _ _ = Ref.soft _ _)
    · rw [Ref.v95_eq]
      exact (congr (congrArg Ref.soft h1) hi : Ref.soft _ _ = Ref.soft _ _)
    · rw [Ref.v121_eq]
      exact (congr (congrArg Ref.soft h2) hi : Ref.soft _ _ = Ref.soft _ _)
    · rw [Ref.v147_eq]
      exact (congr (congrArg Ref.soft h3) hi : Ref.soft _ _ = Ref.soft _ _)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_windows
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Pre_windows.Gen.facts, frame_kernel, frame_ideal, frame_ideal_pre, frame_reference, frame_reference_pre, trivial, algebraic⟩

end Cert.Proof

end
